-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_ReferenceGatedIdeal (m : (ℓ : Loc Cert.ReferenceGatedIdeal.nD Cert.ReferenceGatedIdeal.τ Cert.ReferenceGatedIdeal.sig) → Buf (Elt Ideal) ℓ) : Prop :=
  True

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_ReferenceRetInIdeal (m : (ℓ : Loc Cert.ReferenceRetInIdeal.nD Cert.ReferenceRetInIdeal.τ Cert.ReferenceRetInIdeal.sig) → Buf (Elt Ideal) ℓ) : Prop :=
  True

def Pre_MlaIn (m : (ℓ : Loc Cert.MlaIn.nD Cert.MlaIn.τ Cert.MlaIn.sig) → Buf (Elt Bits) ℓ) : Prop :=
  True

def Pre_MlaInIdeal (m : (ℓ : Loc Cert.MlaInIdeal.nD Cert.MlaInIdeal.τ Cert.MlaInIdeal.sig) → Buf (Elt Ideal) ℓ) : Prop :=
  True

def Pre_ReferenceMlaInIdeal (m : (ℓ : Loc Cert.ReferenceMlaInIdeal.nD Cert.ReferenceMlaInIdeal.τ Cert.ReferenceMlaInIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ReferenceModulationIdeal (m : (ℓ : Loc Cert.ReferenceModulationIdeal.nD Cert.ReferenceModulationIdeal.τ Cert.ReferenceModulationIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3)
      ∧ r.2.mem ((c.tc : Thread Cert.ReferencePreIdeal.nD Cert.ReferencePreIdeal.τ).loc Cert.ReferencePreIdeal.main_arg4) = m ((c.tc : Thread Cert.ReferencePreIdeal.nD Cert.ReferencePreIdeal.τ).loc Cert.ReferencePreIdeal.main_arg4)
      ∧ r.2.mem ((c.tc : Thread Cert.ReferencePreIdeal.nD Cert.ReferencePreIdeal.τ).loc Cert.ReferencePreIdeal.main_arg5) = m ((c.tc : Thread Cert.ReferencePreIdeal.nD Cert.ReferencePreIdeal.τ).loc Cert.ReferencePreIdeal.main_arg5)
      ∧ r.2.mem ((c.tc : Thread Cert.ReferencePreIdeal.nD Cert.ReferencePreIdeal.τ).loc Cert.ReferencePreIdeal.main_arg6) = m ((c.tc : Thread Cert.ReferencePreIdeal.nD Cert.ReferencePreIdeal.τ).loc Cert.ReferencePreIdeal.main_arg6))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6)
      ∧ r.2.mem ((c.tc : Thread Cert.Final.nD Cert.Final.τ).loc Cert.Final.main_arg7) = m ((c.tc : Thread Cert.Final.nD Cert.Final.τ).loc Cert.Final.main_arg7))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2)
      ∧ r.2.mem ((c.tc : Thread Cert.ReferenceFinalIdeal.nD Cert.ReferenceFinalIdeal.τ).loc Cert.ReferenceFinalIdeal.main_arg3) = m ((c.tc : Thread Cert.ReferenceFinalIdeal.nD Cert.ReferenceFinalIdeal.τ).loc Cert.ReferenceFinalIdeal.main_arg3)
      ∧ r.2.mem ((c.tc : Thread Cert.ReferenceFinalIdeal.nD Cert.ReferenceFinalIdeal.τ).loc Cert.ReferenceFinalIdeal.main_arg4) = m ((c.tc : Thread Cert.ReferenceFinalIdeal.nD Cert.ReferenceFinalIdeal.τ).loc Cert.ReferenceFinalIdeal.main_arg4)
      ∧ r.2.mem ((c.tc : Thread Cert.ReferenceFinalIdeal.nD Cert.ReferenceFinalIdeal.τ).loc Cert.ReferenceFinalIdeal.main_arg5) = m ((c.tc : Thread Cert.ReferenceFinalIdeal.nD Cert.ReferenceFinalIdeal.τ).loc Cert.ReferenceFinalIdeal.main_arg5)
      ∧ r.2.mem ((c.tc : Thread Cert.ReferenceFinalIdeal.nD Cert.ReferenceFinalIdeal.τ).loc Cert.ReferenceFinalIdeal.main_arg6) = m ((c.tc : Thread Cert.ReferenceFinalIdeal.nD Cert.ReferenceFinalIdeal.τ).loc Cert.ReferenceFinalIdeal.main_arg6)
      ∧ r.2.mem ((c.tc : Thread Cert.ReferenceFinalIdeal.nD Cert.ReferenceFinalIdeal.τ).loc Cert.ReferenceFinalIdeal.main_arg7) = m ((c.tc : Thread Cert.ReferenceFinalIdeal.nD Cert.ReferenceFinalIdeal.τ).loc Cert.ReferenceFinalIdeal.main_arg7))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3)
      ∧ r.2.mem ((c.tc : Thread Cert.Gated.nD Cert.Gated.τ).loc Cert.Gated.main_arg4) = m ((c.tc : Thread Cert.Gated.nD Cert.Gated.τ).loc Cert.Gated.main_arg4)
      ∧ r.2.mem ((c.tc : Thread Cert.Gated.nD Cert.Gated.τ).loc Cert.Gated.main_arg5) = m ((c.tc : Thread Cert.Gated.nD Cert.Gated.τ).loc Cert.Gated.main_arg5)
      ∧ r.2.mem ((c.tc : Thread Cert.Gated.nD Cert.Gated.τ).loc Cert.Gated.main_arg6) = m ((c.tc : Thread Cert.Gated.nD Cert.Gated.τ).loc Cert.Gated.main_arg6)
      ∧ r.2.mem ((c.tc : Thread Cert.Gated.nD Cert.Gated.τ).loc Cert.Gated.main_arg7) = m ((c.tc : Thread Cert.Gated.nD Cert.Gated.τ).loc Cert.Gated.main_arg7)
      ∧ r.2.mem ((c.tc : Thread Cert.Gated.nD Cert.Gated.τ).loc Cert.Gated.main_arg8) = m ((c.tc : Thread Cert.Gated.nD Cert.Gated.τ).loc Cert.Gated.main_arg8)
      ∧ r.2.mem ((c.tc : Thread Cert.Gated.nD Cert.Gated.τ).loc Cert.Gated.main_arg9) = m ((c.tc : Thread Cert.Gated.nD Cert.Gated.τ).loc Cert.Gated.main_arg9))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
      ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4)
      ∧ r.2.mem ((c.tc : Thread Cert.GatedIdeal.nD Cert.GatedIdeal.τ).loc Cert.GatedIdeal.main_arg5) = m ((c.tc : Thread Cert.GatedIdeal.nD Cert.GatedIdeal.τ).loc Cert.GatedIdeal.main_arg5)
      ∧ r.2.mem ((c.tc : Thread Cert.GatedIdeal.nD Cert.GatedIdeal.τ).loc Cert.GatedIdeal.main_arg6) = m ((c.tc : Thread Cert.GatedIdeal.nD Cert.GatedIdeal.τ).loc Cert.GatedIdeal.main_arg6)
      ∧ r.2.mem ((c.tc : Thread Cert.GatedIdeal.nD Cert.GatedIdeal.τ).loc Cert.GatedIdeal.main_arg7) = m ((c.tc : Thread Cert.GatedIdeal.nD Cert.GatedIdeal.τ).loc Cert.GatedIdeal.main_arg7)
      ∧ r.2.mem ((c.tc : Thread Cert.GatedIdeal.nD Cert.GatedIdeal.τ).loc Cert.GatedIdeal.main_arg8) = m ((c.tc : Thread Cert.GatedIdeal.nD Cert.GatedIdeal.τ).loc Cert.GatedIdeal.main_arg8)
      ∧ r.2.mem ((c.tc : Thread Cert.GatedIdeal.nD Cert.GatedIdeal.τ).loc Cert.GatedIdeal.main_arg9) = m ((c.tc : Thread Cert.GatedIdeal.nD Cert.GatedIdeal.τ).loc Cert.GatedIdeal.main_arg9))
      ∧ r.2.sem = fun _ => 0)

def quiescent_ReferenceGatedIdeal [hReferenceGatedIdeal : Cert.ReferenceGatedIdeal.Facts] : Prop :=
  ∀ (m : (ℓ : Loc Cert.ReferenceGatedIdeal.nD Cert.ReferenceGatedIdeal.τ Cert.ReferenceGatedIdeal.sig) → Buf (Elt Ideal) ℓ) (g : Dev Cert.ReferenceGatedIdeal.nD → PrngReg), Pre_ReferenceGatedIdeal m →
    θ_run (Cert.ReferenceGatedIdeal.defs (F := Ideal)) (onTc (τ := Cert.ReferenceGatedIdeal.τ) (Cert.ReferenceGatedIdeal.main (F := Ideal))) ⟨m, fun _ => 0, g⟩ (fun r => (∀ c : Dev Cert.ReferenceGatedIdeal.nD,
      r.2.mem ((c.tc : Thread Cert.ReferenceGatedIdeal.nD Cert.ReferenceGatedIdeal.τ).loc Cert.ReferenceGatedIdeal.main_arg0) = m ((c.tc : Thread Cert.ReferenceGatedIdeal.nD Cert.ReferenceGatedIdeal.τ).loc Cert.ReferenceGatedIdeal.main_arg0)
      ∧ r.2.mem ((c.tc : Thread Cert.ReferenceGatedIdeal.nD Cert.ReferenceGatedIdeal.τ).loc Cert.ReferenceGatedIdeal.main_arg1) = m ((c.tc : Thread Cert.ReferenceGatedIdeal.nD Cert.ReferenceGatedIdeal.τ).loc Cert.ReferenceGatedIdeal.main_arg1)
      ∧ r.2.mem ((c.tc : Thread Cert.ReferenceGatedIdeal.nD Cert.ReferenceGatedIdeal.τ).loc Cert.ReferenceGatedIdeal.main_arg2) = m ((c.tc : Thread Cert.ReferenceGatedIdeal.nD Cert.ReferenceGatedIdeal.τ).loc Cert.ReferenceGatedIdeal.main_arg2)
      ∧ r.2.mem ((c.tc : Thread Cert.ReferenceGatedIdeal.nD Cert.ReferenceGatedIdeal.τ).loc Cert.ReferenceGatedIdeal.main_arg3) = m ((c.tc : Thread Cert.ReferenceGatedIdeal.nD Cert.ReferenceGatedIdeal.τ).loc Cert.ReferenceGatedIdeal.main_arg3)
      ∧ r.2.mem ((c.tc : Thread Cert.ReferenceGatedIdeal.nD Cert.ReferenceGatedIdeal.τ).loc Cert.ReferenceGatedIdeal.main_arg4) = m ((c.tc : Thread Cert.ReferenceGatedIdeal.nD Cert.ReferenceGatedIdeal.τ).loc Cert.ReferenceGatedIdeal.main_arg4)
      ∧ r.2.mem ((c.tc : Thread Cert.ReferenceGatedIdeal.nD Cert.ReferenceGatedIdeal.τ).loc Cert.ReferenceGatedIdeal.main_arg5) = m ((c.tc : Thread Cert.ReferenceGatedIdeal.nD Cert.ReferenceGatedIdeal.τ).loc Cert.ReferenceGatedIdeal.main_arg5)
      ∧ r.2.mem ((c.tc : Thread Cert.ReferenceGatedIdeal.nD Cert.ReferenceGatedIdeal.τ).loc Cert.ReferenceGatedIdeal.main_arg6) = m ((c.tc : Thread Cert.ReferenceGatedIdeal.nD Cert.ReferenceGatedIdeal.τ).loc Cert.ReferenceGatedIdeal.main_arg6)
      ∧ r.2.mem ((c.tc : Thread Cert.ReferenceGatedIdeal.nD Cert.ReferenceGatedIdeal.τ).loc Cert.ReferenceGatedIdeal.main_arg7) = m ((c.tc : Thread Cert.ReferenceGatedIdeal.nD Cert.ReferenceGatedIdeal.τ).loc Cert.ReferenceGatedIdeal.main_arg7)
      ∧ r.2.mem ((c.tc : Thread Cert.ReferenceGatedIdeal.nD Cert.ReferenceGatedIdeal.τ).loc Cert.ReferenceGatedIdeal.main_arg8) = m ((c.tc : Thread Cert.ReferenceGatedIdeal.nD Cert.ReferenceGatedIdeal.τ).loc Cert.ReferenceGatedIdeal.main_arg8)
      ∧ r.2.mem ((c.tc : Thread Cert.ReferenceGatedIdeal.nD Cert.ReferenceGatedIdeal.τ).loc Cert.ReferenceGatedIdeal.main_arg9) = m ((c.tc : Thread Cert.ReferenceGatedIdeal.nD Cert.ReferenceGatedIdeal.τ).loc Cert.ReferenceGatedIdeal.main_arg9))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1)
      ∧ r.2.mem ((c.tc : Thread Cert.RetIn.nD Cert.RetIn.τ).loc Cert.RetIn.main_arg2) = m ((c.tc : Thread Cert.RetIn.nD Cert.RetIn.τ).loc Cert.RetIn.main_arg2)
      ∧ r.2.mem ((c.tc : Thread Cert.RetIn.nD Cert.RetIn.τ).loc Cert.RetIn.main_arg3) = m ((c.tc : Thread Cert.RetIn.nD Cert.RetIn.τ).loc Cert.RetIn.main_arg3)
      ∧ r.2.mem ((c.tc : Thread Cert.RetIn.nD Cert.RetIn.τ).loc Cert.RetIn.main_arg4) = m ((c.tc : Thread Cert.RetIn.nD Cert.RetIn.τ).loc Cert.RetIn.main_arg4))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
      ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2)
      ∧ r.2.mem ((c.tc : Thread Cert.RetInIdeal.nD Cert.RetInIdeal.τ).loc Cert.RetInIdeal.main_arg3) = m ((c.tc : Thread Cert.RetInIdeal.nD Cert.RetInIdeal.τ).loc Cert.RetInIdeal.main_arg3)
      ∧ r.2.mem ((c.tc : Thread Cert.RetInIdeal.nD Cert.RetInIdeal.τ).loc Cert.RetInIdeal.main_arg4) = m ((c.tc : Thread Cert.RetInIdeal.nD Cert.RetInIdeal.τ).loc Cert.RetInIdeal.main_arg4))
      ∧ r.2.sem = fun _ => 0)

def quiescent_ReferenceRetInIdeal [hReferenceRetInIdeal : Cert.ReferenceRetInIdeal.Facts] : Prop :=
  ∀ (m : (ℓ : Loc Cert.ReferenceRetInIdeal.nD Cert.ReferenceRetInIdeal.τ Cert.ReferenceRetInIdeal.sig) → Buf (Elt Ideal) ℓ) (g : Dev Cert.ReferenceRetInIdeal.nD → PrngReg), Pre_ReferenceRetInIdeal m →
    θ_run (Cert.ReferenceRetInIdeal.defs (F := Ideal)) (onTc (τ := Cert.ReferenceRetInIdeal.τ) (Cert.ReferenceRetInIdeal.main (F := Ideal))) ⟨m, fun _ => 0, g⟩ (fun r => (∀ c : Dev Cert.ReferenceRetInIdeal.nD,
      r.2.mem ((c.tc : Thread Cert.ReferenceRetInIdeal.nD Cert.ReferenceRetInIdeal.τ).loc Cert.ReferenceRetInIdeal.main_arg0) = m ((c.tc : Thread Cert.ReferenceRetInIdeal.nD Cert.ReferenceRetInIdeal.τ).loc Cert.ReferenceRetInIdeal.main_arg0)
      ∧ r.2.mem ((c.tc : Thread Cert.ReferenceRetInIdeal.nD Cert.ReferenceRetInIdeal.τ).loc Cert.ReferenceRetInIdeal.main_arg1) = m ((c.tc : Thread Cert.ReferenceRetInIdeal.nD Cert.ReferenceRetInIdeal.τ).loc Cert.ReferenceRetInIdeal.main_arg1)
      ∧ r.2.mem ((c.tc : Thread Cert.ReferenceRetInIdeal.nD Cert.ReferenceRetInIdeal.τ).loc Cert.ReferenceRetInIdeal.main_arg2) = m ((c.tc : Thread Cert.ReferenceRetInIdeal.nD Cert.ReferenceRetInIdeal.τ).loc Cert.ReferenceRetInIdeal.main_arg2)
      ∧ r.2.mem ((c.tc : Thread Cert.ReferenceRetInIdeal.nD Cert.ReferenceRetInIdeal.τ).loc Cert.ReferenceRetInIdeal.main_arg3) = m ((c.tc : Thread Cert.ReferenceRetInIdeal.nD Cert.ReferenceRetInIdeal.τ).loc Cert.ReferenceRetInIdeal.main_arg3)
      ∧ r.2.mem ((c.tc : Thread Cert.ReferenceRetInIdeal.nD Cert.ReferenceRetInIdeal.τ).loc Cert.ReferenceRetInIdeal.main_arg4) = m ((c.tc : Thread Cert.ReferenceRetInIdeal.nD Cert.ReferenceRetInIdeal.τ).loc Cert.ReferenceRetInIdeal.main_arg4))
      ∧ r.2.sem = fun _ => 0)

def quiescent_MlaIn [hMlaIn : Cert.MlaIn.Facts] : Prop :=
  ∀ (m : (ℓ : Loc Cert.MlaIn.nD Cert.MlaIn.τ Cert.MlaIn.sig) → Buf (Elt Bits) ℓ) (g : Dev Cert.MlaIn.nD → PrngReg), Pre_MlaIn m →
    θ_run (Cert.MlaIn.defs (F := Bits)) (onTc (τ := Cert.MlaIn.τ) (Cert.MlaIn.main (F := Bits))) ⟨m, fun _ => 0, g⟩ (fun r => (∀ c : Dev Cert.MlaIn.nD,
      r.2.mem ((c.tc : Thread Cert.MlaIn.nD Cert.MlaIn.τ).loc Cert.MlaIn.main_arg0) = m ((c.tc : Thread Cert.MlaIn.nD Cert.MlaIn.τ).loc Cert.MlaIn.main_arg0)
      ∧ r.2.mem ((c.tc : Thread Cert.MlaIn.nD Cert.MlaIn.τ).loc Cert.MlaIn.main_arg1) = m ((c.tc : Thread Cert.MlaIn.nD Cert.MlaIn.τ).loc Cert.MlaIn.main_arg1)
      ∧ r.2.mem ((c.tc : Thread Cert.MlaIn.nD Cert.MlaIn.τ).loc Cert.MlaIn.main_arg2) = m ((c.tc : Thread Cert.MlaIn.nD Cert.MlaIn.τ).loc Cert.MlaIn.main_arg2)
      ∧ r.2.mem ((c.tc : Thread Cert.MlaIn.nD Cert.MlaIn.τ).loc Cert.MlaIn.main_arg3) = m ((c.tc : Thread Cert.MlaIn.nD Cert.MlaIn.τ).loc Cert.MlaIn.main_arg3)
      ∧ r.2.mem ((c.tc : Thread Cert.MlaIn.nD Cert.MlaIn.τ).loc Cert.MlaIn.main_arg4) = m ((c.tc : Thread Cert.MlaIn.nD Cert.MlaIn.τ).loc Cert.MlaIn.main_arg4)
      ∧ r.2.mem ((c.tc : Thread Cert.MlaIn.nD Cert.MlaIn.τ).loc Cert.MlaIn.main_arg5) = m ((c.tc : Thread Cert.MlaIn.nD Cert.MlaIn.τ).loc Cert.MlaIn.main_arg5)
      ∧ r.2.mem ((c.tc : Thread Cert.MlaIn.nD Cert.MlaIn.τ).loc Cert.MlaIn.main_arg6) = m ((c.tc : Thread Cert.MlaIn.nD Cert.MlaIn.τ).loc Cert.MlaIn.main_arg6)
      ∧ r.2.mem ((c.tc : Thread Cert.MlaIn.nD Cert.MlaIn.τ).loc Cert.MlaIn.main_arg7) = m ((c.tc : Thread Cert.MlaIn.nD Cert.MlaIn.τ).loc Cert.MlaIn.main_arg7)
      ∧ r.2.mem ((c.tc : Thread Cert.MlaIn.nD Cert.MlaIn.τ).loc Cert.MlaIn.main_arg8) = m ((c.tc : Thread Cert.MlaIn.nD Cert.MlaIn.τ).loc Cert.MlaIn.main_arg8))
      ∧ r.2.sem = fun _ => 0)

def quiescent_MlaInIdeal [hMlaInIdeal : Cert.MlaInIdeal.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
      ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
      ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3)
      ∧ r.2.mem ((c.tc : Thread Cert.MlaInIdeal.nD Cert.MlaInIdeal.τ).loc Cert.MlaInIdeal.main_arg4) = m ((c.tc : Thread Cert.MlaInIdeal.nD Cert.MlaInIdeal.τ).loc Cert.MlaInIdeal.main_arg4)
      ∧ r.2.mem ((c.tc : Thread Cert.MlaInIdeal.nD Cert.MlaInIdeal.τ).loc Cert.MlaInIdeal.main_arg5) = m ((c.tc : Thread Cert.MlaInIdeal.nD Cert.MlaInIdeal.τ).loc Cert.MlaInIdeal.main_arg5)
      ∧ r.2.mem ((c.tc : Thread Cert.MlaInIdeal.nD Cert.MlaInIdeal.τ).loc Cert.MlaInIdeal.main_arg6) = m ((c.tc : Thread Cert.MlaInIdeal.nD Cert.MlaInIdeal.τ).loc Cert.MlaInIdeal.main_arg6)
      ∧ r.2.mem ((c.tc : Thread Cert.MlaInIdeal.nD Cert.MlaInIdeal.τ).loc Cert.MlaInIdeal.main_arg7) = m ((c.tc : Thread Cert.MlaInIdeal.nD Cert.MlaInIdeal.τ).loc Cert.MlaInIdeal.main_arg7)
      ∧ r.2.mem ((c.tc : Thread Cert.MlaInIdeal.nD Cert.MlaInIdeal.τ).loc Cert.MlaInIdeal.main_arg8) = m ((c.tc : Thread Cert.MlaInIdeal.nD Cert.MlaInIdeal.τ).loc Cert.MlaInIdeal.main_arg8))
      ∧ r.2.sem = fun _ => 0)

def quiescent_ReferenceMlaInIdeal [hReferenceMlaInIdeal : Cert.ReferenceMlaInIdeal.Facts] : Prop :=
  ∀ (m : (ℓ : Loc Cert.ReferenceMlaInIdeal.nD Cert.ReferenceMlaInIdeal.τ Cert.ReferenceMlaInIdeal.sig) → Buf (Elt Ideal) ℓ) (g : Dev Cert.ReferenceMlaInIdeal.nD → PrngReg), Pre_ReferenceMlaInIdeal m →
    θ_run (Cert.ReferenceMlaInIdeal.defs (F := Ideal)) (onTc (τ := Cert.ReferenceMlaInIdeal.τ) (Cert.ReferenceMlaInIdeal.main (F := Ideal))) ⟨m, fun _ => 0, g⟩ (fun r => (∀ c : Dev Cert.ReferenceMlaInIdeal.nD,
      r.2.mem ((c.tc : Thread Cert.ReferenceMlaInIdeal.nD Cert.ReferenceMlaInIdeal.τ).loc Cert.ReferenceMlaInIdeal.main_arg0) = m ((c.tc : Thread Cert.ReferenceMlaInIdeal.nD Cert.ReferenceMlaInIdeal.τ).loc Cert.ReferenceMlaInIdeal.main_arg0)
      ∧ r.2.mem ((c.tc : Thread Cert.ReferenceMlaInIdeal.nD Cert.ReferenceMlaInIdeal.τ).loc Cert.ReferenceMlaInIdeal.main_arg1) = m ((c.tc : Thread Cert.ReferenceMlaInIdeal.nD Cert.ReferenceMlaInIdeal.τ).loc Cert.ReferenceMlaInIdeal.main_arg1)
      ∧ r.2.mem ((c.tc : Thread Cert.ReferenceMlaInIdeal.nD Cert.ReferenceMlaInIdeal.τ).loc Cert.ReferenceMlaInIdeal.main_arg2) = m ((c.tc : Thread Cert.ReferenceMlaInIdeal.nD Cert.ReferenceMlaInIdeal.τ).loc Cert.ReferenceMlaInIdeal.main_arg2)
      ∧ r.2.mem ((c.tc : Thread Cert.ReferenceMlaInIdeal.nD Cert.ReferenceMlaInIdeal.τ).loc Cert.ReferenceMlaInIdeal.main_arg3) = m ((c.tc : Thread Cert.ReferenceMlaInIdeal.nD Cert.ReferenceMlaInIdeal.τ).loc Cert.ReferenceMlaInIdeal.main_arg3)
      ∧ r.2.mem ((c.tc : Thread Cert.ReferenceMlaInIdeal.nD Cert.ReferenceMlaInIdeal.τ).loc Cert.ReferenceMlaInIdeal.main_arg4) = m ((c.tc : Thread Cert.ReferenceMlaInIdeal.nD Cert.ReferenceMlaInIdeal.τ).loc Cert.ReferenceMlaInIdeal.main_arg4)
      ∧ r.2.mem ((c.tc : Thread Cert.ReferenceMlaInIdeal.nD Cert.ReferenceMlaInIdeal.τ).loc Cert.ReferenceMlaInIdeal.main_arg5) = m ((c.tc : Thread Cert.ReferenceMlaInIdeal.nD Cert.ReferenceMlaInIdeal.τ).loc Cert.ReferenceMlaInIdeal.main_arg5)
      ∧ r.2.mem ((c.tc : Thread Cert.ReferenceMlaInIdeal.nD Cert.ReferenceMlaInIdeal.τ).loc Cert.ReferenceMlaInIdeal.main_arg6) = m ((c.tc : Thread Cert.ReferenceMlaInIdeal.nD Cert.ReferenceMlaInIdeal.τ).loc Cert.ReferenceMlaInIdeal.main_arg6)
      ∧ r.2.mem ((c.tc : Thread Cert.ReferenceMlaInIdeal.nD Cert.ReferenceMlaInIdeal.τ).loc Cert.ReferenceMlaInIdeal.main_arg7) = m ((c.tc : Thread Cert.ReferenceMlaInIdeal.nD Cert.ReferenceMlaInIdeal.τ).loc Cert.ReferenceMlaInIdeal.main_arg7)
      ∧ r.2.mem ((c.tc : Thread Cert.ReferenceMlaInIdeal.nD Cert.ReferenceMlaInIdeal.τ).loc Cert.ReferenceMlaInIdeal.main_arg8) = m ((c.tc : Thread Cert.ReferenceMlaInIdeal.nD Cert.ReferenceMlaInIdeal.τ).loc Cert.ReferenceMlaInIdeal.main_arg8))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ReferenceModulationIdeal [hReferenceModulationIdeal : Cert.ReferenceModulationIdeal.Facts] : Prop :=
  ∀ (m : (ℓ : Loc Cert.ReferenceModulationIdeal.nD Cert.ReferenceModulationIdeal.τ Cert.ReferenceModulationIdeal.sig) → Buf (Elt Ideal) ℓ) (g : Dev Cert.ReferenceModulationIdeal.nD → PrngReg), Pre_ReferenceModulationIdeal m →
    θ_run (Cert.ReferenceModulationIdeal.defs (F := Ideal)) (onTc (τ := Cert.ReferenceModulationIdeal.τ) (Cert.ReferenceModulationIdeal.main (F := Ideal))) ⟨m, fun _ => 0, g⟩ (fun r => (∀ c : Dev Cert.ReferenceModulationIdeal.nD,
      r.2.mem ((c.tc : Thread Cert.ReferenceModulationIdeal.nD Cert.ReferenceModulationIdeal.τ).loc Cert.ReferenceModulationIdeal.main_arg0) = m ((c.tc : Thread Cert.ReferenceModulationIdeal.nD Cert.ReferenceModulationIdeal.τ).loc Cert.ReferenceModulationIdeal.main_arg0)
      ∧ r.2.mem ((c.tc : Thread Cert.ReferenceModulationIdeal.nD Cert.ReferenceModulationIdeal.τ).loc Cert.ReferenceModulationIdeal.main_arg1) = m ((c.tc : Thread Cert.ReferenceModulationIdeal.nD Cert.ReferenceModulationIdeal.τ).loc Cert.ReferenceModulationIdeal.main_arg1)
      ∧ r.2.mem ((c.tc : Thread Cert.ReferenceModulationIdeal.nD Cert.ReferenceModulationIdeal.τ).loc Cert.ReferenceModulationIdeal.main_arg2) = m ((c.tc : Thread Cert.ReferenceModulationIdeal.nD Cert.ReferenceModulationIdeal.τ).loc Cert.ReferenceModulationIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_ReferenceFfnIdeal [hFfnIdeal : Cert.FfnIdeal.Facts] [hReferenceFfnIdeal : Cert.ReferenceFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_FfnIdeal m →
    (∀ c : Dev Cert.FfnIdeal.nD,
      m' ((c.tc : Thread Cert.ReferenceFfnIdeal.nD Cert.ReferenceFfnIdeal.τ).loc Cert.ReferenceFfnIdeal.main_arg0) = m ((c.tc : Thread Cert.FfnIdeal.nD Cert.FfnIdeal.τ).loc Cert.FfnIdeal.main_arg0)
      ∧ m' ((c.tc : Thread Cert.ReferenceFfnIdeal.nD Cert.ReferenceFfnIdeal.τ).loc Cert.ReferenceFfnIdeal.main_arg1) = m ((c.tc : Thread Cert.FfnIdeal.nD Cert.FfnIdeal.τ).loc Cert.FfnIdeal.main_arg1)
      ∧ m' ((c.tc : Thread Cert.ReferenceFfnIdeal.nD Cert.ReferenceFfnIdeal.τ).loc Cert.ReferenceFfnIdeal.main_arg2) = m ((c.tc : Thread Cert.FfnIdeal.nD Cert.FfnIdeal.τ).loc Cert.FfnIdeal.main_arg2)
      ∧ m' ((c.tc : Thread Cert.ReferenceFfnIdeal.nD Cert.ReferenceFfnIdeal.τ).loc Cert.ReferenceFfnIdeal.main_arg3) = m ((c.tc : Thread Cert.FfnIdeal.nD Cert.FfnIdeal.τ).loc Cert.FfnIdeal.main_arg3)
      ∧ m' ((c.tc : Thread Cert.ReferenceFfnIdeal.nD Cert.ReferenceFfnIdeal.τ).loc Cert.ReferenceFfnIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v50) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_Pre_PreIdeal : Prop :=
  True

def algebraic_PreIdeal_ReferencePreIdeal [hPreIdeal : Cert.PreIdeal.Facts] [hReferencePreIdeal : Cert.ReferencePreIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_PreIdeal m →
    (∀ c : Dev Cert.PreIdeal.nD,
      m' ((c.tc : Thread Cert.ReferencePreIdeal.nD Cert.ReferencePreIdeal.τ).loc Cert.ReferencePreIdeal.main_arg0) = m ((c.tc : Thread Cert.PreIdeal.nD Cert.PreIdeal.τ).loc Cert.PreIdeal.main_arg0)
      ∧ m' ((c.tc : Thread Cert.ReferencePreIdeal.nD Cert.ReferencePreIdeal.τ).loc Cert.ReferencePreIdeal.main_arg1) = m ((c.tc : Thread Cert.PreIdeal.nD Cert.PreIdeal.τ).loc Cert.PreIdeal.main_arg1)
      ∧ m' ((c.tc : Thread Cert.ReferencePreIdeal.nD Cert.ReferencePreIdeal.τ).loc Cert.ReferencePreIdeal.main_arg2) = m ((c.tc : Thread Cert.PreIdeal.nD Cert.PreIdeal.τ).loc Cert.PreIdeal.main_arg2)
      ∧ m' ((c.tc : Thread Cert.ReferencePreIdeal.nD Cert.ReferencePreIdeal.τ).loc Cert.ReferencePreIdeal.main_arg3) = m ((c.tc : Thread Cert.PreIdeal.nD Cert.PreIdeal.τ).loc Cert.PreIdeal.main_arg3)
      ∧ m' ((c.tc : Thread Cert.ReferencePreIdeal.nD Cert.ReferencePreIdeal.τ).loc Cert.ReferencePreIdeal.main_arg4) = m ((c.tc : Thread Cert.PreIdeal.nD Cert.PreIdeal.τ).loc Cert.PreIdeal.main_arg4)
      ∧ m' ((c.tc : Thread Cert.ReferencePreIdeal.nD Cert.ReferencePreIdeal.τ).loc Cert.ReferencePreIdeal.main_arg5) = m ((c.tc : Thread Cert.PreIdeal.nD Cert.PreIdeal.τ).loc Cert.PreIdeal.main_arg5)
      ∧ m' ((c.tc : Thread Cert.ReferencePreIdeal.nD Cert.ReferencePreIdeal.τ).loc Cert.ReferencePreIdeal.main_arg6) = m ((c.tc : Thread Cert.PreIdeal.nD Cert.PreIdeal.τ).loc Cert.PreIdeal.main_arg6)) →
    ∃ (v0 : (c : Dev Cert.PreIdeal.nD) → Buf (Elt Ideal) ((c.tc : Thread Cert.PreIdeal.nD Cert.PreIdeal.τ).loc Cert.PreIdeal.main_v8)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v8) = v0 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v58) = v0 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1)
          ∧ r.2.mem ((c.tc : Thread Cert.ReferencePreIdeal.nD Cert.ReferencePreIdeal.τ).loc Cert.ReferencePreIdeal.main_arg2) = m' ((c.tc : Thread Cert.ReferencePreIdeal.nD Cert.ReferencePreIdeal.τ).loc Cert.ReferencePreIdeal.main_arg2)
          ∧ r.2.mem ((c.tc : Thread Cert.ReferencePreIdeal.nD Cert.ReferencePreIdeal.τ).loc Cert.ReferencePreIdeal.main_arg3) = m' ((c.tc : Thread Cert.ReferencePreIdeal.nD Cert.ReferencePreIdeal.τ).loc Cert.ReferencePreIdeal.main_arg3)
          ∧ r.2.mem ((c.tc : Thread Cert.ReferencePreIdeal.nD Cert.ReferencePreIdeal.τ).loc Cert.ReferencePreIdeal.main_arg4) = m' ((c.tc : Thread Cert.ReferencePreIdeal.nD Cert.ReferencePreIdeal.τ).loc Cert.ReferencePreIdeal.main_arg4)
          ∧ r.2.mem ((c.tc : Thread Cert.ReferencePreIdeal.nD Cert.ReferencePreIdeal.τ).loc Cert.ReferencePreIdeal.main_arg5) = m' ((c.tc : Thread Cert.ReferencePreIdeal.nD Cert.ReferencePreIdeal.τ).loc Cert.ReferencePreIdeal.main_arg5)
          ∧ r.2.mem ((c.tc : Thread Cert.ReferencePreIdeal.nD Cert.ReferencePreIdeal.τ).loc Cert.ReferencePreIdeal.main_arg6) = m' ((c.tc : Thread Cert.ReferencePreIdeal.nD Cert.ReferencePreIdeal.τ).loc Cert.ReferencePreIdeal.main_arg6))

def preserves_Final_FinalIdeal : Prop :=
  True

def algebraic_FinalIdeal_ReferenceFinalIdeal [hFinalIdeal : Cert.FinalIdeal.Facts] [hReferenceFinalIdeal : Cert.ReferenceFinalIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_FinalIdeal m →
    (∀ c : Dev Cert.FinalIdeal.nD,
      m' ((c.tc : Thread Cert.ReferenceFinalIdeal.nD Cert.ReferenceFinalIdeal.τ).loc Cert.ReferenceFinalIdeal.main_arg0) = m ((c.tc : Thread Cert.FinalIdeal.nD Cert.FinalIdeal.τ).loc Cert.FinalIdeal.main_arg0)
      ∧ m' ((c.tc : Thread Cert.ReferenceFinalIdeal.nD Cert.ReferenceFinalIdeal.τ).loc Cert.ReferenceFinalIdeal.main_arg1) = m ((c.tc : Thread Cert.FinalIdeal.nD Cert.FinalIdeal.τ).loc Cert.FinalIdeal.main_arg1)
      ∧ m' ((c.tc : Thread Cert.ReferenceFinalIdeal.nD Cert.ReferenceFinalIdeal.τ).loc Cert.ReferenceFinalIdeal.main_arg2) = m ((c.tc : Thread Cert.FinalIdeal.nD Cert.FinalIdeal.τ).loc Cert.FinalIdeal.main_arg2)
      ∧ m' ((c.tc : Thread Cert.ReferenceFinalIdeal.nD Cert.ReferenceFinalIdeal.τ).loc Cert.ReferenceFinalIdeal.main_arg3) = m ((c.tc : Thread Cert.FinalIdeal.nD Cert.FinalIdeal.τ).loc Cert.FinalIdeal.main_arg3)
      ∧ m' ((c.tc : Thread Cert.ReferenceFinalIdeal.nD Cert.ReferenceFinalIdeal.τ).loc Cert.ReferenceFinalIdeal.main_arg4) = m ((c.tc : Thread Cert.FinalIdeal.nD Cert.FinalIdeal.τ).loc Cert.FinalIdeal.main_arg4)
      ∧ m' ((c.tc : Thread Cert.ReferenceFinalIdeal.nD Cert.ReferenceFinalIdeal.τ).loc Cert.ReferenceFinalIdeal.main_arg5) = m ((c.tc : Thread Cert.FinalIdeal.nD Cert.FinalIdeal.τ).loc Cert.FinalIdeal.main_arg5)
      ∧ m' ((c.tc : Thread Cert.ReferenceFinalIdeal.nD Cert.ReferenceFinalIdeal.τ).loc Cert.ReferenceFinalIdeal.main_arg6) = m ((c.tc : Thread Cert.FinalIdeal.nD Cert.FinalIdeal.τ).loc Cert.FinalIdeal.main_arg6)
      ∧ m' ((c.tc : Thread Cert.ReferenceFinalIdeal.nD Cert.ReferenceFinalIdeal.τ).loc Cert.ReferenceFinalIdeal.main_arg7) = m ((c.tc : Thread Cert.FinalIdeal.nD Cert.FinalIdeal.τ).loc Cert.FinalIdeal.main_arg7)) →
    ∃ (v0 : (c : Dev Cert.FinalIdeal.nD) → Buf (Elt Ideal) ((c.tc : Thread Cert.FinalIdeal.nD Cert.FinalIdeal.τ).loc Cert.FinalIdeal.main_v9)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v9) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
          ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v71) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2)
          ∧ r.2.mem ((c.tc : Thread Cert.ReferenceFinalIdeal.nD Cert.ReferenceFinalIdeal.τ).loc Cert.ReferenceFinalIdeal.main_arg3) = m' ((c.tc : Thread Cert.ReferenceFinalIdeal.nD Cert.ReferenceFinalIdeal.τ).loc Cert.ReferenceFinalIdeal.main_arg3)
          ∧ r.2.mem ((c.tc : Thread Cert.ReferenceFinalIdeal.nD Cert.ReferenceFinalIdeal.τ).loc Cert.ReferenceFinalIdeal.main_arg4) = m' ((c.tc : Thread Cert.ReferenceFinalIdeal.nD Cert.ReferenceFinalIdeal.τ).loc Cert.ReferenceFinalIdeal.main_arg4)
          ∧ r.2.mem ((c.tc : Thread Cert.ReferenceFinalIdeal.nD Cert.ReferenceFinalIdeal.τ).loc Cert.ReferenceFinalIdeal.main_arg5) = m' ((c.tc : Thread Cert.ReferenceFinalIdeal.nD Cert.ReferenceFinalIdeal.τ).loc Cert.ReferenceFinalIdeal.main_arg5)
          ∧ r.2.mem ((c.tc : Thread Cert.ReferenceFinalIdeal.nD Cert.ReferenceFinalIdeal.τ).loc Cert.ReferenceFinalIdeal.main_arg6) = m' ((c.tc : Thread Cert.ReferenceFinalIdeal.nD Cert.ReferenceFinalIdeal.τ).loc Cert.ReferenceFinalIdeal.main_arg6)
          ∧ r.2.mem ((c.tc : Thread Cert.ReferenceFinalIdeal.nD Cert.ReferenceFinalIdeal.τ).loc Cert.ReferenceFinalIdeal.main_arg7) = m' ((c.tc : Thread Cert.ReferenceFinalIdeal.nD Cert.ReferenceFinalIdeal.τ).loc Cert.ReferenceFinalIdeal.main_arg7))

def preserves_Gated_GatedIdeal : Prop :=
  True

def algebraic_GatedIdeal_ReferenceGatedIdeal [hGatedIdeal : Cert.GatedIdeal.Facts] [hReferenceGatedIdeal : Cert.ReferenceGatedIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.ReferenceGatedIdeal.nD Cert.ReferenceGatedIdeal.τ Cert.ReferenceGatedIdeal.sig) → Buf (Elt Ideal) ℓ) (g' : Dev Cert.ReferenceGatedIdeal.nD → PrngReg), Pre_GatedIdeal m →
    (∀ c : Dev Cert.GatedIdeal.nD,
      m' ((c.tc : Thread Cert.ReferenceGatedIdeal.nD Cert.ReferenceGatedIdeal.τ).loc Cert.ReferenceGatedIdeal.main_arg0) = m ((c.tc : Thread Cert.GatedIdeal.nD Cert.GatedIdeal.τ).loc Cert.GatedIdeal.main_arg0)
      ∧ m' ((c.tc : Thread Cert.ReferenceGatedIdeal.nD Cert.ReferenceGatedIdeal.τ).loc Cert.ReferenceGatedIdeal.main_arg1) = m ((c.tc : Thread Cert.GatedIdeal.nD Cert.GatedIdeal.τ).loc Cert.GatedIdeal.main_arg1)
      ∧ m' ((c.tc : Thread Cert.ReferenceGatedIdeal.nD Cert.ReferenceGatedIdeal.τ).loc Cert.ReferenceGatedIdeal.main_arg2) = m ((c.tc : Thread Cert.GatedIdeal.nD Cert.GatedIdeal.τ).loc Cert.GatedIdeal.main_arg2)
      ∧ m' ((c.tc : Thread Cert.ReferenceGatedIdeal.nD Cert.ReferenceGatedIdeal.τ).loc Cert.ReferenceGatedIdeal.main_arg3) = m ((c.tc : Thread Cert.GatedIdeal.nD Cert.GatedIdeal.τ).loc Cert.GatedIdeal.main_arg3)
      ∧ m' ((c.tc : Thread Cert.ReferenceGatedIdeal.nD Cert.ReferenceGatedIdeal.τ).loc Cert.ReferenceGatedIdeal.main_arg4) = m ((c.tc : Thread Cert.GatedIdeal.nD Cert.GatedIdeal.τ).loc Cert.GatedIdeal.main_arg4)
      ∧ m' ((c.tc : Thread Cert.ReferenceGatedIdeal.nD Cert.ReferenceGatedIdeal.τ).loc Cert.ReferenceGatedIdeal.main_arg5) = m ((c.tc : Thread Cert.GatedIdeal.nD Cert.GatedIdeal.τ).loc Cert.GatedIdeal.main_arg5)
      ∧ m' ((c.tc : Thread Cert.ReferenceGatedIdeal.nD Cert.ReferenceGatedIdeal.τ).loc Cert.ReferenceGatedIdeal.main_arg6) = m ((c.tc : Thread Cert.GatedIdeal.nD Cert.GatedIdeal.τ).loc Cert.GatedIdeal.main_arg6)
      ∧ m' ((c.tc : Thread Cert.ReferenceGatedIdeal.nD Cert.ReferenceGatedIdeal.τ).loc Cert.ReferenceGatedIdeal.main_arg7) = m ((c.tc : Thread Cert.GatedIdeal.nD Cert.GatedIdeal.τ).loc Cert.GatedIdeal.main_arg7)
      ∧ m' ((c.tc : Thread Cert.ReferenceGatedIdeal.nD Cert.ReferenceGatedIdeal.τ).loc Cert.ReferenceGatedIdeal.main_arg8) = m ((c.tc : Thread Cert.GatedIdeal.nD Cert.GatedIdeal.τ).loc Cert.GatedIdeal.main_arg8)
      ∧ m' ((c.tc : Thread Cert.ReferenceGatedIdeal.nD Cert.ReferenceGatedIdeal.τ).loc Cert.ReferenceGatedIdeal.main_arg9) = m ((c.tc : Thread Cert.GatedIdeal.nD Cert.GatedIdeal.τ).loc Cert.GatedIdeal.main_arg9)) →
    ∃ (v0 : (c : Dev Cert.GatedIdeal.nD) → Buf (Elt Ideal) ((c.tc : Thread Cert.GatedIdeal.nD Cert.GatedIdeal.τ).loc Cert.GatedIdeal.main_v19)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v19) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
          ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4)
          ∧ r.2.mem ((c.tc : Thread Cert.GatedIdeal.nD Cert.GatedIdeal.τ).loc Cert.GatedIdeal.main_arg5) = m ((c.tc : Thread Cert.GatedIdeal.nD Cert.GatedIdeal.τ).loc Cert.GatedIdeal.main_arg5)
          ∧ r.2.mem ((c.tc : Thread Cert.GatedIdeal.nD Cert.GatedIdeal.τ).loc Cert.GatedIdeal.main_arg6) = m ((c.tc : Thread Cert.GatedIdeal.nD Cert.GatedIdeal.τ).loc Cert.GatedIdeal.main_arg6)
          ∧ r.2.mem ((c.tc : Thread Cert.GatedIdeal.nD Cert.GatedIdeal.τ).loc Cert.GatedIdeal.main_arg7) = m ((c.tc : Thread Cert.GatedIdeal.nD Cert.GatedIdeal.τ).loc Cert.GatedIdeal.main_arg7)
          ∧ r.2.mem ((c.tc : Thread Cert.GatedIdeal.nD Cert.GatedIdeal.τ).loc Cert.GatedIdeal.main_arg8) = m ((c.tc : Thread Cert.GatedIdeal.nD Cert.GatedIdeal.τ).loc Cert.GatedIdeal.main_arg8)
          ∧ r.2.mem ((c.tc : Thread Cert.GatedIdeal.nD Cert.GatedIdeal.τ).loc Cert.GatedIdeal.main_arg9) = m ((c.tc : Thread Cert.GatedIdeal.nD Cert.GatedIdeal.τ).loc Cert.GatedIdeal.main_arg9))
      ∧ θ_run (Cert.ReferenceGatedIdeal.defs (F := Ideal)) (onTc (τ := Cert.ReferenceGatedIdeal.τ) (Cert.ReferenceGatedIdeal.main (F := Ideal))) ⟨m', fun _ => 0, g'⟩ (fun r => ∀ c : Dev Cert.ReferenceGatedIdeal.nD,
          r.2.mem ((c.tc : Thread Cert.ReferenceGatedIdeal.nD Cert.ReferenceGatedIdeal.τ).loc Cert.ReferenceGatedIdeal.main_v69) = v0 c
          ∧ r.2.mem ((c.tc : Thread Cert.ReferenceGatedIdeal.nD Cert.ReferenceGatedIdeal.τ).loc Cert.ReferenceGatedIdeal.main_arg0) = m' ((c.tc : Thread Cert.ReferenceGatedIdeal.nD Cert.ReferenceGatedIdeal.τ).loc Cert.ReferenceGatedIdeal.main_arg0)
          ∧ r.2.mem ((c.tc : Thread Cert.ReferenceGatedIdeal.nD Cert.ReferenceGatedIdeal.τ).loc Cert.ReferenceGatedIdeal.main_arg1) = m' ((c.tc : Thread Cert.ReferenceGatedIdeal.nD Cert.ReferenceGatedIdeal.τ).loc Cert.ReferenceGatedIdeal.main_arg1)
          ∧ r.2.mem ((c.tc : Thread Cert.ReferenceGatedIdeal.nD Cert.ReferenceGatedIdeal.τ).loc Cert.ReferenceGatedIdeal.main_arg2) = m' ((c.tc : Thread Cert.ReferenceGatedIdeal.nD Cert.ReferenceGatedIdeal.τ).loc Cert.ReferenceGatedIdeal.main_arg2)
          ∧ r.2.mem ((c.tc : Thread Cert.ReferenceGatedIdeal.nD Cert.ReferenceGatedIdeal.τ).loc Cert.ReferenceGatedIdeal.main_arg3) = m' ((c.tc : Thread Cert.ReferenceGatedIdeal.nD Cert.ReferenceGatedIdeal.τ).loc Cert.ReferenceGatedIdeal.main_arg3)
          ∧ r.2.mem ((c.tc : Thread Cert.ReferenceGatedIdeal.nD Cert.ReferenceGatedIdeal.τ).loc Cert.ReferenceGatedIdeal.main_arg4) = m' ((c.tc : Thread Cert.ReferenceGatedIdeal.nD Cert.ReferenceGatedIdeal.τ).loc Cert.ReferenceGatedIdeal.main_arg4)
          ∧ r.2.mem ((c.tc : Thread Cert.ReferenceGatedIdeal.nD Cert.ReferenceGatedIdeal.τ).loc Cert.ReferenceGatedIdeal.main_arg5) = m' ((c.tc : Thread Cert.ReferenceGatedIdeal.nD Cert.ReferenceGatedIdeal.τ).loc Cert.ReferenceGatedIdeal.main_arg5)
          ∧ r.2.mem ((c.tc : Thread Cert.ReferenceGatedIdeal.nD Cert.ReferenceGatedIdeal.τ).loc Cert.ReferenceGatedIdeal.main_arg6) = m' ((c.tc : Thread Cert.ReferenceGatedIdeal.nD Cert.ReferenceGatedIdeal.τ).loc Cert.ReferenceGatedIdeal.main_arg6)
          ∧ r.2.mem ((c.tc : Thread Cert.ReferenceGatedIdeal.nD Cert.ReferenceGatedIdeal.τ).loc Cert.ReferenceGatedIdeal.main_arg7) = m' ((c.tc : Thread Cert.ReferenceGatedIdeal.nD Cert.ReferenceGatedIdeal.τ).loc Cert.ReferenceGatedIdeal.main_arg7)
          ∧ r.2.mem ((c.tc : Thread Cert.ReferenceGatedIdeal.nD Cert.ReferenceGatedIdeal.τ).loc Cert.ReferenceGatedIdeal.main_arg8) = m' ((c.tc : Thread Cert.ReferenceGatedIdeal.nD Cert.ReferenceGatedIdeal.τ).loc Cert.ReferenceGatedIdeal.main_arg8)
          ∧ r.2.mem ((c.tc : Thread Cert.ReferenceGatedIdeal.nD Cert.ReferenceGatedIdeal.τ).loc Cert.ReferenceGatedIdeal.main_arg9) = m' ((c.tc : Thread Cert.ReferenceGatedIdeal.nD Cert.ReferenceGatedIdeal.τ).loc Cert.ReferenceGatedIdeal.main_arg9))

def preserves_RetIn_RetInIdeal : Prop :=
  True

def algebraic_RetInIdeal_ReferenceRetInIdeal [hRetInIdeal : Cert.RetInIdeal.Facts] [hReferenceRetInIdeal : Cert.ReferenceRetInIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.ReferenceRetInIdeal.nD Cert.ReferenceRetInIdeal.τ Cert.ReferenceRetInIdeal.sig) → Buf (Elt Ideal) ℓ) (g' : Dev Cert.ReferenceRetInIdeal.nD → PrngReg), Pre_RetInIdeal m →
    (∀ c : Dev Cert.RetInIdeal.nD,
      m' ((c.tc : Thread Cert.ReferenceRetInIdeal.nD Cert.ReferenceRetInIdeal.τ).loc Cert.ReferenceRetInIdeal.main_arg0) = m ((c.tc : Thread Cert.RetInIdeal.nD Cert.RetInIdeal.τ).loc Cert.RetInIdeal.main_arg0)
      ∧ m' ((c.tc : Thread Cert.ReferenceRetInIdeal.nD Cert.ReferenceRetInIdeal.τ).loc Cert.ReferenceRetInIdeal.main_arg1) = m ((c.tc : Thread Cert.RetInIdeal.nD Cert.RetInIdeal.τ).loc Cert.RetInIdeal.main_arg1)
      ∧ m' ((c.tc : Thread Cert.ReferenceRetInIdeal.nD Cert.ReferenceRetInIdeal.τ).loc Cert.ReferenceRetInIdeal.main_arg2) = m ((c.tc : Thread Cert.RetInIdeal.nD Cert.RetInIdeal.τ).loc Cert.RetInIdeal.main_arg2)
      ∧ m' ((c.tc : Thread Cert.ReferenceRetInIdeal.nD Cert.ReferenceRetInIdeal.τ).loc Cert.ReferenceRetInIdeal.main_arg3) = m ((c.tc : Thread Cert.RetInIdeal.nD Cert.RetInIdeal.τ).loc Cert.RetInIdeal.main_arg3)
      ∧ m' ((c.tc : Thread Cert.ReferenceRetInIdeal.nD Cert.ReferenceRetInIdeal.τ).loc Cert.ReferenceRetInIdeal.main_arg4) = m ((c.tc : Thread Cert.RetInIdeal.nD Cert.RetInIdeal.τ).loc Cert.RetInIdeal.main_arg4)) →
    ∃ (v0 : (c : Dev Cert.RetInIdeal.nD) → Buf (Elt Ideal) ((c.tc : Thread Cert.RetInIdeal.nD Cert.RetInIdeal.τ).loc Cert.RetInIdeal.main_v22_0)) (v1 : (c : Dev Cert.RetInIdeal.nD) → Buf (Elt Ideal) ((c.tc : Thread Cert.RetInIdeal.nD Cert.RetInIdeal.τ).loc Cert.RetInIdeal.main_v22_1)) (v2 : (c : Dev Cert.RetInIdeal.nD) → Buf (Elt Ideal) ((c.tc : Thread Cert.RetInIdeal.nD Cert.RetInIdeal.τ).loc Cert.RetInIdeal.main_v22_2)) (v3 : (c : Dev Cert.RetInIdeal.nD) → Buf (Elt Ideal) ((c.tc : Thread Cert.RetInIdeal.nD Cert.RetInIdeal.τ).loc Cert.RetInIdeal.main_v22_3)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v22_0) = v0 c
          ∧ r.2.mem ((c.tc : Thread Cert.RetInIdeal.nD Cert.RetInIdeal.τ).loc Cert.RetInIdeal.main_v22_1) = v1 c
          ∧ r.2.mem ((c.tc : Thread Cert.RetInIdeal.nD Cert.RetInIdeal.τ).loc Cert.RetInIdeal.main_v22_2) = v2 c
          ∧ r.2.mem ((c.tc : Thread Cert.RetInIdeal.nD Cert.RetInIdeal.τ).loc Cert.RetInIdeal.main_v22_3) = v3 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
          ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2)
          ∧ r.2.mem ((c.tc : Thread Cert.RetInIdeal.nD Cert.RetInIdeal.τ).loc Cert.RetInIdeal.main_arg3) = m ((c.tc : Thread Cert.RetInIdeal.nD Cert.RetInIdeal.τ).loc Cert.RetInIdeal.main_arg3)
          ∧ r.2.mem ((c.tc : Thread Cert.RetInIdeal.nD Cert.RetInIdeal.τ).loc Cert.RetInIdeal.main_arg4) = m ((c.tc : Thread Cert.RetInIdeal.nD Cert.RetInIdeal.τ).loc Cert.RetInIdeal.main_arg4))
      ∧ θ_run (Cert.ReferenceRetInIdeal.defs (F := Ideal)) (onTc (τ := Cert.ReferenceRetInIdeal.τ) (Cert.ReferenceRetInIdeal.main (F := Ideal))) ⟨m', fun _ => 0, g'⟩ (fun r => ∀ c : Dev Cert.ReferenceRetInIdeal.nD,
          r.2.mem ((c.tc : Thread Cert.ReferenceRetInIdeal.nD Cert.ReferenceRetInIdeal.τ).loc Cert.ReferenceRetInIdeal.main_v111) = v0 c
          ∧ r.2.mem ((c.tc : Thread Cert.ReferenceRetInIdeal.nD Cert.ReferenceRetInIdeal.τ).loc Cert.ReferenceRetInIdeal.main_v113) = v1 c
          ∧ r.2.mem ((c.tc : Thread Cert.ReferenceRetInIdeal.nD Cert.ReferenceRetInIdeal.τ).loc Cert.ReferenceRetInIdeal.main_v115) = v2 c
          ∧ r.2.mem ((c.tc : Thread Cert.ReferenceRetInIdeal.nD Cert.ReferenceRetInIdeal.τ).loc Cert.ReferenceRetInIdeal.main_v117) = v3 c
          ∧ r.2.mem ((c.tc : Thread Cert.ReferenceRetInIdeal.nD Cert.ReferenceRetInIdeal.τ).loc Cert.ReferenceRetInIdeal.main_arg0) = m' ((c.tc : Thread Cert.ReferenceRetInIdeal.nD Cert.ReferenceRetInIdeal.τ).loc Cert.ReferenceRetInIdeal.main_arg0)
          ∧ r.2.mem ((c.tc : Thread Cert.ReferenceRetInIdeal.nD Cert.ReferenceRetInIdeal.τ).loc Cert.ReferenceRetInIdeal.main_arg1) = m' ((c.tc : Thread Cert.ReferenceRetInIdeal.nD Cert.ReferenceRetInIdeal.τ).loc Cert.ReferenceRetInIdeal.main_arg1)
          ∧ r.2.mem ((c.tc : Thread Cert.ReferenceRetInIdeal.nD Cert.ReferenceRetInIdeal.τ).loc Cert.ReferenceRetInIdeal.main_arg2) = m' ((c.tc : Thread Cert.ReferenceRetInIdeal.nD Cert.ReferenceRetInIdeal.τ).loc Cert.ReferenceRetInIdeal.main_arg2)
          ∧ r.2.mem ((c.tc : Thread Cert.ReferenceRetInIdeal.nD Cert.ReferenceRetInIdeal.τ).loc Cert.ReferenceRetInIdeal.main_arg3) = m' ((c.tc : Thread Cert.ReferenceRetInIdeal.nD Cert.ReferenceRetInIdeal.τ).loc Cert.ReferenceRetInIdeal.main_arg3)
          ∧ r.2.mem ((c.tc : Thread Cert.ReferenceRetInIdeal.nD Cert.ReferenceRetInIdeal.τ).loc Cert.ReferenceRetInIdeal.main_arg4) = m' ((c.tc : Thread Cert.ReferenceRetInIdeal.nD Cert.ReferenceRetInIdeal.τ).loc Cert.ReferenceRetInIdeal.main_arg4))

def preserves_MlaIn_MlaInIdeal : Prop :=
  IdealRules.named_const.Statement Cert.MlaInIdeal.κ "score_scale" .f32 0x3DD53B95#32 (((Real.sqrt 192)⁻¹ * (Real.log 2)⁻¹ : ℝ) : EReal)

def algebraic_MlaInIdeal_ReferenceMlaInIdeal [hMlaInIdeal : Cert.MlaInIdeal.Facts] [hReferenceMlaInIdeal : Cert.ReferenceMlaInIdeal.Facts] : Prop :=
  ∀ (m : (ℓ : Loc Cert.MlaInIdeal.nD Cert.MlaInIdeal.τ Cert.MlaInIdeal.sig) → Buf (Elt Ideal) ℓ) (g : Dev Cert.MlaInIdeal.nD → PrngReg)
    (m' : (ℓ : Loc Cert.ReferenceMlaInIdeal.nD Cert.ReferenceMlaInIdeal.τ Cert.ReferenceMlaInIdeal.sig) → Buf (Elt Ideal) ℓ) (g' : Dev Cert.ReferenceMlaInIdeal.nD → PrngReg), Pre_MlaInIdeal m →
    (∀ c : Dev Cert.MlaInIdeal.nD,
      m' ((c.tc : Thread Cert.ReferenceMlaInIdeal.nD Cert.ReferenceMlaInIdeal.τ).loc Cert.ReferenceMlaInIdeal.main_arg0) = m ((c.tc : Thread Cert.MlaInIdeal.nD Cert.MlaInIdeal.τ).loc Cert.MlaInIdeal.main_arg0)
      ∧ m' ((c.tc : Thread Cert.ReferenceMlaInIdeal.nD Cert.ReferenceMlaInIdeal.τ).loc Cert.ReferenceMlaInIdeal.main_arg1) = m ((c.tc : Thread Cert.MlaInIdeal.nD Cert.MlaInIdeal.τ).loc Cert.MlaInIdeal.main_arg1)
      ∧ m' ((c.tc : Thread Cert.ReferenceMlaInIdeal.nD Cert.ReferenceMlaInIdeal.τ).loc Cert.ReferenceMlaInIdeal.main_arg2) = m ((c.tc : Thread Cert.MlaInIdeal.nD Cert.MlaInIdeal.τ).loc Cert.MlaInIdeal.main_arg2)
      ∧ m' ((c.tc : Thread Cert.ReferenceMlaInIdeal.nD Cert.ReferenceMlaInIdeal.τ).loc Cert.ReferenceMlaInIdeal.main_arg3) = m ((c.tc : Thread Cert.MlaInIdeal.nD Cert.MlaInIdeal.τ).loc Cert.MlaInIdeal.main_arg3)
      ∧ m' ((c.tc : Thread Cert.ReferenceMlaInIdeal.nD Cert.ReferenceMlaInIdeal.τ).loc Cert.ReferenceMlaInIdeal.main_arg4) = m ((c.tc : Thread Cert.MlaInIdeal.nD Cert.MlaInIdeal.τ).loc Cert.MlaInIdeal.main_arg4)
      ∧ m' ((c.tc : Thread Cert.ReferenceMlaInIdeal.nD Cert.ReferenceMlaInIdeal.τ).loc Cert.ReferenceMlaInIdeal.main_arg5) = m ((c.tc : Thread Cert.MlaInIdeal.nD Cert.MlaInIdeal.τ).loc Cert.MlaInIdeal.main_arg5)
      ∧ m' ((c.tc : Thread Cert.ReferenceMlaInIdeal.nD Cert.ReferenceMlaInIdeal.τ).loc Cert.ReferenceMlaInIdeal.main_arg6) = m ((c.tc : Thread Cert.MlaInIdeal.nD Cert.MlaInIdeal.τ).loc Cert.MlaInIdeal.main_arg6)
      ∧ m' ((c.tc : Thread Cert.ReferenceMlaInIdeal.nD Cert.ReferenceMlaInIdeal.τ).loc Cert.ReferenceMlaInIdeal.main_arg7) = m ((c.tc : Thread Cert.MlaInIdeal.nD Cert.MlaInIdeal.τ).loc Cert.MlaInIdeal.main_arg7)
      ∧ m' ((c.tc : Thread Cert.ReferenceMlaInIdeal.nD Cert.ReferenceMlaInIdeal.τ).loc Cert.ReferenceMlaInIdeal.main_arg8) = m ((c.tc : Thread Cert.MlaInIdeal.nD Cert.MlaInIdeal.τ).loc Cert.MlaInIdeal.main_arg8)) →
    ∃ (v0 : (c : Dev Cert.MlaInIdeal.nD) → Buf (Elt Ideal) ((c.tc : Thread Cert.MlaInIdeal.nD Cert.MlaInIdeal.τ).loc Cert.MlaInIdeal.main_v47_0)) (v1 : (c : Dev Cert.MlaInIdeal.nD) → Buf (Elt Ideal) ((c.tc : Thread Cert.MlaInIdeal.nD Cert.MlaInIdeal.τ).loc Cert.MlaInIdeal.main_v47_1)) (v2 : (c : Dev Cert.MlaInIdeal.nD) → Buf (Elt Ideal) ((c.tc : Thread Cert.MlaInIdeal.nD Cert.MlaInIdeal.τ).loc Cert.MlaInIdeal.main_v47_2)),
      θ_run (Cert.MlaInIdeal.defs (F := Ideal)) (onTc (τ := Cert.MlaInIdeal.τ) (Cert.MlaInIdeal.main (F := Ideal))) ⟨m, fun _ => 0, g⟩ (fun r => ∀ c : Dev Cert.MlaInIdeal.nD,
          r.2.mem ((c.tc : Thread Cert.MlaInIdeal.nD Cert.MlaInIdeal.τ).loc Cert.MlaInIdeal.main_v47_0) = v0 c
          ∧ r.2.mem ((c.tc : Thread Cert.MlaInIdeal.nD Cert.MlaInIdeal.τ).loc Cert.MlaInIdeal.main_v47_1) = v1 c
          ∧ r.2.mem ((c.tc : Thread Cert.MlaInIdeal.nD Cert.MlaInIdeal.τ).loc Cert.MlaInIdeal.main_v47_2) = v2 c
          ∧ r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
          ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
          ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
          ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3)
          ∧ r.2.mem ((c.tc : Thread Cert.MlaInIdeal.nD Cert.MlaInIdeal.τ).loc Cert.MlaInIdeal.main_arg4) = m ((c.tc : Thread Cert.MlaInIdeal.nD Cert.MlaInIdeal.τ).loc Cert.MlaInIdeal.main_arg4)
          ∧ r.2.mem ((c.tc : Thread Cert.MlaInIdeal.nD Cert.MlaInIdeal.τ).loc Cert.MlaInIdeal.main_arg5) = m ((c.tc : Thread Cert.MlaInIdeal.nD Cert.MlaInIdeal.τ).loc Cert.MlaInIdeal.main_arg5)
          ∧ r.2.mem ((c.tc : Thread Cert.MlaInIdeal.nD Cert.MlaInIdeal.τ).loc Cert.MlaInIdeal.main_arg6) = m ((c.tc : Thread Cert.MlaInIdeal.nD Cert.MlaInIdeal.τ).loc Cert.MlaInIdeal.main_arg6)
          ∧ r.2.mem ((c.tc : Thread Cert.MlaInIdeal.nD Cert.MlaInIdeal.τ).loc Cert.MlaInIdeal.main_arg7) = m ((c.tc : Thread Cert.MlaInIdeal.nD Cert.MlaInIdeal.τ).loc Cert.MlaInIdeal.main_arg7)
          ∧ r.2.mem ((c.tc : Thread Cert.MlaInIdeal.nD Cert.MlaInIdeal.τ).loc Cert.MlaInIdeal.main_arg8) = m ((c.tc : Thread Cert.MlaInIdeal.nD Cert.MlaInIdeal.τ).loc Cert.MlaInIdeal.main_arg8))
      ∧ θ_run (Cert.ReferenceMlaInIdeal.defs (F := Ideal)) (onTc (τ := Cert.ReferenceMlaInIdeal.τ) (Cert.ReferenceMlaInIdeal.main (F := Ideal))) ⟨m', fun _ => 0, g'⟩ (fun r => ∀ c : Dev Cert.ReferenceMlaInIdeal.nD,
          r.2.mem ((c.tc : Thread Cert.ReferenceMlaInIdeal.nD Cert.ReferenceMlaInIdeal.τ).loc Cert.ReferenceMlaInIdeal.main_v151) = v0 c
          ∧ r.2.mem ((c.tc : Thread Cert.ReferenceMlaInIdeal.nD Cert.ReferenceMlaInIdeal.τ).loc Cert.ReferenceMlaInIdeal.main_v155) = v1 c
          ∧ r.2.mem ((c.tc : Thread Cert.ReferenceMlaInIdeal.nD Cert.ReferenceMlaInIdeal.τ).loc Cert.ReferenceMlaInIdeal.main_v157) = v2 c
          ∧ r.2.mem ((c.tc : Thread Cert.ReferenceMlaInIdeal.nD Cert.ReferenceMlaInIdeal.τ).loc Cert.ReferenceMlaInIdeal.main_arg0) = m' ((c.tc : Thread Cert.ReferenceMlaInIdeal.nD Cert.ReferenceMlaInIdeal.τ).loc Cert.ReferenceMlaInIdeal.main_arg0)
          ∧ r.2.mem ((c.tc : Thread Cert.ReferenceMlaInIdeal.nD Cert.ReferenceMlaInIdeal.τ).loc Cert.ReferenceMlaInIdeal.main_arg1) = m' ((c.tc : Thread Cert.ReferenceMlaInIdeal.nD Cert.ReferenceMlaInIdeal.τ).loc Cert.ReferenceMlaInIdeal.main_arg1)
          ∧ r.2.mem ((c.tc : Thread Cert.ReferenceMlaInIdeal.nD Cert.ReferenceMlaInIdeal.τ).loc Cert.ReferenceMlaInIdeal.main_arg2) = m' ((c.tc : Thread Cert.ReferenceMlaInIdeal.nD Cert.ReferenceMlaInIdeal.τ).loc Cert.ReferenceMlaInIdeal.main_arg2)
          ∧ r.2.mem ((c.tc : Thread Cert.ReferenceMlaInIdeal.nD Cert.ReferenceMlaInIdeal.τ).loc Cert.ReferenceMlaInIdeal.main_arg3) = m' ((c.tc : Thread Cert.ReferenceMlaInIdeal.nD Cert.ReferenceMlaInIdeal.τ).loc Cert.ReferenceMlaInIdeal.main_arg3)
          ∧ r.2.mem ((c.tc : Thread Cert.ReferenceMlaInIdeal.nD Cert.ReferenceMlaInIdeal.τ).loc Cert.ReferenceMlaInIdeal.main_arg4) = m' ((c.tc : Thread Cert.ReferenceMlaInIdeal.nD Cert.ReferenceMlaInIdeal.τ).loc Cert.ReferenceMlaInIdeal.main_arg4)
          ∧ r.2.mem ((c.tc : Thread Cert.ReferenceMlaInIdeal.nD Cert.ReferenceMlaInIdeal.τ).loc Cert.ReferenceMlaInIdeal.main_arg5) = m' ((c.tc : Thread Cert.ReferenceMlaInIdeal.nD Cert.ReferenceMlaInIdeal.τ).loc Cert.ReferenceMlaInIdeal.main_arg5)
          ∧ r.2.mem ((c.tc : Thread Cert.ReferenceMlaInIdeal.nD Cert.ReferenceMlaInIdeal.τ).loc Cert.ReferenceMlaInIdeal.main_arg6) = m' ((c.tc : Thread Cert.ReferenceMlaInIdeal.nD Cert.ReferenceMlaInIdeal.τ).loc Cert.ReferenceMlaInIdeal.main_arg6)
          ∧ r.2.mem ((c.tc : Thread Cert.ReferenceMlaInIdeal.nD Cert.ReferenceMlaInIdeal.τ).loc Cert.ReferenceMlaInIdeal.main_arg7) = m' ((c.tc : Thread Cert.ReferenceMlaInIdeal.nD Cert.ReferenceMlaInIdeal.τ).loc Cert.ReferenceMlaInIdeal.main_arg7)
          ∧ r.2.mem ((c.tc : Thread Cert.ReferenceMlaInIdeal.nD Cert.ReferenceMlaInIdeal.τ).loc Cert.ReferenceMlaInIdeal.main_arg8) = m' ((c.tc : Thread Cert.ReferenceMlaInIdeal.nD Cert.ReferenceMlaInIdeal.τ).loc Cert.ReferenceMlaInIdeal.main_arg8))

def preserves_Modulation_ModulationIdeal : Prop :=
  True

def algebraic_ModulationIdeal_ReferenceModulationIdeal [hModulationIdeal : Cert.ModulationIdeal.Facts] [hReferenceModulationIdeal : Cert.ReferenceModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ReferenceModulationIdeal.nD Cert.ReferenceModulationIdeal.τ Cert.ReferenceModulationIdeal.sig) → Buf (Elt Ideal) ℓ) (g' : Dev Cert.ReferenceModulationIdeal.nD → PrngReg), Pre_ModulationIdeal m →
    (∀ c : Dev Cert.ModulationIdeal.nD,
      m' ((c.tc : Thread Cert.ReferenceModulationIdeal.nD Cert.ReferenceModulationIdeal.τ).loc Cert.ReferenceModulationIdeal.main_arg0) = m ((c.tc : Thread Cert.ModulationIdeal.nD Cert.ModulationIdeal.τ).loc Cert.ModulationIdeal.main_arg0)
      ∧ m' ((c.tc : Thread Cert.ReferenceModulationIdeal.nD Cert.ReferenceModulationIdeal.τ).loc Cert.ReferenceModulationIdeal.main_arg1) = m ((c.tc : Thread Cert.ModulationIdeal.nD Cert.ModulationIdeal.τ).loc Cert.ModulationIdeal.main_arg1)
      ∧ m' ((c.tc : Thread Cert.ReferenceModulationIdeal.nD Cert.ReferenceModulationIdeal.τ).loc Cert.ReferenceModulationIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ReferenceModulationIdeal.defs (F := Ideal)) (onTc (τ := Cert.ReferenceModulationIdeal.τ) (Cert.ReferenceModulationIdeal.main (F := Ideal))) ⟨m', fun _ => 0, g'⟩ (fun r => ∀ c : Dev Cert.ReferenceModulationIdeal.nD,
          r.2.mem ((c.tc : Thread Cert.ReferenceModulationIdeal.nD Cert.ReferenceModulationIdeal.τ).loc Cert.ReferenceModulationIdeal.main_v40) = v0 c
          ∧ r.2.mem ((c.tc : Thread Cert.ReferenceModulationIdeal.nD Cert.ReferenceModulationIdeal.τ).loc Cert.ReferenceModulationIdeal.main_arg0) = m' ((c.tc : Thread Cert.ReferenceModulationIdeal.nD Cert.ReferenceModulationIdeal.τ).loc Cert.ReferenceModulationIdeal.main_arg0)
          ∧ r.2.mem ((c.tc : Thread Cert.ReferenceModulationIdeal.nD Cert.ReferenceModulationIdeal.τ).loc Cert.ReferenceModulationIdeal.main_arg1) = m' ((c.tc : Thread Cert.ReferenceModulationIdeal.nD Cert.ReferenceModulationIdeal.τ).loc Cert.ReferenceModulationIdeal.main_arg1)
          ∧ r.2.mem ((c.tc : Thread Cert.ReferenceModulationIdeal.nD Cert.ReferenceModulationIdeal.τ).loc Cert.ReferenceModulationIdeal.main_arg2) = m' ((c.tc : Thread Cert.ReferenceModulationIdeal.nD Cert.ReferenceModulationIdeal.τ).loc Cert.ReferenceModulationIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hReferenceFfnIdeal : Cert.ReferenceFfnIdeal.Facts) (hPre : Cert.Pre.Facts) (hPreIdeal : Cert.PreIdeal.Facts) (hReferencePreIdeal : Cert.ReferencePreIdeal.Facts) (hFinal : Cert.Final.Facts) (hFinalIdeal : Cert.FinalIdeal.Facts) (hReferenceFinalIdeal : Cert.ReferenceFinalIdeal.Facts) (hGated : Cert.Gated.Facts) (hGatedIdeal : Cert.GatedIdeal.Facts) (hReferenceGatedIdeal : Cert.ReferenceGatedIdeal.Facts) (hRetIn : Cert.RetIn.Facts) (hRetInIdeal : Cert.RetInIdeal.Facts) (hReferenceRetInIdeal : Cert.ReferenceRetInIdeal.Facts) (hMlaIn : Cert.MlaIn.Facts) (hMlaInIdeal : Cert.MlaInIdeal.Facts) (hReferenceMlaInIdeal : Cert.ReferenceMlaInIdeal.Facts) (hModulation : Cert.Modulation.Facts) (hModulationIdeal : Cert.ModulationIdeal.Facts) (hReferenceModulationIdeal : Cert.ReferenceModulationIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_ReferenceFfnIdeal (hReferenceFfnIdeal := hReferenceFfnIdeal)
    ∧ quiescent_Pre (hPre := hPre)
    ∧ quiescent_PreIdeal (hPreIdeal := hPreIdeal)
    ∧ quiescent_ReferencePreIdeal (hReferencePreIdeal := hReferencePreIdeal)
    ∧ quiescent_Final (hFinal := hFinal)
    ∧ quiescent_FinalIdeal (hFinalIdeal := hFinalIdeal)
    ∧ quiescent_ReferenceFinalIdeal (hReferenceFinalIdeal := hReferenceFinalIdeal)
    ∧ quiescent_Gated (hGated := hGated)
    ∧ quiescent_GatedIdeal (hGatedIdeal := hGatedIdeal)
    ∧ quiescent_ReferenceGatedIdeal (hReferenceGatedIdeal := hReferenceGatedIdeal)
    ∧ quiescent_RetIn (hRetIn := hRetIn)
    ∧ quiescent_RetInIdeal (hRetInIdeal := hRetInIdeal)
    ∧ quiescent_ReferenceRetInIdeal (hReferenceRetInIdeal := hReferenceRetInIdeal)
    ∧ quiescent_MlaIn (hMlaIn := hMlaIn)
    ∧ quiescent_MlaInIdeal (hMlaInIdeal := hMlaInIdeal)
    ∧ quiescent_ReferenceMlaInIdeal (hReferenceMlaInIdeal := hReferenceMlaInIdeal)
    ∧ quiescent_Modulation (hModulation := hModulation)
    ∧ quiescent_ModulationIdeal (hModulationIdeal := hModulationIdeal)
    ∧ quiescent_ReferenceModulationIdeal (hReferenceModulationIdeal := hReferenceModulationIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_ReferenceFfnIdeal (hFfnIdeal := hFfnIdeal) (hReferenceFfnIdeal := hReferenceFfnIdeal)
    ∧ preserves_Pre_PreIdeal
    ∧ algebraic_PreIdeal_ReferencePreIdeal (hPreIdeal := hPreIdeal) (hReferencePreIdeal := hReferencePreIdeal)
    ∧ preserves_Final_FinalIdeal
    ∧ algebraic_FinalIdeal_ReferenceFinalIdeal (hFinalIdeal := hFinalIdeal) (hReferenceFinalIdeal := hReferenceFinalIdeal)
    ∧ preserves_Gated_GatedIdeal
    ∧ algebraic_GatedIdeal_ReferenceGatedIdeal (hGatedIdeal := hGatedIdeal) (hReferenceGatedIdeal := hReferenceGatedIdeal)
    ∧ preserves_RetIn_RetInIdeal
    ∧ algebraic_RetInIdeal_ReferenceRetInIdeal (hRetInIdeal := hRetInIdeal) (hReferenceRetInIdeal := hReferenceRetInIdeal)
    ∧ preserves_MlaIn_MlaInIdeal
    ∧ algebraic_MlaInIdeal_ReferenceMlaInIdeal (hMlaInIdeal := hMlaInIdeal) (hReferenceMlaInIdeal := hReferenceMlaInIdeal)
    ∧ preserves_Modulation_ModulationIdeal
    ∧ algebraic_ModulationIdeal_ReferenceModulationIdeal (hModulationIdeal := hModulationIdeal) (hReferenceModulationIdeal := hReferenceModulationIdeal)
-- ==== Pre_finite_scores.lean ====
abbrev S8x4096x8x128 : Shape := ⟨4, ![8, 4096, 8, 128]⟩
abbrev S8x4096x8x64 : Shape := ⟨4, ![8, 4096, 8, 64]⟩
abbrev S8x4096x64 : Shape := ⟨3, ![8, 4096, 64]⟩
abbrev S_ : Shape := ⟨0, ![]⟩

class Facts : Prop where
  bcast_S_S8x4096x8x128 : S_.BroadcastsInDim S8x4096x8x128 (![] : Fin 0 → Fin S8x4096x8x128.rank)
  bcast_S_S8x4096x8x64 : S_.BroadcastsInDim S8x4096x8x64 (![] : Fin 0 → Fin S8x4096x8x64.rank)
  bcast_S_S8x4096x64 : S_.BroadcastsInDim S8x4096x64 (![] : Fin 0 → Fin S8x4096x64.rank)

variable [Facts]

def fn {F : FTy → Type} [FloatOps F] (main_arg0 : FVec F S8x4096x8x128 .f32) (main_arg1 : FVec F S8x4096x8x64 .f32) (main_arg2 : FVec F S8x4096x8x128 .f32) (main_arg3 : FVec F S8x4096x64 .f32) (main_arg4 : FVec F S8x4096x8x128 .f32) : IVec S8x4096x8x128 1 × IVec S8x4096x8x64 1 × IVec S8x4096x8x128 1 × IVec S8x4096x64 1 :=
  let main_v0 : FVec F S8x4096x8x128 .f32 := Host.absf main_arg0
  let main_cst : FVec F S_ .f32 := constant S_ .f32 0x7F800000#32
  let main_v1 : FVec F S8x4096x8x128 .f32 := broadcastInDim S8x4096x8x128 ![] bcast_S_S8x4096x8x128 main_cst
  let main_v2 : IVec S8x4096x8x128 1 := cmpf .olt main_v0 main_v1
  let main_v3 : FVec F S8x4096x8x64 .f32 := Host.absf main_arg1
  let main_cst_0 : FVec F S_ .f32 := constant S_ .f32 0x7F800000#32
  let main_v4 : FVec F S8x4096x8x64 .f32 := broadcastInDim S8x4096x8x64 ![] bcast_S_S8x4096x8x64 main_cst_0
  let main_v5 : IVec S8x4096x8x64 1 := cmpf .olt main_v3 main_v4
  let main_v6 : FVec F S8x4096x8x128 .f32 := Host.absf main_arg2
  let main_cst_1 : FVec F S_ .f32 := constant S_ .f32 0x7F800000#32
  let main_v7 : FVec F S8x4096x8x128 .f32 := broadcastInDim S8x4096x8x128 ![] bcast_S_S8x4096x8x128 main_cst_1
  let main_v8 : IVec S8x4096x8x128 1 := cmpf .olt main_v6 main_v7
  let main_v9 : FVec F S8x4096x64 .f32 := Host.absf main_arg3
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  (main_v2, main_v5, main_v8, main_v11)
-- ==== Kernel.lean ====
abbrev S8x4096x8x128 : Shape := ⟨4, ![8, 4096, 8, 128]⟩
abbrev S8x4096x8x64 : Shape := ⟨4, ![8, 4096, 8, 64]⟩
abbrev S8x4096x64 : Shape := ⟨3, ![8, 4096, 64]⟩
abbrev S_ : Shape := ⟨0, ![]⟩
abbrev S8x4096x8x192 : Shape := ⟨4, ![8, 4096, 8, 192]⟩
abbrev S32768x8x192 : Shape := ⟨3, ![32768, 8, 192]⟩
abbrev S8x32768x192 : Shape := ⟨3, ![8, 32768, 192]⟩
abbrev S8x4096x1x64 : Shape := ⟨4, ![8, 4096, 1, 64]⟩
abbrev S32768x1024 : Shape := ⟨2, ![32768, 1024]⟩
abbrev S1x2048x192 : Shape := ⟨3, ![1, 2048, 192]⟩
abbrev S1x4096x192 : Shape := ⟨3, ![1, 4096, 192]⟩
abbrev S4096x128 : Shape := ⟨2, ![4096, 128]⟩
abbrev S2048x128 : Shape := ⟨2, ![2048, 128]⟩
abbrev S2048x192 : Shape := ⟨2, ![2048, 192]⟩
abbrev S1x1024x192 : Shape := ⟨3, ![1, 1024, 192]⟩
abbrev S1024x192 : Shape := ⟨2, ![1024, 192]⟩
abbrev S2048x1024 : Shape := ⟨2, ![2048, 1024]⟩
abbrev S2048 : Shape := ⟨1, ![2048]⟩
abbrev S2048x1 : Shape := ⟨2, ![2048, 1]⟩
abbrev S1024x128 : Shape := ⟨2, ![1024, 128]⟩

abbrev nBuf : Space → Nat
  | .hbm => 24
  | .vmem => 8
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x8x64, .f32⟩
  | .hbm, ⟨2, _⟩ => ⟨S8x4096x8x128, .f32⟩
  | .hbm, ⟨3, _⟩ => ⟨S8x4096x64, .f32⟩
  | .hbm, ⟨4, _⟩ => ⟨S8x4096x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4096x8x192, .f32⟩
  | .hbm, ⟨10, _⟩ => ⟨S8x4096x8x192, .f32⟩
  | .hbm, ⟨11, _⟩ => ⟨S8x4096x8x192, .f32⟩
  | .hbm, ⟨12, _⟩ => ⟨S8x4096x8x192, .bf16⟩
  | .hbm, ⟨13, _⟩ => ⟨S32768x8x192, .bf16⟩
  | .hbm, ⟨14, _⟩ => ⟨S8x32768x192, .bf16⟩
  | .hbm, ⟨15, _⟩ => ⟨S8x4096x1x64, .f32⟩
  | .hbm, ⟨16, _⟩ => ⟨S8x4096x8x64, .f32⟩
  | .hbm, ⟨17, _⟩ => ⟨S8x4096x8x192, .f32⟩
  | .hbm, ⟨18, _⟩ => ⟨S8x4096x8x192, .bf16⟩
  | .hbm, ⟨19, _⟩ => ⟨S32768x8x192, .bf16⟩
  | .hbm, ⟨20, _⟩ => ⟨S8x32768x192, .bf16⟩
  | .hbm, ⟨21, _⟩ => ⟨S8x4096x8x128, .bf16⟩
  | .hbm, ⟨22, _⟩ => ⟨S32768x1024, .bf16⟩
  | .hbm, ⟨23, _⟩ => ⟨S32768x1024, .bf16⟩
  | .local _ .vmem, ⟨0, _⟩ => ⟨S1x2048x192, .bf16⟩
  | .local _ .vmem, ⟨1, _⟩ => ⟨S1x2048x192, .bf16⟩
  | .local _ .vmem, ⟨2, _⟩ => ⟨S1x4096x192, .bf16⟩
  | .local _ .vmem, ⟨3, _⟩ => ⟨S1x4096x192, .bf16⟩
  | .local _ .vmem, ⟨4, _⟩ => ⟨S4096x128, .bf16⟩
  | .local _ .vmem, ⟨5, _⟩ => ⟨S4096x128, .bf16⟩
  | .local _ .vmem, ⟨6, _⟩ => ⟨S2048x128, .bf16⟩
  | .local _ .vmem, ⟨7, _⟩ => ⟨S2048x128, .bf16⟩
  | _, _ => ⟨S8x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x8x128 : Shape := ⟨4, ![8, 4096, 8, 128]⟩
abbrev S8x4096x8x64 : Shape := ⟨4, ![8, 4096, 8, 64]⟩
abbrev S8x4096x64 : Shape := ⟨3, ![8, 4096, 64]⟩
abbrev S8x8x4096x4096 : Shape := ⟨4, ![8, 8, 4096, 4096]⟩
abbrev S8x4096x4096x8 : Shape := ⟨4, ![8, 4096, 4096, 8]⟩
abbrev S_ : Shape := ⟨0, ![]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S32768x1024 : Shape := ⟨2, ![32768, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x8x64, .f32⟩
  | .hbm, ⟨2, _⟩ => ⟨S8x4096x8x128, .f32⟩
  | .hbm, ⟨3, _⟩ => ⟨S8x4096x64, .f32⟩
  | .hbm, ⟨4, _⟩ => ⟨S8x4096x8x128, .f32⟩
  | .hbm, ⟨5, _⟩ => ⟨S8x8x4096x4096, .f32⟩
  | .hbm, ⟨6, _⟩ => ⟨S8x4096x4096x8, .f32⟩
  | .hbm, ⟨7, _⟩ => ⟨S8x8x4096x4096, .f32⟩
  | .hbm, ⟨8, _⟩ => ⟨S8x8x4096x4096, .f32⟩
  | .hbm, ⟨9, _⟩ => ⟨S_, .f32⟩
  | .hbm, ⟨10, _⟩ => ⟨S8x8x4096x4096, .f32⟩
  | .hbm, ⟨11, _⟩ => ⟨S8x8x4096x4096, .f32⟩
  | .hbm, ⟨12, _⟩ => ⟨S_, .f32⟩
  | .hbm, ⟨13, _⟩ => ⟨S8x8x4096, .f32⟩
  | .hbm, ⟨14, _⟩ => ⟨S_, .f32⟩
  | .hbm, ⟨15, _⟩ => ⟨S8x8x4096, .f32⟩
  | .hbm, ⟨16, _⟩ => ⟨S8x8x4096, .f32⟩
  | .hbm, ⟨17, _⟩ => ⟨S8x8x4096x1, .f32⟩
  | .hbm, ⟨18, _⟩ => ⟨S8x8x4096x4096, .f32⟩
  | .hbm, ⟨19, _⟩ => ⟨S8x8x4096x4096, .f32⟩
  | .hbm, ⟨20, _⟩ => ⟨S8x8x4096x4096, .f32⟩
  | .hbm, ⟨21, _⟩ => ⟨S_, .f32⟩
  | .hbm, ⟨22, _⟩ => ⟨S8x8x4096, .f32⟩
  | .hbm, ⟨23, _⟩ => ⟨S8x8x4096x1, .f32⟩
  | .hbm, ⟨24, _⟩ => ⟨S8x8x4096x4096, .f32⟩
  | .hbm, ⟨25, _⟩ => ⟨S8x8x4096x4096, .f32⟩
  | .hbm, ⟨26, _⟩ => ⟨S8x8x128x4096, .f32⟩
  | .hbm, ⟨27, _⟩ => ⟨S8x4096x8x128, .f32⟩
  | .hbm, ⟨28, _⟩ => ⟨S32768x1024, .f32⟩
  | .hbm, ⟨29, _⟩ => ⟨S32768x1024, .bf16⟩
  | _, _ => ⟨S8x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Ffn.lean ====
abbrev S8x4096x1024 : Shape := ⟨3, ![8, 4096, 1024]⟩
abbrev S4x8x9216 : Shape := ⟨3, ![4, 8, 9216]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S4x8x3x3x1024 : Shape := ⟨5, ![4, 8, 3, 3, 1024]⟩
abbrev S4x3x1x1024 : Shape := ⟨4, ![4, 3, 1, 1024]⟩
abbrev S1024x1024 : Shape := ⟨2, ![1024, 1024]⟩
abbrev S1x1x1x3x1024 : Shape := ⟨5, ![1, 1, 1, 3, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S3x1024 : Shape := ⟨2, ![3, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1x1x1024x2816 : Shape := ⟨4, ![1, 1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 11
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S4x8x9216, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S32768x1024, .f32⟩
  | .hbm, ⟨6, _⟩ => ⟨S4x8x3x3x1024, .f32⟩
  | .hbm, ⟨7, _⟩ => ⟨S4x3x1x1024, .f32⟩
  | .hbm, ⟨8, _⟩ => ⟨S4x2x1024x5632, .bf16⟩
  | .hbm, ⟨9, _⟩ => ⟨S4x2x2816x1024, .bf16⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1x3x1024, .f32⟩
  | .local _ .vmem, ⟨3, _⟩ => ⟨S1x1x1x3x1024, .f32⟩
  | .local _ .vmem, ⟨4, _⟩ => ⟨S1x1x1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v16.toNat, c0_i32_5.toNat, c0_i32_6.toNat, c0_i32_7.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfnIdeal.lean ====
abbrev S8x4096x1024 : Shape := ⟨3, ![8, 4096, 1024]⟩
abbrev S4x8x9216 : Shape := ⟨3, ![4, 8, 9216]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x8x9216 : Shape := ⟨3, ![1, 8, 9216]⟩
abbrev S8x9216 : Shape := ⟨2, ![8, 9216]⟩
abbrev S8x1024 : Shape := ⟨2, ![8, 1024]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S8x1x1024 : Shape := ⟨3, ![8, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x8x9216, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S1x8x9216, .f32⟩
  | .hbm, ⟨6, _⟩ => ⟨S8x9216, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S1x1x1024, .f32⟩
  | .hbm, ⟨17, _⟩ => ⟨S1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S8x1x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x1x1024, .f32⟩
  | .hbm, ⟨41, _⟩ => ⟨S8x4096x1024, .f32⟩
  | .hbm, ⟨42, _⟩ => ⟨S8x4096x1024, .f32⟩
  | .hbm, ⟨43, _⟩ => ⟨S8x1x1024, .f32⟩
  | .hbm, ⟨44, _⟩ => ⟨S_, .f32⟩
  | .hbm, ⟨45, _⟩ => ⟨S8x1x1024, .f32⟩
  | .hbm, ⟨46, _⟩ => ⟨S8x1x1024, .f32⟩
  | .hbm, ⟨47, _⟩ => ⟨S1x1x1024x5632, .f32⟩
  | .hbm, ⟨48, _⟩ => ⟨S1024x5632, .f32⟩
  | .hbm, ⟨49, _⟩ => ⟨S1x1x2816x1024, .f32⟩
  | .hbm, ⟨50, _⟩ => ⟨S2816x1024, .f32⟩
  | .hbm, ⟨51, _⟩ => ⟨S8x4096x5632, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S_, .f32⟩
  | .hbm, ⟨57, _⟩ => ⟨S8x4096x2816, .f32⟩
  | .hbm, ⟨58, _⟩ => ⟨S8x4096x2816, .f32⟩
  | .hbm, ⟨59, _⟩ => ⟨S_, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Pre.lean ====
abbrev S8x4096x1024 : Shape := ⟨3, ![8, 4096, 1024]⟩
abbrev S8x4096x8x128 : Shape := ⟨4, ![8, 4096, 8, 128]⟩
abbrev S4x8x9216 : Shape := ⟨3, ![4, 8, 9216]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x1024x1024 : Shape := ⟨3, ![2, 1024, 1024]⟩
abbrev S32768x1024 : Shape := ⟨2, ![32768, 1024]⟩
abbrev S4x8x3x3x1024 : Shape := ⟨5, ![4, 8, 3, 3, 1024]⟩
abbrev S4x3x1x1024 : Shape := ⟨4, ![4, 3, 1, 1024]⟩
abbrev S1024x1024 : Shape := ⟨2, ![1024, 1024]⟩
abbrev S1x1024x1024 : Shape := ⟨3, ![1, 1024, 1024]⟩
abbrev S1x1x1x3x1024 : Shape := ⟨5, ![1, 1, 1, 3, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S3x1024 : Shape := ⟨2, ![3, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1x1x1024x2816 : Shape := ⟨4, ![1, 1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 16
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x4096x8x128, .f32⟩
  | .hbm, ⟨2, _⟩ => ⟨S4x8x9216, .f32⟩
  | .hbm, ⟨3, _⟩ => ⟨S4x3x1024, .f32⟩
  | .hbm, ⟨4, _⟩ => ⟨S4x2x1024x5632, .f32⟩
  | .hbm, ⟨5, _⟩ => ⟨S4x2x2816x1024, .f32⟩
  | .hbm, ⟨6, _⟩ => ⟨S2x1024x1024, .f32⟩
  | .hbm, ⟨7, _⟩ => ⟨S32768x1024, .f32⟩
  | .hbm, ⟨8, _⟩ => ⟨S4x8x3x3x1024, .f32⟩
  | .hbm, ⟨9, _⟩ => ⟨S4x3x1x1024, .f32⟩
  | .hbm, ⟨10, _⟩ => ⟨S4x2x1024x5632, .bf16⟩
  | .hbm, ⟨11, _⟩ => ⟨S4x2x2816x1024, .bf16⟩
  | .hbm, ⟨12, _⟩ => ⟨S8x4096x8x128, .bf16⟩
  | .hbm, ⟨13, _⟩ => ⟨S32768x1024, .bf16⟩
  | .hbm, ⟨14, _⟩ => ⟨S2x1024x1024, .bf16⟩
  | .hbm, ⟨15, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1x1x3x1024, .f32⟩
  | .local _ .vmem, ⟨6, _⟩ => ⟨S1x1x1x3x1024, .f32⟩
  | .local _ .vmem, ⟨7, _⟩ => ⟨S1x1x1x3x1024, .f32⟩
  | .local _ .vmem, ⟨8, _⟩ => ⟨S1x1x1x3x1024, .f32⟩
  | .local _ .vmem, ⟨9, _⟩ => ⟨S1x1x1x1024, .f32⟩
  | .local _ .vmem, ⟨10, _⟩ => ⟨S1x1x1024x5632, .bf16⟩
  | .local _ .vmem, ⟨11, _⟩ => ⟨S1x1x2816x1024, .bf16⟩
  | .local _ .vmem, ⟨12, _⟩ => ⟨S1024x1024, .f32⟩
  | .local _ .vmem, ⟨13, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c1_i32_5 : BitVec 32 := 1#32
  let c0_i32_6 : BitVec 32 := 0#32
  let c0_i32_7 : BitVec 32 := 0#32
  let c0_i32_8 : BitVec 32 := 0#32
  ![c1_i32_4.toNat, v16.toNat, c1_i32_5.toNat, c0_i32_6.toNat, c0_i32_7.toNat]

def cc0_transform_4 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c2_i32 : BitVec 32 := 2#32
  let c0_i32_5 : BitVec 32 := 0#32
  let c0_i32_6 : BitVec 32 := 0#32
  let c0_i32_7 : BitVec 32 := 0#32
  ![c1_i32_4.toNat, v16.toNat, c2_i32.toNat, c0_i32_5.toNat, c0_i32_6.toNat]

def cc0_transform_5 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_6 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferencePreIdeal.lean ====
abbrev S8x4096x1024 : Shape := ⟨3, ![8, 4096, 1024]⟩
abbrev S8x4096x8x128 : Shape := ⟨4, ![8, 4096, 8, 128]⟩
abbrev S4x8x9216 : Shape := ⟨3, ![4, 8, 9216]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x1024x1024 : Shape := ⟨3, ![2, 1024, 1024]⟩
abbrev S1x8x9216 : Shape := ⟨3, ![1, 8, 9216]⟩
abbrev S8x9216 : Shape := ⟨2, ![8, 9216]⟩
abbrev S8x1024 : Shape := ⟨2, ![8, 1024]⟩
abbrev S1x1024x1024 : Shape := ⟨3, ![1, 1024, 1024]⟩
abbrev S1024x1024 : Shape := ⟨2, ![1024, 1024]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x8x128, .f32⟩
  | .hbm, ⟨2, _⟩ => ⟨S4x8x9216, .f32⟩
  | .hbm, ⟨3, _⟩ => ⟨S4x3x1024, .f32⟩
  | .hbm, ⟨4, _⟩ => ⟨S4x2x1024x5632, .f32⟩
  | .hbm, ⟨5, _⟩ => ⟨S4x2x2816x1024, .f32⟩
  | .hbm, ⟨6, _⟩ => ⟨S2x1024x1024, .f32⟩
  | .hbm, ⟨7, _⟩ => ⟨S1x8x9216, .f32⟩
  | .hbm, ⟨8, _⟩ => ⟨S8x9216, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x4096x1024, .f32⟩
  | .hbm, ⟨19, _⟩ => ⟨S1x1024x1024, .f32⟩
  | .hbm, ⟨20, _⟩ => ⟨S1024x1024, .f32⟩
  | .hbm, ⟨21, _⟩ => ⟨S8x4096x1024, .f32⟩
  | .hbm, ⟨22, _⟩ => ⟨S8x1x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S1024, .f32⟩
  | .hbm, ⟨28, _⟩ => ⟨S8x4096x1024, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1, .f32⟩
  | .hbm, ⟨39, _⟩ => ⟨S8x4096x1024, .f32⟩
  | .hbm, ⟨40, _⟩ => ⟨S8x4096x1024, .f32⟩
  | .hbm, ⟨41, _⟩ => ⟨S1x1x1024, .f32⟩
  | .hbm, ⟨42, _⟩ => ⟨S8x4096x1024, .f32⟩
  | .hbm, ⟨43, _⟩ => ⟨S8x4096x1024, .f32⟩
  | .hbm, ⟨44, _⟩ => ⟨S8x1x1024, .f32⟩
  | .hbm, ⟨45, _⟩ => ⟨S_, .f32⟩
  | .hbm, ⟨46, _⟩ => ⟨S8x1x1024, .f32⟩
  | .hbm, ⟨47, _⟩ => ⟨S8x1x1024, .f32⟩
  | .hbm, ⟨48, _⟩ => ⟨S8x4096x1024, .f32⟩
  | .hbm, ⟨49, _⟩ => ⟨S8x4096x1024, .f32⟩
  | .hbm, ⟨50, _⟩ => ⟨S8x1x1024, .f32⟩
  | .hbm, ⟨51, _⟩ => ⟨S8x4096x1024, .f32⟩
  | .hbm, ⟨52, _⟩ => ⟨S8x4096x1024, .f32⟩
  | .hbm, ⟨53, _⟩ => ⟨S8x1x1024, .f32⟩
  | .hbm, ⟨54, _⟩ => ⟨S_, .f32⟩
  | .hbm, ⟨55, _⟩ => ⟨S8x1x1024, .f32⟩
  | .hbm, ⟨56, _⟩ => ⟨S8x1x1024, .f32⟩
  | .hbm, ⟨57, _⟩ => ⟨S1x1x1024x5632, .f32⟩
  | .hbm, ⟨58, _⟩ => ⟨S1024x5632, .f32⟩
  | .hbm, ⟨59, _⟩ => ⟨S1x1x2816x1024, .f32⟩
  | .hbm, ⟨60, _⟩ => ⟨S2816x1024, .f32⟩
  | .hbm, ⟨61, _⟩ => ⟨S8x4096x5632, .f32⟩
  | .hbm, ⟨62, _⟩ => ⟨S8x4096x2816, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S_, .f32⟩
  | .hbm, ⟨67, _⟩ => ⟨S8x4096x2816, .f32⟩
  | .hbm, ⟨68, _⟩ => ⟨S8x4096x2816, .f32⟩
  | .hbm, ⟨69, _⟩ => ⟨S_, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Final.lean ====
abbrev S8x4096x1024 : Shape := ⟨3, ![8, 4096, 1024]⟩
abbrev S8x4096x8x128 : Shape := ⟨4, ![8, 4096, 8, 128]⟩
abbrev S4x8x9216 : Shape := ⟨3, ![4, 8, 9216]⟩
abbrev S4x3x1024 : Shape := ⟨3, ![4, 3, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S2x1024x1024 : Shape := ⟨3, ![2, 1024, 1024]⟩
abbrev S32768x1024 : Shape := ⟨2, ![32768, 1024]⟩
abbrev S4x8x3x3x1024 : Shape := ⟨5, ![4, 8, 3, 3, 1024]⟩
abbrev S4x3x1x1024 : Shape := ⟨4, ![4, 3, 1, 1024]⟩
abbrev S1x1024 : Shape := ⟨2, ![1, 1024]⟩
abbrev S1024x1024 : Shape := ⟨2, ![1024, 1024]⟩
abbrev S1x1024x1024 : Shape := ⟨3, ![1, 1024, 1024]⟩
abbrev S1x1x1x3x1024 : Shape := ⟨5, ![1, 1, 1, 3, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S3x1024 : Shape := ⟨2, ![3, 1024]⟩
abbrev S512x1024 : Shape := ⟨2, ![512, 1024]⟩
abbrev S512 : Shape := ⟨1, ![512]⟩
abbrev S512x1 : Shape := ⟨2, ![512, 1]⟩
abbrev S1x1x1024x2816 : Shape := ⟨4, ![1, 1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 18
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x8x128, .f32⟩
  | .hbm, ⟨2, _⟩ => ⟨S4x8x9216, .f32⟩
  | .hbm, ⟨3, _⟩ => ⟨S4x3x1024, .f32⟩
  | .hbm, ⟨4, _⟩ => ⟨S1024, .f32⟩
  | .hbm, ⟨5, _⟩ => ⟨S4x2x1024x5632, .f32⟩
  | .hbm, ⟨6, _⟩ => ⟨S4x2x2816x1024, .f32⟩
  | .hbm, ⟨7, _⟩ => ⟨S2x1024x1024, .f32⟩
  | .hbm, ⟨8, _⟩ => ⟨S32768x1024, .f32⟩
  | .hbm, ⟨9, _⟩ => ⟨S4x8x3x3x1024, .f32⟩
  | .hbm, ⟨10, _⟩ => ⟨S4x3x1x1024, .f32⟩
  | .hbm, ⟨11, _⟩ => ⟨S4x2x1024x5632, .bf16⟩
  | .hbm, ⟨12, _⟩ => ⟨S4x2x2816x1024, .bf16⟩
  | .hbm, ⟨13, _⟩ => ⟨S8x4096x8x128, .bf16⟩
  | .hbm, ⟨14, _⟩ => ⟨S32768x1024, .bf16⟩
  | .hbm, ⟨15, _⟩ => ⟨S2x1024x1024, .bf16⟩
  | .hbm, ⟨16, _⟩ => ⟨S1x1024, .f32⟩
  | .hbm, ⟨17, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1x1x3x1024, .f32⟩
  | .local _ .vmem, ⟨6, _⟩ => ⟨S1x1x1x3x1024, .f32⟩
  | .local _ .vmem, ⟨7, _⟩ => ⟨S1x1x1x3x1024, .f32⟩
  | .local _ .vmem, ⟨8, _⟩ => ⟨S1x1x1x3x1024, .f32⟩
  | .local _ .vmem, ⟨9, _⟩ => ⟨S1x1x1x1024, .f32⟩
  | .local _ .vmem, ⟨10, _⟩ => ⟨S1x1x1024x5632, .bf16⟩
  | .local _ .vmem, ⟨11, _⟩ => ⟨S1x1x2816x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c1_i32_4 : BitVec 32 := 1#32
  let c0_i32_5 : BitVec 32 := 0#32
  let c0_i32_6 : BitVec 32 := 0#32
  let c0_i32_7 : BitVec 32 := 0#32
  ![c3_i32.toNat, v16.toNat, c1_i32_4.toNat, c0_i32_5.toNat, c0_i32_6.toNat]

def cc0_transform_4 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c2_i32 : BitVec 32 := 2#32
  let c0_i32_4 : BitVec 32 := 0#32
  let c0_i32_5 : BitVec 32 := 0#32
  let c0_i32_6 : BitVec 32 := 0#32
  ![c3_i32.toNat, v16.toNat, c2_i32.toNat, c0_i32_4.toNat, c0_i32_5.toNat]

def cc0_transform_5 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_6 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_7 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFinalIdeal.lean ====
abbrev S8x4096x1024 : Shape := ⟨3, ![8, 4096, 1024]⟩
abbrev S8x4096x8x128 : Shape := ⟨4, ![8, 4096, 8, 128]⟩
abbrev S4x8x9216 : Shape := ⟨3, ![4, 8, 9216]⟩
abbrev S4x3x1024 : Shape := ⟨3, ![4, 3, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S2x1024x1024 : Shape := ⟨3, ![2, 1024, 1024]⟩
abbrev S1x8x9216 : Shape := ⟨3, ![1, 8, 9216]⟩
abbrev S8x9216 : Shape := ⟨2, ![8, 9216]⟩
abbrev S8x1024 : Shape := ⟨2, ![8, 1024]⟩
abbrev S1x1024x1024 : Shape := ⟨3, ![1, 1024, 1024]⟩
abbrev S1024x1024 : Shape := ⟨2, ![1024, 1024]⟩
abbrev S8x1x1024 : Shape := ⟨3, ![8, 1, 1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x8x128, .f32⟩
  | .hbm, ⟨2, _⟩ => ⟨S4x8x9216, .f32⟩
  | .hbm, ⟨3, _⟩ => ⟨S4x3x1024, .f32⟩
  | .hbm, ⟨4, _⟩ => ⟨S1024, .f32⟩
  | .hbm, ⟨5, _⟩ => ⟨S4x2x1024x5632, .f32⟩
  | .hbm, ⟨6, _⟩ => ⟨S4x2x2816x1024, .f32⟩
  | .hbm, ⟨7, _⟩ => ⟨S2x1024x1024, .f32⟩
  | .hbm, ⟨8, _⟩ => ⟨S1x8x9216, .f32⟩
  | .hbm, ⟨9, _⟩ => ⟨S8x9216, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x4096x1024, .f32⟩
  | .hbm, ⟨20, _⟩ => ⟨S1x1024x1024, .f32⟩
  | .hbm, ⟨21, _⟩ => ⟨S1024x1024, .f32⟩
  | .hbm, ⟨22, _⟩ => ⟨S8x4096x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S1024, .f32⟩
  | .hbm, ⟨29, _⟩ => ⟨S8x4096x1024, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S8x1x1024, .f32⟩
  | .hbm, ⟨46, _⟩ => ⟨S_, .f32⟩
  | .hbm, ⟨47, _⟩ => ⟨S8x1x1024, .f32⟩
  | .hbm, ⟨48, _⟩ => ⟨S8x1x1024, .f32⟩
  | .hbm, ⟨49, _⟩ => ⟨S8x4096x1024, .f32⟩
  | .hbm, ⟨50, _⟩ => ⟨S8x4096x1024, .f32⟩
  | .hbm, ⟨51, _⟩ => ⟨S8x1x1024, .f32⟩
  | .hbm, ⟨52, _⟩ => ⟨S8x4096x1024, .f32⟩
  | .hbm, ⟨53, _⟩ => ⟨S8x4096x1024, .f32⟩
  | .hbm, ⟨54, _⟩ => ⟨S8x1x1024, .f32⟩
  | .hbm, ⟨55, _⟩ => ⟨S_, .f32⟩
  | .hbm, ⟨56, _⟩ => ⟨S8x1x1024, .f32⟩
  | .hbm, ⟨57, _⟩ => ⟨S8x1x1024, .f32⟩
  | .hbm, ⟨58, _⟩ => ⟨S1x1x1024x5632, .f32⟩
  | .hbm, ⟨59, _⟩ => ⟨S1024x5632, .f32⟩
  | .hbm, ⟨60, _⟩ => ⟨S1x1x2816x1024, .f32⟩
  | .hbm, ⟨61, _⟩ => ⟨S2816x1024, .f32⟩
  | .hbm, ⟨62, _⟩ => ⟨S8x4096x5632, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S8x4096x2816, .f32⟩
  | .hbm, ⟨67, _⟩ => ⟨S_, .f32⟩
  | .hbm, ⟨68, _⟩ => ⟨S8x4096x2816, .f32⟩
  | .hbm, ⟨69, _⟩ => ⟨S8x4096x2816, .f32⟩
  | .hbm, ⟨70, _⟩ => ⟨S_, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S_, .f32⟩
  | .hbm, ⟨84, _⟩ => ⟨S8x4096x1, .f32⟩
  | .hbm, ⟨85, _⟩ => ⟨S8x4096x1, .f32⟩
  | .hbm, ⟨86, _⟩ => ⟨S_, .f32⟩
  | .hbm, ⟨87, _⟩ => ⟨S8x4096x1, .f32⟩
  | .hbm, ⟨88, _⟩ => ⟨S8x4096x1, .f32⟩
  | .hbm, ⟨89, _⟩ => ⟨S8x4096x1, .f32⟩
  | .hbm, ⟨90, _⟩ => ⟨S8x4096x1024, .f32⟩
  | .hbm, ⟨91, _⟩ => ⟨S8x4096x1024, .f32⟩
  | .hbm, ⟨92, _⟩ => ⟨S1x1x1024, .f32⟩
  | .hbm, ⟨93, _⟩ => ⟨S8x4096x1024, .f32⟩
  | .hbm, ⟨94, _⟩ => ⟨S8x4096x1024, .f32⟩
  | .hbm, ⟨95, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_4 : Ref sig .tc := ⟨.hbm, 80, rfl⟩
abbrev main_v59 : Ref sig .tc := ⟨.hbm, 81, rfl⟩
abbrev main_v60 : Ref sig .tc := ⟨.hbm, 82, rfl⟩
abbrev main_cst_5 : Ref sig .tc := ⟨.hbm, 83, rfl⟩
abbrev main_v61 : Ref sig .tc := ⟨.hbm, 84, rfl⟩
abbrev main_v62 : Ref sig .tc := ⟨.hbm, 85, rfl⟩
abbrev main_cst_6 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Gated.lean ====
abbrev S8x4096x1024 : Shape := ⟨3, ![8, 4096, 1024]⟩
abbrev S8x4096x2048 : Shape := ⟨3, ![8, 4096, 2048]⟩
abbrev S4x8x9216 : Shape := ⟨3, ![4, 8, 9216]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x2048x1024 : Shape := ⟨3, ![2, 2048, 1024]⟩
abbrev S2x2048 : Shape := ⟨2, ![2, 2048]⟩
abbrev S32768x1024 : Shape := ⟨2, ![32768, 1024]⟩
abbrev S4x8x3x3x1024 : Shape := ⟨5, ![4, 8, 3, 3, 1024]⟩
abbrev S4x3x1x1024 : Shape := ⟨4, ![4, 3, 1, 1024]⟩
abbrev S32768x2048 : Shape := ⟨2, ![32768, 2048]⟩
abbrev S_ : Shape := ⟨0, ![]⟩
abbrev S2x1x2048 : Shape := ⟨3, ![2, 1, 2048]⟩
abbrev S512x1024 : Shape := ⟨2, ![512, 1024]⟩
abbrev S512x2048 : Shape := ⟨2, ![512, 2048]⟩
abbrev S1x2048x1024 : Shape := ⟨3, ![1, 2048, 1024]⟩
abbrev S1x1x1x3x1024 : Shape := ⟨5, ![1, 1, 1, 3, 1024]⟩
abbrev S1x1x2048 : Shape := ⟨3, ![1, 1, 2048]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S3x1024 : Shape := ⟨2, ![3, 1024]⟩
abbrev S1x2048 : Shape := ⟨2, ![1, 2048]⟩
abbrev S1x1024 : Shape := ⟨2, ![1, 1024]⟩
abbrev S2048x1024 : Shape := ⟨2, ![2048, 1024]⟩
abbrev S512 : Shape := ⟨1, ![512]⟩
abbrev S512x1 : Shape := ⟨2, ![512, 1]⟩
abbrev S1x1x1024x2816 : Shape := ⟨4, ![1, 1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 32
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x4096x2048, .f32⟩
  | .hbm, ⟨2, _⟩ => ⟨S8x4096x2048, .f32⟩
  | .hbm, ⟨3, _⟩ => ⟨S4x8x9216, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S2x2048x1024, .f32⟩
  | .hbm, ⟨8, _⟩ => ⟨S2x2048, .f32⟩
  | .hbm, ⟨9, _⟩ => ⟨S2x2048, .f32⟩
  | .hbm, ⟨10, _⟩ => ⟨S32768x1024, .f32⟩
  | .hbm, ⟨11, _⟩ => ⟨S4x8x3x3x1024, .f32⟩
  | .hbm, ⟨12, _⟩ => ⟨S4x3x1x1024, .f32⟩
  | .hbm, ⟨13, _⟩ => ⟨S4x2x1024x5632, .bf16⟩
  | .hbm, ⟨14, _⟩ => ⟨S4x2x2816x1024, .bf16⟩
  | .hbm, ⟨15, _⟩ => ⟨S8x4096x2048, .bf16⟩
  | .hbm, ⟨16, _⟩ => ⟨S32768x2048, .bf16⟩
  | .hbm, ⟨17, _⟩ => ⟨S8x4096x2048, .f32⟩
  | .hbm, ⟨18, _⟩ => ⟨S8x4096x2048, .f32⟩
  | .hbm, ⟨19, _⟩ => ⟨S_, .f32⟩
  | .hbm, ⟨20, _⟩ => ⟨S8x4096x2048, .f32⟩
  | .hbm, ⟨21, _⟩ => ⟨S8x4096x2048, .f32⟩
  | .hbm, ⟨22, _⟩ => ⟨S_, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S8x4096x2048, .bf16⟩
  | .hbm, ⟨27, _⟩ => ⟨S32768x2048, .bf16⟩
  | .hbm, ⟨28, _⟩ => ⟨S2x2048x1024, .bf16⟩
  | .hbm, ⟨29, _⟩ => ⟨S2x1x2048, .f32⟩
  | .hbm, ⟨30, _⟩ => ⟨S2x1x2048, .f32⟩
  | .hbm, ⟨31, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S1x2048x1024, .bf16⟩
  | .local _ .vmem, ⟨5, _⟩ => ⟨S1x1x1x3x1024, .f32⟩
  | .local _ .vmem, ⟨6, _⟩ => ⟨S1x1x1x3x1024, .f32⟩
  | .local _ .vmem, ⟨7, _⟩ => ⟨S512x2048, .bf16⟩
  | .local _ .vmem, ⟨8, _⟩ => ⟨S512x2048, .bf16⟩
  | .local _ .vmem, ⟨9, _⟩ => ⟨S1x1x2048, .f32⟩
  | .local _ .vmem, ⟨10, _⟩ => ⟨S1x1x2048, .f32⟩
  | .local _ .vmem, ⟨11, _⟩ => ⟨S1x1x1x3x1024, .f32⟩
  | .local _ .vmem, ⟨12, _⟩ => ⟨S1x1x1x3x1024, .f32⟩
  | .local _ .vmem, ⟨13, _⟩ => ⟨S1x1x1x1024, .f32⟩
  | .local _ .vmem, ⟨14, _⟩ => ⟨S1x1x1024x5632, .bf16⟩
  | .local _ .vmem, ⟨15, _⟩ => ⟨S1x1x2816x1024, .bf16⟩
  | .local _ .vmem, ⟨16, _⟩ => ⟨S512x1024, .f32⟩
  | .local _ .vmem, ⟨17, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, v16.toNat, c1_i32_5.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  let c0_i32_6 : BitVec 32 := 0#32
  let c0_i32_7 : BitVec 32 := 0#32
  ![c0_i32_4.toNat, v16.toNat, c2_i32.toNat, c0_i32_5.toNat, c0_i32_6.toNat]

def cc0_transform_8 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1x3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceGatedIdeal.lean ====
abbrev S8x4096x1024 : Shape := ⟨3, ![8, 4096, 1024]⟩
abbrev S8x4096x2048 : Shape := ⟨3, ![8, 4096, 2048]⟩
abbrev S4x8x9216 : Shape := ⟨3, ![4, 8, 9216]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x2048x1024 : Shape := ⟨3, ![2, 2048, 1024]⟩
abbrev S2x2048 : Shape := ⟨2, ![2, 2048]⟩
abbrev S1x8x9216 : Shape := ⟨3, ![1, 8, 9216]⟩
abbrev S8x9216 : Shape := ⟨2, ![8, 9216]⟩
abbrev S8x1024 : Shape := ⟨2, ![8, 1024]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S1x2048x1024 : Shape := ⟨3, ![1, 2048, 1024]⟩
abbrev S2048x1024 : Shape := ⟨2, ![2048, 1024]⟩
abbrev S8x1x1024 : Shape := ⟨3, ![8, 1, 1024]⟩
abbrev S1x1x1024 : Shape := ⟨3, ![1, 1, 1024]⟩
abbrev S1024 : Shape := ⟨1, ![1024]⟩
abbrev S8x4096 : Shape := ⟨2, ![8, 4096]⟩
abbrev S8x4096x1 : Shape := ⟨3, ![8, 4096, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x2048, .f32⟩
  | .hbm, ⟨2, _⟩ => ⟨S8x4096x2048, .f32⟩
  | .hbm, ⟨3, _⟩ => ⟨S4x8x9216, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S2x2048x1024, .f32⟩
  | .hbm, ⟨8, _⟩ => ⟨S2x2048, .f32⟩
  | .hbm, ⟨9, _⟩ => ⟨S2x2048, .f32⟩
  | .hbm, ⟨10, _⟩ => ⟨S1x8x9216, .f32⟩
  | .hbm, ⟨11, _⟩ => ⟨S8x9216, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S1x2048, .f32⟩
  | .hbm, ⟨22, _⟩ => ⟨S2048, .f32⟩
  | .hbm, ⟨23, _⟩ => ⟨S1x1x2048, .f32⟩
  | .hbm, ⟨24, _⟩ => ⟨S8x4096x2048, .f32⟩
  | .hbm, ⟨25, _⟩ => ⟨S8x4096x2048, .f32⟩
  | .hbm, ⟨26, _⟩ => ⟨S1x2048, .f32⟩
  | .hbm, ⟨27, _⟩ => ⟨S2048, .f32⟩
  | .hbm, ⟨28, _⟩ => ⟨S1x1x2048, .f32⟩
  | .hbm, ⟨29, _⟩ => ⟨S8x4096x2048, .f32⟩
  | .hbm, ⟨30, _⟩ => ⟨S8x4096x2048, .f32⟩
  | .hbm, ⟨31, _⟩ => ⟨S8x4096x2048, .f32⟩
  | .hbm, ⟨32, _⟩ => ⟨S8x4096x2048, .f32⟩
  | .hbm, ⟨33, _⟩ => ⟨S_, .f32⟩
  | .hbm, ⟨34, _⟩ => ⟨S8x4096x2048, .f32⟩
  | .hbm, ⟨35, _⟩ => ⟨S8x4096x2048, .f32⟩
  | .hbm, ⟨36, _⟩ => ⟨S_, .f32⟩
  | .hbm, ⟨37, _⟩ => ⟨S8x4096x2048, .f32⟩
  | .hbm, ⟨38, _⟩ => ⟨S8x4096x2048, .f32⟩
  | .hbm, ⟨39, _⟩ => ⟨S8x4096x2048, .f32⟩
  | .hbm, ⟨40, _⟩ => ⟨S8x4096x2048, .f32⟩
  | .hbm, ⟨41, _⟩ => ⟨S1x2048x1024, .f32⟩
  | .hbm, ⟨42, _⟩ => ⟨S2048x1024, .f32⟩
  | .hbm, ⟨43, _⟩ => ⟨S8x4096x1024, .f32⟩
  | .hbm, ⟨44, _⟩ => ⟨S8x1x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S1024, .f32⟩
  | .hbm, ⟨50, _⟩ => ⟨S8x4096x1024, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x4096x1, .f32⟩
  | .hbm, ⟨61, _⟩ => ⟨S8x4096x1024, .f32⟩
  | .hbm, ⟨62, _⟩ => ⟨S8x4096x1024, .f32⟩
  | .hbm, ⟨63, _⟩ => ⟨S1x1x1024, .f32⟩
  | .hbm, ⟨64, _⟩ => ⟨S8x4096x1024, .f32⟩
  | .hbm, ⟨65, _⟩ => ⟨S8x4096x1024, .f32⟩
  | .hbm, ⟨66, _⟩ => ⟨S8x1x1024, .f32⟩
  | .hbm, ⟨67, _⟩ => ⟨S_, .f32⟩
  | .hbm, ⟨68, _⟩ => ⟨S8x1x1024, .f32⟩
  | .hbm, ⟨69, _⟩ => ⟨S8x1x1024, .f32⟩
  | .hbm, ⟨70, _⟩ => ⟨S8x4096x1024, .f32⟩
  | .hbm, ⟨71, _⟩ => ⟨S8x4096x1024, .f32⟩
  | .hbm, ⟨72, _⟩ => ⟨S8x1x1024, .f32⟩
  | .hbm, ⟨73, _⟩ => ⟨S8x4096x1024, .f32⟩
  | .hbm, ⟨74, _⟩ => ⟨S8x4096x1024, .f32⟩
  | .hbm, ⟨75, _⟩ => ⟨S8x1x1024, .f32⟩
  | .hbm, ⟨76, _⟩ => ⟨S_, .f32⟩
  | .hbm, ⟨77, _⟩ => ⟨S8x1x1024, .f32⟩
  | .hbm, ⟨78, _⟩ => ⟨S8x1x1024, .f32⟩
  | .hbm, ⟨79, _⟩ => ⟨S1x1x1024x5632, .f32⟩
  | .hbm, ⟨80, _⟩ => ⟨S1024x5632, .f32⟩
  | .hbm, ⟨81, _⟩ => ⟨S1x1x2816x1024, .f32⟩
  | .hbm, ⟨82, _⟩ => ⟨S2816x1024, .f32⟩
  | .hbm, ⟨83, _⟩ => ⟨S8x4096x5632, .f32⟩
  | .hbm, ⟨84, _⟩ => ⟨S8x4096x2816, .f32⟩
  | .hbm, ⟨85, _⟩ => ⟨S8x4096x2816, .f32⟩
  | .hbm, ⟨86, _⟩ => ⟨S8x4096x2816, .f32⟩
  | .hbm, ⟨87, _⟩ => ⟨S8x4096x2816, .f32⟩
  | .hbm, ⟨88, _⟩ => ⟨S_, .f32⟩
  | .hbm, ⟨89, _⟩ => ⟨S8x4096x2816, .f32⟩
  | .hbm, ⟨90, _⟩ => ⟨S8x4096x2816, .f32⟩
  | .hbm, ⟨91, _⟩ => ⟨S_, .f32⟩
  | .hbm, ⟨92, _⟩ => ⟨S8x4096x2816, .f32⟩
  | .hbm, ⟨93, _⟩ => ⟨S8x4096x2816, .f32⟩
  | .hbm, ⟨94, _⟩ => ⟨S8x4096x2816, .f32⟩
  | .hbm, ⟨95, _⟩ => ⟨S8x4096x2816, .f32⟩
  | .hbm, ⟨96, _⟩ => ⟨S8x4096x1024, .f32⟩
  | .hbm, ⟨97, _⟩ => ⟨S8x4096x1024, .f32⟩
  | .hbm, ⟨98, _⟩ => ⟨S8x4096x1024, .f32⟩
  | .hbm, ⟨99, _⟩ => ⟨S8x4096x1024, .f32⟩
  | .hbm, ⟨100, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_cst_0 : Ref sig .tc := ⟨.hbm, 54, rfl⟩
abbrev main_v35 : Ref sig .tc := ⟨.hbm, 55, rfl⟩
abbrev main_v36 : Ref sig .tc := ⟨.hbm, 56, rfl⟩
abbrev main_cst_1 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_2 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_3 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]
-- ==== RetIn.lean ====
abbrev S8x4096x1024 : Shape := ⟨3, ![8, 4096, 1024]⟩
abbrev S8x4096 : Shape := ⟨2, ![8, 4096]⟩
abbrev S4x8x9216 : Shape := ⟨3, ![4, 8, 9216]⟩
abbrev S4x3x1024 : Shape := ⟨3, ![4, 3, 1024]⟩
abbrev S2x1024x6144 : Shape := ⟨3, ![2, 1024, 6144]⟩
abbrev S32768x1 : Shape := ⟨2, ![32768, 1]⟩
abbrev S128 : Shape := ⟨1, ![128]⟩
abbrev S_ : Shape := ⟨0, ![]⟩
abbrev S1x128 : Shape := ⟨2, ![1, 128]⟩
abbrev S32768x128 : Shape := ⟨2, ![32768, 128]⟩
abbrev S32768x1024 : Shape := ⟨2, ![32768, 1024]⟩
abbrev S4x8x3x3x1024 : Shape := ⟨5, ![4, 8, 3, 3, 1024]⟩
abbrev S4x3x1x1024 : Shape := ⟨4, ![4, 3, 1, 1024]⟩
abbrev S32768x2048 : Shape := ⟨2, ![32768, 2048]⟩
abbrev S1024x1024 : Shape := ⟨2, ![1024, 1024]⟩
abbrev S1x1x1x3x1024 : Shape := ⟨5, ![1, 1, 1, 3, 1024]⟩
abbrev S1x1x1x1024 : Shape := ⟨4, ![1, 1, 1, 1024]⟩
abbrev S1x1024x6144 : Shape := ⟨3, ![1, 1024, 6144]⟩
abbrev S1024x128 : Shape := ⟨2, ![1024, 128]⟩
abbrev S1024x2048 : Shape := ⟨2, ![1024, 2048]⟩
abbrev S3x1024 : Shape := ⟨2, ![3, 1024]⟩
abbrev S1x1024 : Shape := ⟨2, ![1, 1024]⟩
abbrev S1024 : Shape := ⟨1, ![1024]⟩
abbrev S1024x1 : Shape := ⟨2, ![1024, 1]⟩
abbrev S1x1024x1024 : Shape := ⟨3, ![1, 1024, 1024]⟩
abbrev S1x1024x2048 : Shape := ⟨3, ![1, 1024, 2048]⟩

abbrev nBuf : Space → Nat
  | .hbm => 35
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S4x8x9216, .f32⟩
  | .hbm, ⟨3, _⟩ => ⟨S4x3x1024, .f32⟩
  | .hbm, ⟨4, _⟩ => ⟨S2x1024x6144, .f32⟩
  | .hbm, ⟨5, _⟩ => ⟨S32768x1, .i32⟩
  | .hbm, ⟨6, _⟩ => ⟨S32768x1, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S32768x128, .f32⟩
  | .hbm, ⟨23, _⟩ => ⟨S32768x128, .f32⟩
  | .hbm, ⟨24, _⟩ => ⟨S32768x128, .f32⟩
  | .hbm, ⟨25, _⟩ => ⟨S32768x1024, .f32⟩
  | .hbm, ⟨26, _⟩ => ⟨S4x8x3x3x1024, .f32⟩
  | .hbm, ⟨27, _⟩ => ⟨S4x3x1x1024, .f32⟩
  | .hbm, ⟨28, _⟩ => ⟨S2x1024x6144, .bf16⟩
  | .hbm, ⟨29, _⟩ => ⟨S32768x128, .f32⟩
  | .hbm, ⟨30, _⟩ => ⟨S32768x128, .f32⟩
  | .hbm, ⟨31, _⟩ => ⟨S32768x1024, .bf16⟩
  | .hbm, ⟨32, _⟩ => ⟨S32768x1024, .bf16⟩
  | .hbm, ⟨33, _⟩ => ⟨S32768x2048, .bf16⟩
  | .hbm, ⟨34, _⟩ => ⟨S32768x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1x1x3x1024, .f32⟩
  | .local _ .vmem, ⟨3, _⟩ => ⟨S1x1x1x3x1024, .f32⟩
  | .local _ .vmem, ⟨4, _⟩ => ⟨S1x1x1x1024, .f32⟩
  | .local _ .vmem, ⟨5, _⟩ => ⟨S1x1024x6144, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, v16.toNat, c1_i32_5.toNat, c0_i32_6.toNat, c0_i32_7.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceRetInIdeal.lean ====
abbrev S8x4096x1024 : Shape := ⟨3, ![8, 4096, 1024]⟩
abbrev S8x4096 : Shape := ⟨2, ![8, 4096]⟩
abbrev S4x8x9216 : Shape := ⟨3, ![4, 8, 9216]⟩
abbrev S4x3x1024 : Shape := ⟨3, ![4, 3, 1024]⟩
abbrev S2x1024x6144 : Shape := ⟨3, ![2, 1024, 6144]⟩
abbrev S1x8x9216 : Shape := ⟨3, ![1, 8, 9216]⟩
abbrev S8x9216 : Shape := ⟨2, ![8, 9216]⟩
abbrev S8x1024 : Shape := ⟨2, ![8, 1024]⟩
abbrev S1x1x1024 : Shape := ⟨3, ![1, 1, 1024]⟩
abbrev S1024 : Shape := ⟨1, ![1024]⟩
abbrev S_ : Shape := ⟨0, ![]⟩
abbrev S8x4096x1 : Shape := ⟨3, ![8, 4096, 1]⟩
abbrev S8x1x1024 : Shape := ⟨3, ![8, 1, 1024]⟩
abbrev S1x1024x6144 : Shape := ⟨3, ![1, 1024, 6144]⟩
abbrev S1024x6144 : Shape := ⟨2, ![1024, 6144]⟩
abbrev S8x4096x6144 : Shape := ⟨3, ![8, 4096, 6144]⟩
abbrev S8x4096x2048 : Shape := ⟨3, ![8, 4096, 2048]⟩
abbrev S8x4096x4x256 : Shape := ⟨4, ![8, 4096, 4, 256]⟩
abbrev S128 : Shape := ⟨1, ![128]⟩
abbrev S8x4096x1x1 : Shape := ⟨4, ![8, 4096, 1, 1]⟩
abbrev S1x1x1x128 : Shape := ⟨4, ![1, 1, 1, 128]⟩
abbrev S8x4096x1x128 : Shape := ⟨4, ![8, 4096, 1, 128]⟩
abbrev S8x4096x4x128 : Shape := ⟨4, ![8, 4096, 4, 128]⟩
abbrev S32768x1024 : Shape := ⟨2, ![32768, 1024]⟩
abbrev S32768x2048 : Shape := ⟨2, ![32768, 2048]⟩

abbrev nBuf : Space → Nat
  | .hbm => 144
  | .vmem => 0
  | .smem => 0
  | _ => 0

abbrev hbmTy0_0 (i : Nat) : BufTy := match i % 128 with
  | 0 => ⟨S8x4096x1024, .f32⟩
  | 1 => ⟨S8x4096, .i32⟩
  | 2 => ⟨S4x8x9216, .f32⟩
  | 3 => ⟨S4x3x1024, .f32⟩
  | 4 => ⟨S2x1024x6144, .f32⟩
  | 5 => ⟨S1x8x9216, .f32⟩
  | 6 => ⟨S8x9216, .f32⟩
  | 7 => ⟨S8x1024, .f32⟩
  | 8 => ⟨S8x1024, .f32⟩
  | 9 => ⟨S8x1024, .f32⟩
  | 10 => ⟨S8x1024, .f32⟩
  | 11 => ⟨S8x1024, .f32⟩
  | 12 => ⟨S8x1024, .f32⟩
  | 13 => ⟨S8x1024, .f32⟩
  | 14 => ⟨S8x1024, .f32⟩
  | 15 => ⟨S8x1024, .f32⟩
  | 16 => ⟨S1x1x1024, .f32⟩
  | 17 => ⟨S1024, .f32⟩
  | 18 => ⟨S8x4096x1024, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x1024, .f32⟩
  | 30 => ⟨S8x4096x1024, .f32⟩
  | 31 => ⟨S1x1x1024, .f32⟩
  | 32 => ⟨S8x4096x1024, .f32⟩
  | 33 => ⟨S8x4096x1024, .f32⟩
  | 34 => ⟨S8x1x1024, .f32⟩
  | 35 => ⟨S_, .f32⟩
  | 36 => ⟨S8x1x1024, .f32⟩
  | 37 => ⟨S8x1x1024, .f32⟩
  | 38 => ⟨S8x4096x1024, .f32⟩
  | 39 => ⟨S8x4096x1024, .f32⟩
  | 40 => ⟨S8x1x1024, .f32⟩
  | 41 => ⟨S8x4096x1024, .f32⟩
  | 42 => ⟨S8x4096x1024, .f32⟩
  | 43 => ⟨S1x1024x6144, .f32⟩
  | 44 => ⟨S1024x6144, .f32⟩
  | 45 => ⟨S8x4096x6144, .f32⟩
  | 46 => ⟨S8x4096x1024, .f32⟩
  | 47 => ⟨S8x4096x1024, .f32⟩
  | 48 => ⟨S8x4096x2048, .f32⟩
  | 49 => ⟨S8x4096x2048, .f32⟩
  | 50 => ⟨S8x4096x4x256, .f32⟩
  | 51 => ⟨S128, .f32⟩
  | 52 => ⟨S_, .f32⟩
  | 53 => ⟨S128, .f32⟩
  | 54 => ⟨S128, .f32⟩
  | 55 => ⟨S_, .f32⟩
  | 56 => ⟨S128, .f32⟩
  | 57 => ⟨S128, .f32⟩
  | 58 => ⟨S128, .f32⟩
  | 59 => ⟨S_, .f32⟩
  | 60 => ⟨S128, .f32⟩
  | 61 => ⟨S128, .f32⟩
  | 62 => ⟨S_, .f32⟩
  | 63 => ⟨S128, .f32⟩
  | 64 => ⟨S128, .f32⟩
  | 65 => ⟨S8x4096, .f32⟩
  | 66 => ⟨S8x4096x1x1, .f32⟩
  | 67 => ⟨S1x1x1x128, .f32⟩
  | 68 => ⟨S8x4096x1x128, .f32⟩
  | 69 => ⟨S8x4096x1x128, .f32⟩
  | 70 => ⟨S8x4096x1x128, .f32⟩
  | 71 => ⟨S8x4096x1x128, .f32⟩
  | 72 => ⟨S8x4096x1x128, .f32⟩
  | 73 => ⟨S8x4096x4x128, .f32⟩
  | 74 => ⟨S8x4096x4x128, .f32⟩
  | 75 => ⟨S8x4096x4x128, .f32⟩
  | 76 => ⟨S8x4096x4x128, .f32⟩
  | 77 => ⟨S8x4096x4x128, .f32⟩
  | 78 => ⟨S8x4096x4x128, .f32⟩
  | 79 => ⟨S8x4096x4x128, .f32⟩
  | 80 => ⟨S8x4096x4x128, .f32⟩
  | 81 => ⟨S8x4096x4x128, .f32⟩
  | 82 => ⟨S8x4096x4x128, .f32⟩
  | 83 => ⟨S8x4096x4x128, .f32⟩
  | 84 => ⟨S8x4096x4x128, .f32⟩
  | 85 => ⟨S8x4096x4x256, .f32⟩
  | 86 => ⟨S8x4096x1024, .f32⟩
  | 87 => ⟨S8x4096x4x256, .f32⟩
  | 88 => ⟨S128, .f32⟩
  | 89 => ⟨S_, .f32⟩
  | 90 => ⟨S128, .f32⟩
  | 91 => ⟨S128, .f32⟩
  | 92 => ⟨S_, .f32⟩
  | 93 => ⟨S128, .f32⟩
  | 94 => ⟨S128, .f32⟩
  | 95 => ⟨S128, .f32⟩
  | 96 => ⟨S_, .f32⟩
  | 97 => ⟨S128, .f32⟩
  | 98 => ⟨S128, .f32⟩
  | 99 => ⟨S_, .f32⟩
  | 100 => ⟨S128, .f32⟩
  | 101 => ⟨S128, .f32⟩
  | 102 => ⟨S8x4096, .f32⟩
  | 103 => ⟨S8x4096x1x1, .f32⟩
  | 104 => ⟨S1x1x1x128, .f32⟩
  | 105 => ⟨S8x4096x1x128, .f32⟩
  | 106 => ⟨S8x4096x1x128, .f32⟩
  | 107 => ⟨S8x4096x1x128, .f32⟩
  | 108 => ⟨S8x4096x1x128, .f32⟩
  | 109 => ⟨S8x4096x1x128, .f32⟩
  | 110 => ⟨S8x4096x4x128, .f32⟩
  | 111 => ⟨S8x4096x4x128, .f32⟩
  | 112 => ⟨S8x4096x4x128, .f32⟩
  | 113 => ⟨S8x4096x4x128, .f32⟩
  | 114 => ⟨S8x4096x4x128, .f32⟩
  | 115 => ⟨S8x4096x4x128, .f32⟩
  | 116 => ⟨S8x4096x4x128, .f32⟩
  | 117 => ⟨S8x4096x4x128, .f32⟩
  | 118 => ⟨S8x4096x4x128, .f32⟩
  | 119 => ⟨S8x4096x4x128, .f32⟩
  | 120 => ⟨S8x4096x4x128, .f32⟩
  | 121 => ⟨S8x4096x4x128, .f32⟩
  | 122 => ⟨S8x4096x4x256, .f32⟩
  | 123 => ⟨S_, .f32⟩
  | 124 => ⟨S8x4096x4x256, .f32⟩
  | 125 => ⟨S8x4096x4x256, .f32⟩
  | 126 => ⟨S8x4096x1024, .f32⟩
  | 127 => ⟨S8x4096x2048, .f32⟩
  | _ => ⟨S8x4096x1024, .f32⟩

abbrev hbmTy0_1 (i : Nat) : BufTy := match i % 128 with
  | 0 => ⟨S8x4096x2048, .f32⟩
  | 1 => ⟨S_, .f32⟩
  | 2 => ⟨S8x4096x2048, .f32⟩
  | 3 => ⟨S8x4096x2048, .f32⟩
  | 4 => ⟨S_, .f32⟩
  | 5 => ⟨S8x4096x2048, .f32⟩
  | 6 => ⟨S8x4096x2048, .f32⟩
  | 7 => ⟨S8x4096x2048, .f32⟩
  | 8 => ⟨S32768x1024, .f32⟩
  | 9 => ⟨S32768x1024, .bf16⟩
  | 10 => ⟨S32768x1024, .f32⟩
  | 11 => ⟨S32768x1024, .bf16⟩
  | 12 => ⟨S32768x2048, .f32⟩
  | 13 => ⟨S32768x2048, .bf16⟩
  | 14 => ⟨S32768x2048, .f32⟩
  | 15 => ⟨S32768x2048, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_7 : Ref sig .tc := ⟨.hbm, 89, rfl⟩
abbrev main_v76 : Ref sig .tc := ⟨.hbm, 90, rfl⟩
abbrev main_v77 : Ref sig .tc := ⟨.hbm, 91, rfl⟩
abbrev main_cst_8 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_9 : Ref sig .tc := ⟨.hbm, 96, rfl⟩
abbrev main_v81 : Ref sig .tc := ⟨.hbm, 97, rfl⟩
abbrev main_v82 : Ref sig .tc := ⟨.hbm, 98, rfl⟩
abbrev main_cst_10 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_cst_11 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_call0_v0 : Ref sig .tc := ⟨.hbm, 127, rfl⟩
abbrev main_call0_v1 : Ref sig .tc := ⟨.hbm, 128, rfl⟩
abbrev main_call0_cst : Ref sig .tc := ⟨.hbm, 129, rfl⟩
abbrev main_call0_v2 : Ref sig .tc := ⟨.hbm, 130, rfl⟩
abbrev main_call0_v3 : Ref sig .tc := ⟨.hbm, 131, rfl⟩
abbrev main_call0_cst_0 : Ref sig .tc := ⟨.hbm, 132, rfl⟩
abbrev main_call0_v4 : Ref sig .tc := ⟨.hbm, 133, rfl⟩
abbrev main_call0_v5 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩

abbrev nD : Nat := 1
abbrev τ : Topo := Topo.v7x

variable {F : FTy → Type} [FloatOps F]
-- ==== MlaIn.lean ====
abbrev S8x4096x1024 : Shape := ⟨3, ![8, 4096, 1024]⟩
abbrev S8x4096 : Shape := ⟨2, ![8, 4096]⟩
abbrev S4x8x9216 : Shape := ⟨3, ![4, 8, 9216]⟩
abbrev S4x3x1024 : Shape := ⟨3, ![4, 3, 1024]⟩
abbrev S2x1024x704 : Shape := ⟨3, ![2, 1024, 704]⟩
abbrev S2x384 : Shape := ⟨2, ![2, 384]⟩
abbrev S2x256 : Shape := ⟨2, ![2, 256]⟩
abbrev S2x384x1536 : Shape := ⟨3, ![2, 384, 1536]⟩
abbrev S2x256x2048 : Shape := ⟨3, ![2, 256, 2048]⟩
abbrev S32768x1 : Shape := ⟨2, ![32768, 1]⟩
abbrev S32 : Shape := ⟨1, ![32]⟩
abbrev S_ : Shape := ⟨0, ![]⟩
abbrev S1x32 : Shape := ⟨2, ![1, 32]⟩
abbrev S32768x32 : Shape := ⟨2, ![32768, 32]⟩
abbrev S2x1024x64 : Shape := ⟨3, ![2, 1024, 64]⟩
abbrev S2x1024x32 : Shape := ⟨3, ![2, 1024, 32]⟩
abbrev S2x1024x768 : Shape := ⟨3, ![2, 1024, 768]⟩
abbrev S2x384x8x192 : Shape := ⟨4, ![2, 384, 8, 192]⟩
abbrev S2x384x8x64 : Shape := ⟨4, ![2, 384, 8, 64]⟩
abbrev S2x384x8x128 : Shape := ⟨4, ![2, 384, 8, 128]⟩
abbrev S2x384x1024 : Shape := ⟨3, ![2, 384, 1024]⟩
abbrev S2x384x512 : Shape := ⟨3, ![2, 384, 512]⟩
abbrev S2x384x8x32 : Shape := ⟨4, ![2, 384, 8, 32]⟩
abbrev S2x384x2048 : Shape := ⟨3, ![2, 384, 2048]⟩
abbrev S2x256x8x256 : Shape := ⟨4, ![2, 256, 8, 256]⟩
abbrev S2x256x8x128 : Shape := ⟨4, ![2, 256, 8, 128]⟩
abbrev S2x256x1024 : Shape := ⟨3, ![2, 256, 1024]⟩
abbrev S32768x1024 : Shape := ⟨2, ![32768, 1024]⟩
abbrev S4x8x3x3x1024 : Shape := ⟨5, ![4, 8, 3, 3, 1024]⟩
abbrev S4x3x1x1024 : Shape := ⟨4, ![4, 3, 1, 1024]⟩
abbrev S2x1x384 : Shape := ⟨3, ![2, 1, 384]⟩
abbrev S2x1x256 : Shape := ⟨3, ![2, 1, 256]⟩
abbrev S8x32768x192 : Shape := ⟨3, ![8, 32768, 192]⟩
abbrev S1024x1024 : Shape := ⟨2, ![1024, 1024]⟩
abbrev S1x1x1x3x1024 : Shape := ⟨5, ![1, 1, 1, 3, 1024]⟩
abbrev S1x1x1x1024 : Shape := ⟨4, ![1, 1, 1, 1024]⟩
abbrev S1x1024x768 : Shape := ⟨3, ![1, 1024, 768]⟩
abbrev S1x1x384 : Shape := ⟨3, ![1, 1, 384]⟩
abbrev S1x1x256 : Shape := ⟨3, ![1, 1, 256]⟩
abbrev S1x384x2048 : Shape := ⟨3, ![1, 384, 2048]⟩
abbrev S1x256x2048 : Shape := ⟨3, ![1, 256, 2048]⟩
abbrev S1024x32 : Shape := ⟨2, ![1024, 32]⟩
abbrev S8x1024x192 : Shape := ⟨3, ![8, 1024, 192]⟩
abbrev S3x1024 : Shape := ⟨2, ![3, 1024]⟩
abbrev S1x1024 : Shape := ⟨2, ![1, 1024]⟩
abbrev S1024 : Shape := ⟨1, ![1024]⟩
abbrev S1024x1 : Shape := ⟨2, ![1024, 1]⟩
abbrev S1024x768 : Shape := ⟨2, ![1024, 768]⟩
abbrev S1024x64 : Shape := ⟨2, ![1024, 64]⟩
abbrev S1024x384 : Shape := ⟨2, ![1024, 384]⟩
abbrev S1x384 : Shape := ⟨2, ![1, 384]⟩
abbrev S1x384x1024 : Shape := ⟨3, ![1, 384, 1024]⟩
abbrev S384x1024 : Shape := ⟨2, ![384, 1024]⟩
abbrev S1024x512 : Shape := ⟨2, ![1024, 512]⟩
abbrev S1x384x512 : Shape := ⟨3, ![1, 384, 512]⟩
abbrev S384x512 : Shape := ⟨2, ![384, 512]⟩
abbrev S1024x256 : Shape := ⟨2, ![1024, 256]⟩
abbrev S1x256 : Shape := ⟨2, ![1, 256]⟩
abbrev S1x256x1024 : Shape := ⟨3, ![1, 256, 1024]⟩
abbrev S256x1024 : Shape := ⟨2, ![256, 1024]⟩
abbrev S1024x128 : Shape := ⟨2, ![1024, 128]⟩
abbrev S1x1024x128 : Shape := ⟨3, ![1, 1024, 128]⟩
abbrev S1x1024x64 : Shape := ⟨3, ![1, 1024, 64]⟩

abbrev nBuf : Space → Nat
  | .hbm => 63
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S4x8x9216, .f32⟩
  | .hbm, ⟨3, _⟩ => ⟨S4x3x1024, .f32⟩
  | .hbm, ⟨4, _⟩ => ⟨S2x1024x704, .f32⟩
  | .hbm, ⟨5, _⟩ => ⟨S2x384, .f32⟩
  | .hbm, ⟨6, _⟩ => ⟨S2x256, .f32⟩
  | .hbm, ⟨7, _⟩ => ⟨S2x384x1536, .f32⟩
  | .hbm, ⟨8, _⟩ => ⟨S2x256x2048, .f32⟩
  | .hbm, ⟨9, _⟩ => ⟨S32768x1, .i32⟩
  | .hbm, ⟨10, _⟩ => ⟨S32768x1, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S1x32, .f32⟩
  | .hbm, ⟨26, _⟩ => ⟨S32768x32, .f32⟩
  | .hbm, ⟨27, _⟩ => ⟨S32768x32, .f32⟩
  | .hbm, ⟨28, _⟩ => ⟨S32768x32, .f32⟩
  | .hbm, ⟨29, _⟩ => ⟨S2x1024x64, .f32⟩
  | .hbm, ⟨30, _⟩ => ⟨S2x1024x32, .f32⟩
  | .hbm, ⟨31, _⟩ => ⟨S2x1024x32, .f32⟩
  | .hbm, ⟨32, _⟩ => ⟨S2x1024x64, .f32⟩
  | .hbm, ⟨33, _⟩ => ⟨S2x1024x768, .f32⟩
  | .hbm, ⟨34, _⟩ => ⟨S2x1024x768, .bf16⟩
  | .hbm, ⟨35, _⟩ => ⟨S2x384x8x192, .f32⟩
  | .hbm, ⟨36, _⟩ => ⟨S2x384x8x64, .f32⟩
  | .hbm, ⟨37, _⟩ => ⟨S2x384x8x128, .f32⟩
  | .hbm, ⟨38, _⟩ => ⟨S2x384x1024, .f32⟩
  | .hbm, ⟨39, _⟩ => ⟨S2x384x512, .f32⟩
  | .hbm, ⟨40, _⟩ => ⟨S2x384x8x32, .f32⟩
  | .hbm, ⟨41, _⟩ => ⟨S2x384x8x32, .f32⟩
  | .hbm, ⟨42, _⟩ => ⟨S2x384x8x64, .f32⟩
  | .hbm, ⟨43, _⟩ => ⟨S2x384x512, .f32⟩
  | .hbm, ⟨44, _⟩ => ⟨S2x384x2048, .f32⟩
  | .hbm, ⟨45, _⟩ => ⟨S2x384x2048, .bf16⟩
  | .hbm, ⟨46, _⟩ => ⟨S2x256x8x256, .f32⟩
  | .hbm, ⟨47, _⟩ => ⟨S2x256x8x128, .f32⟩
  | .hbm, ⟨48, _⟩ => ⟨S2x256x1024, .f32⟩
  | .hbm, ⟨49, _⟩ => ⟨S2x256x8x128, .f32⟩
  | .hbm, ⟨50, _⟩ => ⟨S2x256x1024, .f32⟩
  | .hbm, ⟨51, _⟩ => ⟨S2x256x2048, .f32⟩
  | .hbm, ⟨52, _⟩ => ⟨S2x256x2048, .bf16⟩
  | .hbm, ⟨53, _⟩ => ⟨S32768x1024, .f32⟩
  | .hbm, ⟨54, _⟩ => ⟨S4x8x3x3x1024, .f32⟩
  | .hbm, ⟨55, _⟩ => ⟨S4x3x1x1024, .f32⟩
  | .hbm, ⟨56, _⟩ => ⟨S2x1x384, .f32⟩
  | .hbm, ⟨57, _⟩ => ⟨S2x1x256, .f32⟩
  | .hbm, ⟨58, _⟩ => ⟨S32768x32, .f32⟩
  | .hbm, ⟨59, _⟩ => ⟨S32768x32, .f32⟩
  | .hbm, ⟨60, _⟩ => ⟨S8x32768x192, .bf16⟩
  | .hbm, ⟨61, _⟩ => ⟨S8x32768x192, .bf16⟩
  | .hbm, ⟨62, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1x3x1024, .f32⟩
  | .local _ .vmem, ⟨3, _⟩ => ⟨S1x1x1x3x1024, .f32⟩
  | .local _ .vmem, ⟨4, _⟩ => ⟨S1x1x1x1024, .f32⟩
  | .local _ .vmem, ⟨5, _⟩ => ⟨S1x1024x768, .bf16⟩
  | .local _ .vmem, ⟨6, _⟩ => ⟨S1x1x384, .f32⟩
  | .local _ .vmem, ⟨7, _⟩ => ⟨S1x1x256, .f32⟩
  | .local _ .vmem, ⟨8, _⟩ => ⟨S1x384x2048, .bf16⟩
  | .local _ .vmem, ⟨9, _⟩ => ⟨S1x256x2048, .bf16⟩
  | .local _ .vmem, ⟨10, _⟩ => ⟨S1024x32, .f32⟩
  | .local _ .vmem, ⟨11, _⟩ => ⟨S1024x32, .f32⟩
  | .local _ .vmem, ⟨12, _⟩ => ⟨S1024x32, .f32⟩
  | .local _ .vmem, ⟨13, _⟩ => ⟨S1024x32, .f32⟩
  | .local _ .vmem, ⟨14, _⟩ => ⟨S8x1024x192, .bf16⟩
  | .local _ .vmem, ⟨15, _⟩ => ⟨S8x1024x192, .bf16⟩
  | .local _ .vmem, ⟨16, _⟩ => ⟨S8x1024x192, .bf16⟩
  | .local _ .vmem, ⟨17, _⟩ => ⟨S8x1024x192, .bf16⟩
  | .local _ .vmem, ⟨18, _⟩ => ⟨S1024x1024, .bf16⟩
  | .local _ .vmem, ⟨19, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47_0 : Ref sig .tc := ⟨.hbm, 60, rfl⟩
abbrev main_v47_1 : Ref sig .tc := ⟨.hbm, 61, rfl⟩
abbrev main_v47_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c1_i32_5 : BitVec 32 := 1#32
  let c0_i32_6 : BitVec 32 := 0#32
  let c0_i32_7 : BitVec 32 := 0#32
  let c0_i32_8 : BitVec 32 := 0#32
  ![c1_i32_4.toNat, v16.toNat, c1_i32_5.toNat, c0_i32_6.toNat, c0_i32_7.toNat]

def cc0_transform_2 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1024x192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1024x192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MlaInIdeal.lean ====
variable {F : FTy → Type} [FloatOps F] [Named F]
def κ : String → Option EReal := fun
  | "score_scale" => some (((Real.sqrt 192)⁻¹ * (Real.log 2)⁻¹ : ℝ) : EReal)
  | _ => none
-- ==== ReferenceMlaInIdeal.lean ====
abbrev S8x4096x1024 : Shape := ⟨3, ![8, 4096, 1024]⟩
abbrev S8x4096 : Shape := ⟨2, ![8, 4096]⟩
abbrev S4x8x9216 : Shape := ⟨3, ![4, 8, 9216]⟩
abbrev S4x3x1024 : Shape := ⟨3, ![4, 3, 1024]⟩
abbrev S2x1024x704 : Shape := ⟨3, ![2, 1024, 704]⟩
abbrev S2x384 : Shape := ⟨2, ![2, 384]⟩
abbrev S2x256 : Shape := ⟨2, ![2, 256]⟩
abbrev S2x384x1536 : Shape := ⟨3, ![2, 384, 1536]⟩
abbrev S2x256x2048 : Shape := ⟨3, ![2, 256, 2048]⟩
abbrev S1x8x9216 : Shape := ⟨3, ![1, 8, 9216]⟩
abbrev S8x9216 : Shape := ⟨2, ![8, 9216]⟩
abbrev S8x1024 : Shape := ⟨2, ![8, 1024]⟩
abbrev S1x1x1024 : Shape := ⟨3, ![1, 1, 1024]⟩
abbrev S1024 : Shape := ⟨1, ![1024]⟩
abbrev S_ : Shape := ⟨0, ![]⟩
abbrev S8x4096x1 : Shape := ⟨3, ![8, 4096, 1]⟩
abbrev S8x1x1024 : Shape := ⟨3, ![8, 1, 1024]⟩
abbrev S1x1024x704 : Shape := ⟨3, ![1, 1024, 704]⟩
abbrev S1024x704 : Shape := ⟨2, ![1024, 704]⟩
abbrev S8x4096x704 : Shape := ⟨3, ![8, 4096, 704]⟩
abbrev S8x4096x384 : Shape := ⟨3, ![8, 4096, 384]⟩
abbrev S8x4096x256 : Shape := ⟨3, ![8, 4096, 256]⟩
abbrev S8x4096x64 : Shape := ⟨3, ![8, 4096, 64]⟩
abbrev S1x384 : Shape := ⟨2, ![1, 384]⟩
abbrev S384 : Shape := ⟨1, ![384]⟩
abbrev S1x1x384 : Shape := ⟨3, ![1, 1, 384]⟩
abbrev S1x384x1536 : Shape := ⟨3, ![1, 384, 1536]⟩
abbrev S384x1536 : Shape := ⟨2, ![384, 1536]⟩
abbrev S8x4096x1536 : Shape := ⟨3, ![8, 4096, 1536]⟩
abbrev S8x4096x8x192 : Shape := ⟨4, ![8, 4096, 8, 192]⟩
abbrev S8x4096x8x128 : Shape := ⟨4, ![8, 4096, 8, 128]⟩
abbrev S8x4096x8x64 : Shape := ⟨4, ![8, 4096, 8, 64]⟩
abbrev S32 : Shape := ⟨1, ![32]⟩
abbrev S8x4096x1x1 : Shape := ⟨4, ![8, 4096, 1, 1]⟩
abbrev S1x1x1x32 : Shape := ⟨4, ![1, 1, 1, 32]⟩
abbrev S8x4096x1x32 : Shape := ⟨4, ![8, 4096, 1, 32]⟩
abbrev S8x4096x8x32 : Shape := ⟨4, ![8, 4096, 8, 32]⟩
abbrev S1x256 : Shape := ⟨2, ![1, 256]⟩
abbrev S256 : Shape := ⟨1, ![256]⟩
abbrev S1x1x256 : Shape := ⟨3, ![1, 1, 256]⟩
abbrev S1x256x2048 : Shape := ⟨3, ![1, 256, 2048]⟩
abbrev S256x2048 : Shape := ⟨2, ![256, 2048]⟩
abbrev S8x4096x2048 : Shape := ⟨3, ![8, 4096, 2048]⟩
abbrev S8x4096x8x256 : Shape := ⟨4, ![8, 4096, 8, 256]⟩
abbrev S8x4096x1x64 : Shape := ⟨4, ![8, 4096, 1, 64]⟩
abbrev S32768x8x192 : Shape := ⟨3, ![32768, 8, 192]⟩
abbrev S8x32768x192 : Shape := ⟨3, ![8, 32768, 192]⟩
abbrev S32768x1024 : Shape := ⟨2, ![32768, 1024]⟩

abbrev nBuf : Space → Nat
  | .hbm => 188
  | .vmem => 0
  | .smem => 0
  | _ => 0

abbrev hbmTy0_0 (i : Nat) : BufTy := match i % 128 with
  | 0 => ⟨S8x4096x1024, .f32⟩
  | 1 => ⟨S8x4096, .i32⟩
  | 2 => ⟨S4x8x9216, .f32⟩
  | 3 => ⟨S4x3x1024, .f32⟩
  | 4 => ⟨S2x1024x704, .f32⟩
  | 5 => ⟨S2x384, .f32⟩
  | 6 => ⟨S2x256, .f32⟩
  | 7 => ⟨S2x384x1536, .f32⟩
  | 8 => ⟨S2x256x2048, .f32⟩
  | 9 => ⟨S1x8x9216, .f32⟩
  | 10 => ⟨S8x9216, .f32⟩
  | 11 => ⟨S8x1024, .f32⟩
  | 12 => ⟨S8x1024, .f32⟩
  | 13 => ⟨S8x1024, .f32⟩
  | 14 => ⟨S8x1024, .f32⟩
  | 15 => ⟨S8x1024, .f32⟩
  | 16 => ⟨S8x1024, .f32⟩
  | 17 => ⟨S8x1024, .f32⟩
  | 18 => ⟨S8x1024, .f32⟩
  | 19 => ⟨S8x1024, .f32⟩
  | 20 => ⟨S1x1x1024, .f32⟩
  | 21 => ⟨S1024, .f32⟩
  | 22 => ⟨S8x4096x1024, .f32⟩
  | 23 => ⟨S_, .f32⟩
  | 24 => ⟨S8x4096, .f32⟩
  | 25 => ⟨S8x4096x1, .f32⟩
  | 26 => ⟨S_, .f32⟩
  | 27 => ⟨S8x4096x1, .f32⟩
  | 28 => ⟨S8x4096x1, .f32⟩
  | 29 => ⟨S_, .f32⟩
  | 30 => ⟨S8x4096x1, .f32⟩
  | 31 => ⟨S8x4096x1, .f32⟩
  | 32 => ⟨S8x4096x1, .f32⟩
  | 33 => ⟨S8x4096x1024, .f32⟩
  | 34 => ⟨S8x4096x1024, .f32⟩
  | 35 => ⟨S1x1x1024, .f32⟩
  | 36 => ⟨S8x4096x1024, .f32⟩
  | 37 => ⟨S8x4096x1024, .f32⟩
  | 38 => ⟨S8x1x1024, .f32⟩
  | 39 => ⟨S_, .f32⟩
  | 40 => ⟨S8x1x1024, .f32⟩
  | 41 => ⟨S8x1x1024, .f32⟩
  | 42 => ⟨S8x4096x1024, .f32⟩
  | 43 => ⟨S8x4096x1024, .f32⟩
  | 44 => ⟨S8x1x1024, .f32⟩
  | 45 => ⟨S8x4096x1024, .f32⟩
  | 46 => ⟨S8x4096x1024, .f32⟩
  | 47 => ⟨S1x1024x704, .f32⟩
  | 48 => ⟨S1024x704, .f32⟩
  | 49 => ⟨S8x4096x704, .f32⟩
  | 50 => ⟨S8x4096x384, .f32⟩
  | 51 => ⟨S8x4096x256, .f32⟩
  | 52 => ⟨S8x4096x64, .f32⟩
  | 53 => ⟨S1x384, .f32⟩
  | 54 => ⟨S384, .f32⟩
  | 55 => ⟨S8x4096x384, .f32⟩
  | 56 => ⟨S_, .f32⟩
  | 57 => ⟨S8x4096, .f32⟩
  | 58 => ⟨S8x4096x1, .f32⟩
  | 59 => ⟨S_, .f32⟩
  | 60 => ⟨S8x4096x1, .f32⟩
  | 61 => ⟨S8x4096x1, .f32⟩
  | 62 => ⟨S_, .f32⟩
  | 63 => ⟨S8x4096x1, .f32⟩
  | 64 => ⟨S8x4096x1, .f32⟩
  | 65 => ⟨S8x4096x1, .f32⟩
  | 66 => ⟨S8x4096x384, .f32⟩
  | 67 => ⟨S8x4096x384, .f32⟩
  | 68 => ⟨S1x1x384, .f32⟩
  | 69 => ⟨S8x4096x384, .f32⟩
  | 70 => ⟨S8x4096x384, .f32⟩
  | 71 => ⟨S1x384x1536, .f32⟩
  | 72 => ⟨S384x1536, .f32⟩
  | 73 => ⟨S8x4096x1536, .f32⟩
  | 74 => ⟨S8x4096x8x192, .f32⟩
  | 75 => ⟨S8x4096x8x128, .f32⟩
  | 76 => ⟨S8x4096x8x64, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S8x4096, .f32⟩
  | 92 => ⟨S8x4096x1x1, .f32⟩
  | 93 => ⟨S1x1x1x32, .f32⟩
  | 94 => ⟨S8x4096x1x32, .f32⟩
  | 95 => ⟨S8x4096x1x32, .f32⟩
  | 96 => ⟨S8x4096x1x32, .f32⟩
  | 97 => ⟨S8x4096x1x32, .f32⟩
  | 98 => ⟨S8x4096x1x32, .f32⟩
  | 99 => ⟨S8x4096x8x32, .f32⟩
  | 100 => ⟨S8x4096x8x32, .f32⟩
  | 101 => ⟨S8x4096x8x32, .f32⟩
  | 102 => ⟨S8x4096x8x32, .f32⟩
  | 103 => ⟨S8x4096x8x32, .f32⟩
  | 104 => ⟨S8x4096x8x32, .f32⟩
  | 105 => ⟨S8x4096x8x32, .f32⟩
  | 106 => ⟨S8x4096x8x32, .f32⟩
  | 107 => ⟨S8x4096x8x32, .f32⟩
  | 108 => ⟨S8x4096x8x32, .f32⟩
  | 109 => ⟨S8x4096x8x32, .f32⟩
  | 110 => ⟨S8x4096x8x32, .f32⟩
  | 111 => ⟨S8x4096x8x64, .f32⟩
  | 112 => ⟨S1x256, .f32⟩
  | 113 => ⟨S256, .f32⟩
  | 114 => ⟨S8x4096x256, .f32⟩
  | 115 => ⟨S_, .f32⟩
  | 116 => ⟨S8x4096, .f32⟩
  | 117 => ⟨S8x4096x1, .f32⟩
  | 118 => ⟨S_, .f32⟩
  | 119 => ⟨S8x4096x1, .f32⟩
  | 120 => ⟨S8x4096x1, .f32⟩
  | 121 => ⟨S_, .f32⟩
  | 122 => ⟨S8x4096x1, .f32⟩
  | 123 => ⟨S8x4096x1, .f32⟩
  | 124 => ⟨S8x4096x1, .f32⟩
  | 125 => ⟨S8x4096x256, .f32⟩
  | 126 => ⟨S8x4096x256, .f32⟩
  | 127 => ⟨S1x1x256, .f32⟩
  | _ => ⟨S8x4096x1024, .f32⟩

abbrev hbmTy0_1 (i : Nat) : BufTy := match i % 128 with
  | 0 => ⟨S8x4096x256, .f32⟩
  | 1 => ⟨S8x4096x256, .f32⟩
  | 2 => ⟨S1x256x2048, .f32⟩
  | 3 => ⟨S256x2048, .f32⟩
  | 4 => ⟨S8x4096x2048, .f32⟩
  | 5 => ⟨S8x4096x8x256, .f32⟩
  | 6 => ⟨S8x4096x8x128, .f32⟩
  | 7 => ⟨S8x4096x8x128, .f32⟩
  | 8 => ⟨S8x4096x1x64, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S8x4096, .f32⟩
  | 24 => ⟨S8x4096x1x1, .f32⟩
  | 25 => ⟨S1x1x1x32, .f32⟩
  | 26 => ⟨S8x4096x1x32, .f32⟩
  | 27 => ⟨S8x4096x1x32, .f32⟩
  | 28 => ⟨S8x4096x1x32, .f32⟩
  | 29 => ⟨S8x4096x1x32, .f32⟩
  | 30 => ⟨S8x4096x1x32, .f32⟩
  | 31 => ⟨S8x4096x1x32, .f32⟩
  | 32 => ⟨S8x4096x1x32, .f32⟩
  | 33 => ⟨S8x4096x1x32, .f32⟩
  | 34 => ⟨S8x4096x1x32, .f32⟩
  | 35 => ⟨S8x4096x1x32, .f32⟩
  | 36 => ⟨S8x4096x1x32, .f32⟩
  | 37 => ⟨S8x4096x1x32, .f32⟩
  | 38 => ⟨S8x4096x1x32, .f32⟩
  | 39 => ⟨S8x4096x1x64, .f32⟩
  | 40 => ⟨S8x4096x8x64, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S8x4096x8x192, .f32⟩
  | 49 => ⟨S8x4096x8x192, .f32⟩
  | 50 => ⟨S8x4096x8x192, .f32⟩
  | 51 => ⟨S32768x8x192, .f32⟩
  | 52 => ⟨S8x32768x192, .f32⟩
  | 53 => ⟨S8x32768x192, .bf16⟩
  | 54 => ⟨S8x4096x8x192, .f32⟩
  | 55 => ⟨S32768x8x192, .f32⟩
  | 56 => ⟨S8x32768x192, .f32⟩
  | 57 => ⟨S8x32768x192, .bf16⟩
  | 58 => ⟨S32768x1024, .f32⟩
  | 59 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_v63 : Ref sig .tc := ⟨.hbm, 80, rfl⟩
abbrev main_cst_7 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_8 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_10 : Ref sig .tc := ⟨.hbm, 115, rfl⟩
abbrev main_v95 : Ref sig .tc := ⟨.hbm, 116, rfl⟩
abbrev main_v96 : Ref sig .tc := ⟨.hbm, 117, rfl⟩
abbrev main_cst_11 : Ref sig .tc := ⟨.hbm, 118, rfl⟩
abbrev main_v97 : Ref sig .tc := ⟨.hbm, 119, rfl⟩
abbrev main_v98 : Ref sig .tc := ⟨.hbm, 120, rfl⟩
abbrev main_cst_12 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_13 : Ref sig .tc := ⟨.hbm, 138, rfl⟩
abbrev main_v115 : Ref sig .tc := ⟨.hbm, 139, rfl⟩
abbrev main_v116 : Ref sig .tc := ⟨.hbm, 140, rfl⟩
abbrev main_cst_14 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_cst_15 : Ref sig .tc := ⟨.hbm, 145, rfl⟩
abbrev main_v120 : Ref sig .tc := ⟨.hbm, 146, rfl⟩
abbrev main_v121 : Ref sig .tc := ⟨.hbm, 147, rfl⟩
abbrev main_cst_16 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_cst_17 : Ref sig .tc := ⟨.hbm, 169, rfl⟩
abbrev main_v142 : Ref sig .tc := ⟨.hbm, 170, rfl⟩
abbrev main_cst_18 : Ref sig .tc := ⟨.hbm, 171, rfl⟩
abbrev main_v143 : Ref sig .tc := ⟨.hbm, 172, rfl⟩
abbrev main_v144 : Ref sig .tc := ⟨.hbm, 173, rfl⟩
abbrev main_cst_19 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩

abbrev nD : Nat := 1
abbrev τ : Topo := Topo.v7x

variable {F : FTy → Type} [FloatOps F]
-- ==== Modulation.lean ====
abbrev S8x1024 : Shape := ⟨2, ![8, 1024]⟩
abbrev S4x1024x9216 : Shape := ⟨3, ![4, 1024, 9216]⟩
abbrev S4x9216 : Shape := ⟨2, ![4, 9216]⟩
abbrev S4x1x9216 : Shape := ⟨3, ![4, 1, 9216]⟩
abbrev S4x8x9216 : Shape := ⟨3, ![4, 8, 9216]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x9216, .f32⟩
  | .hbm, ⟨2, _⟩ => ⟨S4x9216, .f32⟩
  | .hbm, ⟨3, _⟩ => ⟨S4x1x9216, .f32⟩
  | .hbm, ⟨4, _⟩ => ⟨S4x8x9216, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceModulationIdeal.lean ====
abbrev S8x1024 : Shape := ⟨2, ![8, 1024]⟩
abbrev S4x1024x9216 : Shape := ⟨3, ![4, 1024, 9216]⟩
abbrev S4x9216 : Shape := ⟨2, ![4, 9216]⟩
abbrev S_ : Shape := ⟨0, ![]⟩
abbrev S1x1024x9216 : Shape := ⟨3, ![1, 1024, 9216]⟩
abbrev S1024x9216 : Shape := ⟨2, ![1024, 9216]⟩
abbrev S8x9216 : Shape := ⟨2, ![8, 9216]⟩
abbrev S1x9216 : Shape := ⟨2, ![1, 9216]⟩
abbrev S9216 : Shape := ⟨1, ![9216]⟩
abbrev S1x8x9216 : Shape := ⟨3, ![1, 8, 9216]⟩
abbrev S4x8x9216 : Shape := ⟨3, ![4, 8, 9216]⟩

abbrev nBuf : Space → Nat
  | .hbm => 76
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x9216, .f32⟩
  | .hbm, ⟨2, _⟩ => ⟨S4x9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x9216, .f32⟩
  | .hbm, ⟨13, _⟩ => ⟨S1024x9216, .f32⟩
  | .hbm, ⟨14, _⟩ => ⟨S8x9216, .f32⟩
  | .hbm, ⟨15, _⟩ => ⟨S1x9216, .f32⟩
  | .hbm, ⟨16, _⟩ => ⟨S9216, .f32⟩
  | .hbm, ⟨17, _⟩ => ⟨S1x9216, .f32⟩
  | .hbm, ⟨18, _⟩ => ⟨S8x9216, .f32⟩
  | .hbm, ⟨19, _⟩ => ⟨S8x9216, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x9216, .f32⟩
  | .hbm, ⟨30, _⟩ => ⟨S1024x9216, .f32⟩
  | .hbm, ⟨31, _⟩ => ⟨S8x9216, .f32⟩
  | .hbm, ⟨32, _⟩ => ⟨S1x9216, .f32⟩
  | .hbm, ⟨33, _⟩ => ⟨S9216, .f32⟩
  | .hbm, ⟨34, _⟩ => ⟨S1x9216, .f32⟩
  | .hbm, ⟨35, _⟩ => ⟨S8x9216, .f32⟩
  | .hbm, ⟨36, _⟩ => ⟨S8x9216, .f32⟩
  | .hbm, ⟨37, _⟩ => ⟨S8x1024, .f32⟩
  | .hbm, ⟨38, _⟩ => ⟨S8x1024, .f32⟩
  | .hbm, ⟨39, _⟩ => ⟨S_, .f32⟩
  | .hbm, ⟨40, _⟩ => ⟨S8x1024, .f32⟩
  | .hbm, ⟨41, _⟩ => ⟨S8x1024, .f32⟩
  | .hbm, ⟨42, _⟩ => ⟨S_, .f32⟩
  | .hbm, ⟨43, _⟩ => ⟨S8x1024, .f32⟩
  | .hbm, ⟨44, _⟩ => ⟨S8x1024, .f32⟩
  | .hbm, ⟨45, _⟩ => ⟨S8x1024, .f32⟩
  | .hbm, ⟨46, _⟩ => ⟨S1x1024x9216, .f32⟩
  | .hbm, ⟨47, _⟩ => ⟨S1024x9216, .f32⟩
  | .hbm, ⟨48, _⟩ => ⟨S8x9216, .f32⟩
  | .hbm, ⟨49, _⟩ => ⟨S1x9216, .f32⟩
  | .hbm, ⟨50, _⟩ => ⟨S9216, .f32⟩
  | .hbm, ⟨51, _⟩ => ⟨S1x9216, .f32⟩
  | .hbm, ⟨52, _⟩ => ⟨S8x9216, .f32⟩
  | .hbm, ⟨53, _⟩ => ⟨S8x9216, .f32⟩
  | .hbm, ⟨54, _⟩ => ⟨S8x1024, .f32⟩
  | .hbm, ⟨55, _⟩ => ⟨S8x1024, .f32⟩
  | .hbm, ⟨56, _⟩ => ⟨S_, .f32⟩
  | .hbm, ⟨57, _⟩ => ⟨S8x1024, .f32⟩
  | .hbm, ⟨58, _⟩ => ⟨S8x1024, .f32⟩
  | .hbm, ⟨59, _⟩ => ⟨S_, .f32⟩
  | .hbm, ⟨60, _⟩ => ⟨S8x1024, .f32⟩
  | .hbm, ⟨61, _⟩ => ⟨S8x1024, .f32⟩
  | .hbm, ⟨62, _⟩ => ⟨S8x1024, .f32⟩
  | .hbm, ⟨63, _⟩ => ⟨S1x1024x9216, .f32⟩
  | .hbm, ⟨64, _⟩ => ⟨S1024x9216, .f32⟩
  | .hbm, ⟨65, _⟩ => ⟨S8x9216, .f32⟩
  | .hbm, ⟨66, _⟩ => ⟨S1x9216, .f32⟩
  | .hbm, ⟨67, _⟩ => ⟨S9216, .f32⟩
  | .hbm, ⟨68, _⟩ => ⟨S1x9216, .f32⟩
  | .hbm, ⟨69, _⟩ => ⟨S8x9216, .f32⟩
  | .hbm, ⟨70, _⟩ => ⟨S8x9216, .f32⟩
  | .hbm, ⟨71, _⟩ => ⟨S1x8x9216, .f32⟩
  | .hbm, ⟨72, _⟩ => ⟨S1x8x9216, .f32⟩
  | .hbm, ⟨73, _⟩ => ⟨S1x8x9216, .f32⟩
  | .hbm, ⟨74, _⟩ => ⟨S1x8x9216, .f32⟩
  | .hbm, ⟨75, _⟩ => ⟨S4x8x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== Proof.Attention.Softmax.lean ====
/- The mathematics of a softmax-weighted mean taken tile by tile. The scores are real numbers, the values that are
   averaged are any extended reals. `mean` is the result the two programs are compared with: the values weighted by
   `exp` of the scores, divided by the sum of these weights. -/
module

public import Idealize.ShloMosaic.PureOps
public import Idealize.ShloMosaic.Lib.Pointwise

@[expose] public section

noncomputable section

namespace Cert.Attention

open Idealize.ShloMosaic

/-- The pattern of minus infinity, from which the rows' maxima start, denotes the least extended real. -/
theorem ofBits_neg_inf : Ideal.ofBits .f32 0xFF800000#32 = (⊥ : EReal) := by
  simp [Ideal.ofBits, Ideal.ieee]

/-- A finite sum of real numbers, read as extended reals one by one or as a whole. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A non-negative real factor distributes over the sum of two extended reals, whatever they are. -/
theorem coe_mul_add {c : ℝ} (hc : 0 ≤ c) (x y : EReal) : (c : EReal) * (x + y) = c * x + c * y :=
  EReal.left_distrib_of_nonneg_of_ne_top (EReal.coe_nonneg.2 hc) (EReal.coe_ne_top c) x y

/-- A non-negative real factor distributes over a finite sum of extended reals. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- The greatest of finitely many real scores. -/
def top {n : ℕ} [NeZero n] (σ : Fin n → ℝ) : ℝ := Finset.univ.sup' Finset.univ_nonempty σ

/-- The running maximum that starts from minus infinity ends at the greatest score. -/
theorem fold_max {n : ℕ} [NeZero n] (σ : Fin n → ℝ) :
    Finset.univ.fold max (⊥ : EReal) (fun x => (σ x : EReal)) = (top σ : EReal) := by
  refine le_antisymm ((Finset.fold_max_le _).2 ⟨bot_le, fun x _ => ?_⟩) ?_
  · exact EReal.coe_le_coe_iff.2 (Finset.le_sup' σ (Finset.mem_univ x))
  · obtain ⟨x, hx, h⟩ := Finset.exists_mem_eq_sup' (Finset.univ_nonempty (α := Fin n)) σ
    exact (Finset.le_fold_max _).2 (Or.inr ⟨x, hx, EReal.coe_le_coe_iff.2 h.le⟩)

/-- The sum of the values `v`, weighted by two to the power of the scores less `m`. -/
def wsum {n : ℕ} (m : ℝ) (τ : Fin n → ℝ) (v : Fin n → EReal) : EReal :=
  ∑ x, (((2 : ℝ) ^ (τ x - m) : ℝ) : EReal) * v x

/-- Changing the level that the scores are taken from is one factor on the weighted sum. -/
theorem wsum_shift {n : ℕ} (m m' : ℝ) (τ : Fin n → ℝ) (v : Fin n → EReal) :
    (((2 : ℝ) ^ (m - m') : ℝ) : EReal) * wsum m τ v = wsum m' τ v := by
  unfold wsum
  rw [coe_mul_sum _ (Real.rpow_nonneg (by norm_num) _)]
  refine Finset.sum_congr rfl fun x _ => ?_
  rw [← mul_assoc, ← EReal.coe_mul, ← Real.rpow_add (by norm_num)]
  congr 3
  ring

/-- The weighted sum of ones is the real number that is the sum of the weights. -/
theorem wsum_one {n : ℕ} (m : ℝ) (τ : Fin n → ℝ) :
    wsum m τ (fun _ => 1) = ((∑ x, (2 : ℝ) ^ (τ x - m) : ℝ) : EReal) := by
  unfold wsum
  rw [coe_sum]
  exact Finset.sum_congr rfl fun x _ => mul_one _

/-- Four tiles summed one after the other, the sum so far being brought to the new level each time, give the four
    weighted sums at the last level. -/
theorem wsum_four {n : ℕ} (m₀ m₁ m₂ m₃ : ℝ) (τ₀ τ₁ τ₂ τ₃ : Fin n → ℝ) (v₀ v₁ v₂ v₃ : Fin n → EReal) :
    (((2 : ℝ) ^ (m₂ - m₃) : ℝ) : EReal) * ((((2 : ℝ) ^ (m₁ - m₂) : ℝ) : EReal)
        * ((((2 : ℝ) ^ (m₀ - m₁) : ℝ) : EReal) * wsum m₀ τ₀ v₀ + wsum m₁ τ₁ v₁) + wsum m₂ τ₂ v₂) + wsum m₃ τ₃ v₃
      = wsum m₃ τ₀ v₀ + wsum m₃ τ₁ v₁ + wsum m₃ τ₂ v₂ + wsum m₃ τ₃ v₃ := by
  have h (x : ℝ) : (0 : ℝ) ≤ 2 ^ x := Real.rpow_nonneg (by norm_num) x
  simp only [wsum_shift, coe_mul_add (h _)]

/-- A sum over 4096 keys is the sum of its four runs of 1024 keys. -/
theorem sum_tiles {M : Type*} [AddCommMonoid M] (f : Fin 4096 → M) :
    ∑ k, f k = (∑ x : Fin 1024, f ⟨x.val, by omega⟩) + (∑ x : Fin 1024, f ⟨1024 + x.val, by omega⟩)
      + (∑ x : Fin 1024, f ⟨2048 + x.val, by omega⟩) + ∑ x : Fin 1024, f ⟨3072 + x.val, by omega⟩ := by
  rw [Fin.sum_univ_two_halves 3072 1024 rfl f, Fin.sum_univ_two_halves 2048 1024 rfl,
    Fin.sum_univ_two_halves 1024 1024 rfl]

/-- The softmax-weighted mean of the values `v` with the scores `σ`. -/
def mean {n : ℕ} (σ : Fin n → ℝ) (v : Fin n → EReal) : EReal :=
  ∑ k, ((Real.exp (σ k) / ∑ l, Real.exp (σ l) : ℝ) : EReal) * v k

/-- Two to the power of a score divided by `log 2` is `exp` of the score. -/
theorem two_rpow (x : ℝ) : (2 : ℝ) ^ (x / Real.log 2) = Real.exp x := by
  have h : Real.log 2 ≠ 0 := Real.log_ne_zero_of_pos_of_ne_one (by norm_num) (by norm_num)
  rw [Real.rpow_def_of_pos (by norm_num), mul_div_cancel₀ _ h]

/-- The weighted sum of the values divided by the sum of the weights is the softmax-weighted mean, at any level `m`. -/
theorem div_wsum {n : ℕ} [NeZero n] (m : ℝ) (σ : Fin n → ℝ) (v : Fin n → EReal) :
    Ideal.div (wsum m (fun k => σ k / Real.log 2) v) (wsum m (fun k => σ k / Real.log 2) fun _ => 1) = mean σ v := by
  have hp (x : ℝ) : (0 : ℝ) < 2 ^ x := Real.rpow_pos_of_pos (by norm_num) x
  have hs : 0 < ∑ k, (2 : ℝ) ^ (σ k / Real.log 2 - m) := Finset.sum_pos (fun k _ => hp _) Finset.univ_nonempty
  rw [wsum_one, Ideal.div_coe hs.ne', mul_comm]
  unfold wsum mean
  rw [coe_mul_sum _ (one_div_nonneg.2 hs.le)]
  refine Finset.sum_congr rfl fun k _ => ?_
  rw [← mul_assoc, ← EReal.coe_mul]
  congr 2
  have e (k : Fin n) : (2 : ℝ) ^ (σ k / Real.log 2 - m) = Real.exp (σ k) / 2 ^ m := by
    rw [Real.rpow_sub (by norm_num), two_rpow]
  simp only [e, ← Finset.sum_div]
  have h₁ : (2 : ℝ) ^ m ≠ 0 := (hp m).ne'
  field_simp

/-- The weights `exp (σ k - m)`, each divided by their sum, give the softmax-weighted mean, at any level `m`. -/
theorem sum_div_exp {n : ℕ} [NeZero n] (m : ℝ) (σ : Fin n → ℝ) (v : Fin n → EReal) :
    ∑ k, Ideal.div ((Real.exp (σ k - m) : ℝ) : EReal) ((∑ l, Real.exp (σ l - m) : ℝ) : EReal) * v k = mean σ v := by
  have hs : 0 < ∑ l, Real.exp (σ l - m) := Finset.sum_pos (fun k _ => Real.exp_pos _) Finset.univ_nonempty
  unfold mean
  refine Finset.sum_congr rfl fun k _ => ?_
  rw [Ideal.div_coe hs.ne', ← EReal.coe_mul]
  congr 2
  simp only [Real.exp_sub, ← Finset.sum_div]
  have h₁ : Real.exp m ≠ 0 := (Real.exp_pos m).ne'
  field_simp

end Cert.Attention

end
-- ==== Proof.Attention.Block.lean ====
/- What one grid point of the attention kernel computes: from a block of queries, the keys and the values of a head, the
   softmax-weighted mean of the values for every query of the block. The keys come in four tiles of 1024; the body keeps
   a running maximum of the scores, the sum of the weights and the weighted sum of the values. -/
module

public import proofs.«01_k».proof.Proof.Gen.KernelIdeal.Frame
public import proofs.«01_k».proof.Proof.Attention.Softmax
public import Idealize.ShloMosaic.Lib.Pointwise
public import Idealize.ShloMosaic.Lib.Pipeline.ValueKit

@[expose] public section

set_option maxRecDepth 16384

noncomputable section

namespace Cert.Attention

open Idealize.ShloMosaic Idealize.SL.Sem Cert.KernelIdeal Cert.KernelIdeal.Gen

/-! ### The operations of the body, over any vectors, and what each is at one element -/

/-- The column of the rows' greatest scores. -/
def rowMax (s : FVec Ideal S2048x1024 .f32) : FVec Ideal S2048x1 .f32 :=
  shapeCast S2048x1 (multiReduction .maximumf [1] S2048 s 0xFF800000#32 reduces_S2048x1024_S2048 (.inl rfl) rfl)
    shapeCasts_S2048_S2048x1

/-- The column of the rows' sums of weights. -/
def rowSum (p : FVec Ideal S2048x1024 .f32) : FVec Ideal S2048x1 .f32 :=
  shapeCast S2048x1 (multiReduction .add [1] S2048 p 0x00000000#32 reduces_S2048x1024_S2048 (.inl rfl) rfl)
    shapeCasts_S2048_S2048x1

/-- The weights of a tile's scores `s` at the level `u`. -/
def weights (s : FVec Ideal S2048x1024 .f32) (u : FVec Ideal S2048x1 .f32) : FVec Ideal S2048x1024 .f32 :=
  exp2 (subf s (broadcastTo S2048x1024 u broadcasts_S2048x1_S2048x1024))

/-- The factor from the level `u` to the level `w`. -/
def rescale (u w : FVec Ideal S2048x1 .f32) : FVec Ideal S2048x1 .f32 := exp2 (subf u w)

/-- The product of a tile's weights with its values. -/
def weighted (p : FVec Ideal S2048x1024 .f32) (v : FVec Ideal S1024x128 .bf16) : FVec Ideal S2048x128 .f32 :=
  matmul dot_S2048x1024_S1024x128_S2048x128_1_0_0_1_n_n none (truncf .bf16 p bitsLt_bf16_f32)
    (shapeCast S1024x128 v shapeCasts_S1024x128_S1024x128) (constant S2048x128 .f32 0x00000000#32)

/-- A column spread over the 128 lanes. -/
def spread (u : FVec Ideal S2048x1 .f32) : FVec Ideal S2048x128 .f32 :=
  broadcastTo S2048x128 u broadcasts_S2048x1_S2048x128

theorem rowMax_apply (s : FVec Ideal S2048x1024 .f32) (r : Fin 2048) (τ : Fin 1024 → ℝ)
    (h : ∀ x, s (ix2 r x) = (τ x : EReal)) : rowMax s (ix2 r 0) = (top τ : EReal) := by
  unfold rowMax
  pointwise
  simp only [h, ofBits_neg_inf]
  exact fold_max τ

theorem max_apply (u w : FVec Ideal S2048x1 .f32) (r : Fin 2048) (m m' : ℝ)
    (hu : u (ix2 r 0) = (m : EReal)) (hw : w (ix2 r 0) = (m' : EReal)) :
    maximumf u w (ix2 r 0) = ((max m m' : ℝ) : EReal) := by
  show max (u (ix2 r 0)) (w (ix2 r 0)) = _
  rw [hu, hw]
  exact (EReal.coe_strictMono.monotone.map_max).symm

theorem weights_apply (u : FVec Ideal S2048x1 .f32) (s : FVec Ideal S2048x1024 .f32) (r : Fin 2048) (m : ℝ)
    (τ : Fin 1024 → ℝ) (hu : u (ix2 r 0) = (m : EReal)) (h : ∀ x, s (ix2 r x) = (τ x : EReal)) (x : Fin 1024) :
    weights s u (ix2 r x) = (((2 : ℝ) ^ (τ x - m) : ℝ) : EReal) := by
  unfold weights
  pointwise
  rw [hu, h, ← EReal.coe_sub]
  rfl

theorem rescale_apply (u w : FVec Ideal S2048x1 .f32) (r : Fin 2048) (m m' : ℝ)
    (hu : u (ix2 r 0) = (m : EReal)) (hw : w (ix2 r 0) = (m' : EReal)) :
    rescale u w (ix2 r 0) = (((2 : ℝ) ^ (m - m') : ℝ) : EReal) := by
  unfold rescale
  pointwise
  rw [hu, hw, ← EReal.coe_sub]
  rfl

theorem weighted_apply (p : FVec Ideal S2048x1024 .f32) (v : FVec Ideal S1024x128 .bf16) (r : Fin 2048) (c : Fin 128)
    (m : ℝ) (τ : Fin 1024 → ℝ) (hp : ∀ x, p (ix2 r x) = (((2 : ℝ) ^ (τ x - m) : ℝ) : EReal)) :
    weighted p v (ix2 r c) = wsum m τ fun x => v (ix2 x c) := by
  unfold weighted
  pointwise
  simp only [hp]
  rfl

theorem rowSum_apply (p : FVec Ideal S2048x1024 .f32) (r : Fin 2048) (m : ℝ) (τ : Fin 1024 → ℝ)
    (hp : ∀ x, p (ix2 r x) = (((2 : ℝ) ^ (τ x - m) : ℝ) : EReal)) :
    rowSum p (ix2 r 0) = wsum m τ fun _ => 1 := by
  unfold rowSum
  pointwise
  simp only [hp, wsum, mul_one]

theorem spread_apply (u : FVec Ideal S2048x1 .f32) (r : Fin 2048) (c : Fin 128) :
    spread u (ix2 r c) = u (ix2 r 0) := by
  unfold spread
  pointwise

/-- A change of level: the factor times the sum so far, and the new tile's sum added. -/
theorem update_apply {S : Shape} (a s t : FVec Ideal S .f32) (i : S.Idx) : addf (mulf a s) t i = a i * s i + t i := rfl

theorem quotient_apply (a l : FVec Ideal S2048x128 .f32) (i : S2048x128.Idx) :
    truncf .bf16 (divf a l) bitsLt_bf16_f32 i = Ideal.div (a i) (l i) := rfl

/-! ### Four tiles -/

/-- The body's result as one term over the four tiles' scores and values. -/
def tiled (s₀ s₁ s₂ s₃ : FVec Ideal S2048x1024 .f32) (v₀ v₁ v₂ v₃ : FVec Ideal S1024x128 .bf16) :
    FVec Ideal S2048x128 .bf16 :=
  let u₀ := rowMax s₀
  let u₁ := maximumf u₀ (rowMax s₁)
  let u₂ := maximumf u₁ (rowMax s₂)
  let u₃ := maximumf u₂ (rowMax s₃)
  let l₁ := addf (mulf (rescale u₀ u₁) (rowSum (weights s₀ u₀))) (rowSum (weights s₁ u₁))
  let l₂ := addf (mulf (rescale u₁ u₂) l₁) (rowSum (weights s₂ u₂))
  let l₃ := addf (mulf (rescale u₂ u₃) l₂) (rowSum (weights s₃ u₃))
  let o₁ := addf (mulf (spread (rescale u₀ u₁)) (weighted (weights s₀ u₀) v₀)) (weighted (weights s₁ u₁) v₁)
  let o₂ := addf (mulf (spread (rescale u₁ u₂)) o₁) (weighted (weights s₂ u₂) v₂)
  let o₃ := addf (mulf (spread (rescale u₂ u₃)) o₂) (weighted (weights s₃ u₃) v₃)
  truncf .bf16 (divf o₃ (spread l₃)) bitsLt_bf16_f32

/-- With real scores the four tiles give one quotient: the weighted sum of all values by the sum of all weights. -/
theorem tiled_apply (s₀ s₁ s₂ s₃ : FVec Ideal S2048x1024 .f32) (v₀ v₁ v₂ v₃ : FVec Ideal S1024x128 .bf16)
    (r : Fin 2048) (c : Fin 128) (τ₀ τ₁ τ₂ τ₃ : Fin 1024 → ℝ)
    (h₀ : ∀ x, s₀ (ix2 r x) = (τ₀ x : EReal)) (h₁ : ∀ x, s₁ (ix2 r x) = (τ₁ x : EReal))
    (h₂ : ∀ x, s₂ (ix2 r x) = (τ₂ x : EReal)) (h₃ : ∀ x, s₃ (ix2 r x) = (τ₃ x : EReal)) :
    ∃ m : ℝ, tiled s₀ s₁ s₂ s₃ v₀ v₁ v₂ v₃ (ix2 r c)
      = Ideal.div (wsum m τ₀ (fun x => v₀ (ix2 x c)) + wsum m τ₁ (fun x => v₁ (ix2 x c))
          + wsum m τ₂ (fun x => v₂ (ix2 x c)) + wsum m τ₃ fun x => v₃ (ix2 x c))
        (wsum m τ₀ (fun _ => 1) + wsum m τ₁ (fun _ => 1) + wsum m τ₂ (fun _ => 1) + wsum m τ₃ fun _ => 1) := by
  have m₀ := rowMax_apply s₀ r τ₀ h₀
  have m₁ := max_apply _ _ r _ _ m₀ (rowMax_apply s₁ r τ₁ h₁)
  have m₂ := max_apply _ _ r _ _ m₁ (rowMax_apply s₂ r τ₂ h₂)
  have m₃ := max_apply _ _ r _ _ m₂ (rowMax_apply s₃ r τ₃ h₃)
  have p₀ := weights_apply _ s₀ r _ _ m₀ h₀
  have p₁ := weights_apply _ s₁ r _ _ m₁ h₁
  have p₂ := weights_apply _ s₂ r _ _ m₂ h₂
  have p₃ := weights_apply _ s₃ r _ _ m₃ h₃
  refine ⟨max (max (max (top τ₀) (top τ₁)) (top τ₂)) (top τ₃), ?_⟩
  dsimp only [tiled]
  simp only [quotient_apply, update_apply, spread_apply]
  rw [rescale_apply _ _ r _ _ m₀ m₁, rescale_apply _ _ r _ _ m₁ m₂, rescale_apply _ _ r _ _ m₂ m₃,
    rowSum_apply _ r _ _ p₀, rowSum_apply _ r _ _ p₁, rowSum_apply _ r _ _ p₂, rowSum_apply _ r _ _ p₃,
    weighted_apply _ _ r c _ _ p₀, weighted_apply _ _ r c _ _ p₁, weighted_apply _ _ r c _ _ p₂,
    weighted_apply _ _ r c _ _ p₃, wsum_four, wsum_four]

/-! ### The scores of the four tiles -/

section Block

variable (x0 : Vec Ideal S1x2048x192 .bf16) (x1 : Vec Ideal S1x4096x192 .bf16) (x2 : Vec Ideal S4096x128 .bf16)

/-- The score of query `r` of the block and key `k`. -/
def score (r : Fin 2048) (k : Fin 4096) : EReal := ∑ d : Fin 192, x0 (ix3 0 r d) * x1 (ix3 0 k d)

theorem score_first (r : Fin 2048) (x : Fin 1024) :
    k0_pay3 (View.ld x0 r0_0) (View.ld x1 r0_1) (ix2 r x) = score x0 x1 r ⟨x.val, by omega⟩ := by
  pointwise [k0_pay3, k0_pay2, score]

theorem score_second (r : Fin 2048) (x : Fin 1024) :
    k0_pay7 (View.ld x0 r0_0) (View.ld x1 r0_3) (ix2 r x) = score x0 x1 r ⟨1024 + x.val, by omega⟩ := by
  pointwise [k0_pay7, k0_pay2, score]

theorem score_third (r : Fin 2048) (x : Fin 1024) :
    k0_pay14 (k0_pay2 (View.ld x0 r0_0)) (View.ld x1 r0_5) (ix2 r x) = score x0 x1 r ⟨2048 + x.val, by omega⟩ := by
  pointwise [k0_pay14, k0_pay2, score]

theorem score_fourth (r : Fin 2048) (x : Fin 1024) :
    k0_pay19 (k0_pay2 (View.ld x0 r0_0)) (View.ld x1 r0_7) (ix2 r x) = score x0 x1 r ⟨3072 + x.val, by omega⟩ := by
  pointwise [k0_pay19, k0_pay2, score]

/-- The four tiles of values, each read where it stands in the block. -/
theorem values (r : Fin 1024) (c : Fin 128) :
    View.ld x2 r0_2 (ix2 r c) = x2 (ix2 ⟨r.val, by omega⟩ c)
    ∧ View.ld x2 r0_4 (ix2 r c) = x2 (ix2 ⟨1024 + r.val, by omega⟩ c)
    ∧ View.ld x2 r0_6 (ix2 r c) = x2 (ix2 ⟨2048 + r.val, by omega⟩ c)
    ∧ View.ld x2 r0_8 (ix2 r c) = x2 (ix2 ⟨3072 + r.val, by omega⟩ c) := by
  refine ⟨?_, ?_, ?_, ?_⟩ <;> pointwise

/-- The body's stored block is `tiled` of the four tiles' scores and values. -/
theorem out_eq : out0_3 x0 x1 x2 = tiled (k0_pay3 (View.ld x0 r0_0) (View.ld x1 r0_1))
    (k0_pay7 (View.ld x0 r0_0) (View.ld x1 r0_3)) (k0_pay14 (k0_pay2 (View.ld x0 r0_0)) (View.ld x1 r0_5))
    (k0_pay19 (k0_pay2 (View.ld x0 r0_0)) (View.ld x1 r0_7))
    (View.ld x2 r0_2) (View.ld x2 r0_4) (View.ld x2 r0_6) (View.ld x2 r0_8) := by
  unfold_out out0_3
  rw [View.canon_unit_zero (by decide)]
  unfold k0_pay1 k0_pay18 k0_pay22 k0_pay23 k0_pay24 k0_pay25 k0_pay20 k0_pay21 k0_pay12 k0_pay13 k0_pay15 k0_pay16 k0_pay17
    k0_pay10 k0_pay11 k0_pay8 k0_pay9 k0_pay6 k0_pay5 k0_pay4
  unfold tiled rowMax rowSum weights rescale weighted spread
  rfl

/-- What the body leaves in the output block: for query `r` and lane `c`, the softmax-weighted mean of that lane of the
    values. The scores are asked to be real, in the units of base-two exponents. -/
theorem out_apply (r : Fin 2048) (c : Fin 128) (σ : Fin 4096 → ℝ)
    (hs : ∀ k, score x0 x1 r k = ((σ k / Real.log 2 : ℝ) : EReal)) :
    out0_3 x0 x1 x2 (ix2 r c) = mean σ fun k => x2 (ix2 k c) := by
  obtain ⟨m, hm⟩ := tiled_apply _ _ _ _ (View.ld x2 r0_2) (View.ld x2 r0_4) (View.ld x2 r0_6) (View.ld x2 r0_8) r c _ _ _ _
    (fun x => (score_first x0 x1 r x).trans (hs _)) (fun x => (score_second x0 x1 r x).trans (hs _))
    (fun x => (score_third x0 x1 r x).trans (hs _)) (fun x => (score_fourth x0 x1 r x).trans (hs _))
  rw [out_eq, hm, ← div_wsum m]
  unfold wsum
  rw [sum_tiles, sum_tiles]
  simp only [fun x => (values x2 x c).1, fun x => (values x2 x c).2.1, fun x => (values x2 x c).2.2.1,
    fun x => (values x2 x c).2.2.2]

end Block

end Cert.Attention

end
-- ==== Proof.Attention.Scores.lean ====
/- The scores of the attention as real numbers: for a head, the product of the plain parts of a query and a key, plus the
   product of their rotated parts (the rotated key is one for all heads), times the scale. -/
module

public import proofs.«01_k».proof.Proof.Attention.Softmax

@[expose] public section

noncomputable section

namespace Cert.Attention

open Idealize.ShloMosaic

/-- The scale of the scores, the nearest single to `1 / sqrt 192`. -/
def scale : ℝ := 4843165 / 67108864

theorem ofBits_scale : Ideal.ofBits .f32 1033096506#32 = (scale : EReal) := by
  simp [Ideal.ofBits, Ideal.ieee, scale, -EReal.coe_mul]
  norm_num

theorem ofBits_two : Ideal.ofBits .f32 1073741824#32 = ((2 : ℝ) : EReal) := by
  simp [Ideal.ofBits, Ideal.ieee, -EReal.coe_mul]
  norm_num

/-- The quotient the queries are multiplied by on the host: the scale in the units of base-two exponents. -/
theorem scale_div : Ideal.div (Ideal.ofBits .f32 1033096506#32) (Ideal.log (Ideal.ofBits .f32 1073741824#32))
    = ((scale / Real.log 2 : ℝ) : EReal) := by
  have h : Real.log 2 ≠ 0 := Real.log_ne_zero_of_pos_of_ne_one (by norm_num) (by norm_num)
  rw [ofBits_scale, ofBits_two, Ideal.log_coe, if_neg (by norm_num), Ideal.div_coe h, ← EReal.coe_mul]
  congr 1
  ring

/-- A real argument of four axes, and one of three. -/
abbrev Real4 (n : ℕ) := Fin 8 → Fin 4096 → Fin 8 → Fin n → ℝ
abbrev Real3 (n : ℕ) := Fin 8 → Fin 4096 → Fin n → ℝ

/-- The score of query `q` and key `k` of head `h` in batch `b`. -/
def attn (y0 : Real4 128) (y1 : Real4 64) (y2 : Real4 128) (y3 : Real3 64) (b h : Fin 8) (q k : Fin 4096) : ℝ :=
  (∑ d, y0 b q h d * y2 b k h d + ∑ e, y1 b q h e * y3 b k e) * scale

theorem idx2_lt_0 {a b : ℕ} (i : (⟨2, ![a, b]⟩ : Shape).Idx) : (i 0).val < a := (i 0).isLt
theorem idx2_lt_1 {a b : ℕ} (i : (⟨2, ![a, b]⟩ : Shape).Idx) : (i 1).val < b := (i 1).isLt

/-- The attention's result, a matrix of 32768 tokens by 8 heads of 128 lanes: row `i` is the token `i % 4096` of batch
    `i / 4096`, lane `j` is the lane `j % 128` of head `j / 128`. -/
def attention (y0 : Real4 128) (y1 : Real4 64) (y2 : Real4 128) (y3 : Real3 64)
    (x4 : FVec Ideal ⟨4, ![8, 4096, 8, 128]⟩ .f32) : FVec Ideal ⟨2, ![32768, 1024]⟩ .bf16 := fun i =>
  mean (attn y0 y1 y2 y3 ⟨(i 0).val / 4096, by have := idx2_lt_0 i; omega⟩ ⟨(i 1).val / 128, by have := idx2_lt_1 i; omega⟩
      ⟨(i 0).val % 4096, by omega⟩)
    fun k => x4 (ix4 ⟨(i 0).val / 4096, by have := idx2_lt_0 i; omega⟩ k ⟨(i 1).val / 128, by have := idx2_lt_1 i; omega⟩
      ⟨(i 1).val % 128, by omega⟩)

theorem attention_of_val (y0 : Real4 128) (y1 : Real4 64) (y2 : Real4 128) (y3 : Real3 64)
    (x4 : FVec Ideal ⟨4, ![8, 4096, 8, 128]⟩ .f32) (i : (⟨2, ![32768, 1024]⟩ : Shape).Idx) (b h : Fin 8) (q : Fin 4096)
    (l : Fin 128) (hb : (i 0).val / 4096 = b.val) (hq : (i 0).val % 4096 = q.val) (hh : (i 1).val / 128 = h.val)
    (hl : (i 1).val % 128 = l.val) :
    attention y0 y1 y2 y3 x4 i = mean (attn y0 y1 y2 y3 b h q) fun k => x4 (ix4 b k h l) := by
  unfold attention
  simp only [hb, hq, hh, hl]

end Cert.Attention

end
-- ==== Proof.Attention.Array.lean ====
/- What the arrays hold: the operands the host lays out for the launch, read at an index, and the result array after the
   launch's last point. Row `i` of the result is a token, lane `j` a lane of a head; the point that writes it takes the
   block of 2048 queries the token lies in, and all keys and values of its batch and head. -/
module

public import proofs.«01_k».proof.Proof.Attention.Block
public import proofs.«01_k».proof.Proof.Attention.Scores

@[expose] public section

set_option maxRecDepth 16384

noncomputable section

namespace Cert.Attention

open Idealize.ShloMosaic Idealize.ShloMosaic.Pipeline Cert.KernelIdeal Cert.KernelIdeal.Facts₀ Cert.KernelIdeal.Facts
  Cert.KernelIdeal.Gen

section Host

variable (m : (ℓ : Loc nD τ sig) → Buf (Elt Ideal) ℓ) (c : Dev nD)

/-- The arguments and the launch's three operands, as vectors. -/
def arg0 : FVec Ideal S8x4096x8x128 .f32 := m (c, Proc.tc.devRef main_arg0)
def arg1 : FVec Ideal S8x4096x8x64 .f32 := m (c, Proc.tc.devRef main_arg1)
def arg2 : FVec Ideal S8x4096x8x128 .f32 := m (c, Proc.tc.devRef main_arg2)
def arg3 : FVec Ideal S8x4096x64 .f32 := m (c, Proc.tc.devRef main_arg3)
def arg4 : FVec Ideal S8x4096x8x128 .f32 := m (c, Proc.tc.devRef main_arg4)
def queries : FVec Ideal S8x32768x192 .bf16 := V m c main_v7
def keys : FVec Ideal S8x32768x192 .bf16 := V m c main_v13
def vals : FVec Ideal S32768x1024 .bf16 := V m c main_v15

/-- The queries as the launch finds them: the plain part and the rotated part beside it, scaled, head by head. -/
theorem queries_apply (h : Fin 8) (i : Fin 32768) (k : Fin 192) : queries m c (ix3 h i k)
    = (if hk : k.val < 128 then arg0 m c (ix4 ⟨i.val / 4096, by omega⟩ ⟨i.val % 4096, by omega⟩ h ⟨k.val, hk⟩)
        else arg1 m c (ix4 ⟨i.val / 4096, by omega⟩ ⟨i.val % 4096, by omega⟩ h ⟨k.val - 128, by omega⟩))
      * Ideal.div (Ideal.ofBits .f32 1033096506#32) (Ideal.log (Ideal.ofBits .f32 1073741824#32)) := by
  unfold queries arg0 arg1
  entry_read
  pointwise

/-- The keys as the launch finds them: the plain part and, the same for every head, the rotated part. -/
theorem keys_apply (h : Fin 8) (i : Fin 32768) (k : Fin 192) : keys m c (ix3 h i k)
    = if hk : k.val < 128 then arg2 m c (ix4 ⟨i.val / 4096, by omega⟩ ⟨i.val % 4096, by omega⟩ h ⟨k.val, hk⟩)
        else arg3 m c (ix3 ⟨i.val / 4096, by omega⟩ ⟨i.val % 4096, by omega⟩ ⟨k.val - 128, by omega⟩) := by
  unfold keys arg2 arg3
  entry_read
  pointwise

/-- The values as the launch finds them: the lanes of all heads side by side. -/
theorem vals_apply (i : Fin 32768) (j : Fin 1024) : vals m c (ix2 i j)
    = arg4 m c
        (ix4 ⟨i.val / 4096, by omega⟩ ⟨i.val % 4096, by omega⟩ ⟨j.val / 128, by omega⟩ ⟨j.val % 128, by omega⟩) := by
  unfold vals arg4
  entry_read
  pointwise

/-- A sum over the 192 lanes, the first 128 and the last 64 apart. -/
theorem sum_lanes (f : Fin 192 → ℝ) :
    ∑ d, f d = ∑ d : Fin 128, f ⟨d.val, by omega⟩ + ∑ e : Fin 64, f ⟨128 + e.val, by omega⟩ :=
  Fin.sum_univ_add (a := 128) (b := 64) f

/-- The product of a query and a key of one head and batch is their score, in the units of base-two exponents. -/
theorem product_eq (y0 : Real4 128) (y1 : Real4 64) (y2 : Real4 128) (y3 : Real3 64)
    (h0 : ∀ b s h d, arg0 m c (ix4 b s h d) = (y0 b s h d : EReal))
    (h1 : ∀ b s h d, arg1 m c (ix4 b s h d) = (y1 b s h d : EReal))
    (h2 : ∀ b s h d, arg2 m c (ix4 b s h d) = (y2 b s h d : EReal))
    (h3 : ∀ b s d, arg3 m c (ix3 b s d) = (y3 b s d : EReal))
    (h : Fin 8) (i j : Fin 32768) (b : Fin 8) (hi : i.val / 4096 = b.val) (hj : j.val / 4096 = b.val) :
    ∑ d : Fin 192, queries m c (ix3 h i d) * keys m c (ix3 h j d)
      = ((attn y0 y1 y2 y3 b h ⟨i.val % 4096, by omega⟩ ⟨j.val % 4096, by omega⟩ / Real.log 2 : ℝ) : EReal) := by
  have hb : (⟨i.val / 4096, by omega⟩ : Fin 8) = b := Fin.ext hi
  have hb' : (⟨j.val / 4096, by omega⟩ : Fin 8) = b := Fin.ext hj
  have hd (d : Fin 192) : queries m c (ix3 h i d) * keys m c (ix3 h j d)
      = ((if hk : d.val < 128 then
            y0 b ⟨i.val % 4096, by omega⟩ h ⟨d.val, hk⟩ * y2 b ⟨j.val % 4096, by omega⟩ h ⟨d.val, hk⟩ * (scale / Real.log 2)
          else y1 b ⟨i.val % 4096, by omega⟩ h ⟨d.val - 128, by omega⟩ * y3 b ⟨j.val % 4096, by omega⟩ ⟨d.val - 128, by omega⟩
            * (scale / Real.log 2) : ℝ) : EReal) := by
    rw [queries_apply, keys_apply, scale_div, hb, hb']
    split
    · rw [h0, h2, ← EReal.coe_mul, ← EReal.coe_mul, mul_right_comm]
    · rw [h1, h3, ← EReal.coe_mul, ← EReal.coe_mul, mul_right_comm]
  rw [Finset.sum_congr rfl fun d _ => hd d, ← coe_sum, sum_lanes]
  congr 1
  have ha (d : Fin 128) : d.val < 128 := d.isLt
  have he (e : Fin 64) : ¬ 128 + e.val < 128 := by omega
  simp only [ha, he, dite_true, dite_false, Nat.add_sub_cancel_left, ← Finset.sum_mul]
  unfold attn
  ring

end Host

section Launch

variable (m : (ℓ : Loc nD τ sig) → Buf (Elt Ideal) ℓ) (c : Dev nD)

theorem index_0 : ∀ t : Fin cfg0.N, win0_0.index t = ![t.val / 2 % 8, t.val / 16 * 2 + t.val % 2, 0] := by decide +kernel
theorem index_1 : ∀ t : Fin cfg0.N, win0_1.index t = ![t.val / 2 % 8, t.val / 16, 0] := by decide +kernel
theorem index_2 : ∀ t : Fin cfg0.N, win0_2.index t = ![t.val / 16, t.val / 2 % 8] := by decide +kernel
theorem index_3 : ∀ t : Fin cfg0.N, win0_3.index t = ![t.val / 16 * 2 + t.val % 2, t.val / 2 % 8] := by decide +kernel

/-- The three blocks a point fetches, read off their arrays. -/
theorem block_0 (t : Fin 128) (r : Fin 2048) (d : Fin 192) : iblk m c 0 t (ix3 0 r d)
    = queries m c (ix3 ⟨t.val / 2 % 8, by omega⟩ ⟨(t.val / 16 * 2 + t.val % 2) * 2048 + r.val, by omega⟩ d) := by
  unfold queries
  blk_ext [iblk, index_0 t]

theorem block_1 (t : Fin 128) (k : Fin 4096) (d : Fin 192) : iblk m c 1 t (ix3 0 k d)
    = keys m c (ix3 ⟨t.val / 2 % 8, by omega⟩ ⟨t.val / 16 * 4096 + k.val, by omega⟩ d) := by
  unfold keys
  blk_ext [iblk, index_1 t]

theorem block_2 (t : Fin 128) (k : Fin 4096) (l : Fin 128) : iblk m c 2 t (ix2 k l)
    = vals m c (ix2 ⟨t.val / 16 * 4096 + k.val, by omega⟩ ⟨t.val / 2 % 8 * 128 + l.val, by omega⟩) := by
  unfold vals
  blk_ext [iblk, index_2 t]

/-- What point `t` stores: batch `t / 16`, head `t / 2 % 8`, queries from `t % 2 * 2048` on. -/
theorem point_eq (t : Fin 128) (y0 : Real4 128) (y1 : Real4 64) (y2 : Real4 128) (y3 : Real3 64)
    (h0 : ∀ b s h d, arg0 m c (ix4 b s h d) = (y0 b s h d : EReal))
    (h1 : ∀ b s h d, arg1 m c (ix4 b s h d) = (y1 b s h d : EReal))
    (h2 : ∀ b s h d, arg2 m c (ix4 b s h d) = (y2 b s h d : EReal))
    (h3 : ∀ b s d, arg3 m c (ix3 b s d) = (y3 b s d : EReal)) (y : S2048x128.Idx) :
    out0_3 (iblk m c 0 t) (iblk m c 1 t) (iblk m c 2 t) y
      = mean (attn y0 y1 y2 y3 ⟨t.val / 16, by omega⟩ ⟨t.val / 2 % 8, by omega⟩
          ⟨t.val % 2 * 2048 + (y 0).val, by have := idx2_lt_0 y; omega⟩)
        fun k => arg4 m c (ix4 ⟨t.val / 16, by omega⟩ k ⟨t.val / 2 % 8, by omega⟩ ⟨(y 1).val, idx2_lt_1 y⟩) := by
  have l0 := idx2_lt_0 y
  have l1 := idx2_lt_1 y
  have hy : y = ix2 ⟨(y 0).val, l0⟩ ⟨(y 1).val, l1⟩ := by
    funext a
    match a with
    | ⟨0, _⟩ => rfl
    | ⟨1, _⟩ => rfl
  have hq : (⟨((t.val / 16 * 2 + t.val % 2) * 2048 + (y 0).val) % 4096, by omega⟩ : Fin 4096)
      = ⟨t.val % 2 * 2048 + (y 0).val, by omega⟩ := Fin.ext (by dsimp only; omega)
  have hk (k : Fin 4096) : (⟨(t.val / 16 * 4096 + k.val) % 4096, by omega⟩ : Fin 4096) = k := Fin.ext (by dsimp only; omega)
  refine (congrArg _ hy).trans ((out_apply _ _ _ _ _ (attn y0 y1 y2 y3 ⟨t.val / 16, by omega⟩ ⟨t.val / 2 % 8, by omega⟩
    ⟨t.val % 2 * 2048 + (y 0).val, by omega⟩) fun k => ?_).trans (congrArg _ (funext fun k => ?_)))
  · unfold score
    simp only [block_0, block_1]
    rw [product_eq m c y0 y1 y2 y3 h0 h1 h2 h3 _ _ _ ⟨t.val / 16, by omega⟩ (by dsimp only; omega) (by dsimp only; omega)]
    simp only [hq, hk]
  · rw [block_2, vals_apply]
    have hb : (⟨(t.val / 16 * 4096 + k.val) / 4096, by omega⟩ : Fin 8) = ⟨t.val / 16, by omega⟩ :=
      Fin.ext (by dsimp only; omega)
    have hh : (⟨(t.val / 2 % 8 * 128 + (y 1).val) / 128, by omega⟩ : Fin 8) = ⟨t.val / 2 % 8, by omega⟩ :=
      Fin.ext (by dsimp only; omega)
    have hl : (⟨(t.val / 2 % 8 * 128 + (y 1).val) % 128, by omega⟩ : Fin 128) = ⟨(y 1).val, l1⟩ :=
      Fin.ext (by dsimp only; omega)
    simp only [hk, hb, hh, hl]

/-- The result array after the run, where the queries and keys are real: the softmax-weighted mean of the values. -/
theorem array_eq (y0 : Real4 128) (y1 : Real4 64) (y2 : Real4 128) (y3 : Real3 64)
    (h0 : ∀ b s h d, arg0 m c (ix4 b s h d) = (y0 b s h d : EReal))
    (h1 : ∀ b s h d, arg1 m c (ix4 b s h d) = (y1 b s h d : EReal))
    (h2 : ∀ b s h d, arg2 m c (ix4 b s h d) = (y2 b s h d : EReal))
    (h3 : ∀ b s d, arg3 m c (ix3 b s d) = (y3 b s d : EReal)) :
    (dats m 0 c).arrAt 3 cfg0.N = attention y0 y1 y2 y3 (arg4 m c) := by
  refine (dats m 0 c).arrAt_eq_of_covers 3 _ (by decide +kernel) fun t hf y => ?_
  blk_simp
  rw [after0_3]
  have e0 : (((win0_3.blk t).view.emb y) 0).val = (t.val / 16 * 2 + t.val % 2) * 2048 + (y 0).val := by blk_simp [index_3 t]
  have e1 : (((win0_3.blk t).view.emb y) 1).val = t.val / 2 % 8 * 128 + (y 1).val := by blk_simp [index_3 t]
  have l0 : (y 0).val < 2048 := (y 0).isLt
  have l1 : (y 1).val < 128 := (y 1).isLt
  have lt : t.val < 128 := t.isLt
  refine Eq.trans ?_ (attention_of_val y0 y1 y2 y3 (arg4 m c) ((win0_3.blk t).view.emb y) ⟨t.val / 16, by omega⟩
    ⟨t.val / 2 % 8, by omega⟩ ⟨t.val % 2 * 2048 + (y 0).val, by omega⟩ ⟨(y 1).val, l1⟩ (by rw [e0]; dsimp only; omega)
    (by rw [e0]; dsimp only; omega) (by rw [e1]; dsimp only; omega) (by rw [e1]; dsimp only; omega)).symm
  rw [point_eq m c t y0 y1 y2 y3 h0 h1 h2 h3]

end Launch

end Cert.Attention

end
-- ==== Proof.Attention.Reference.lean ====
/- What the reference computes, at every entry of its result: the softmax-weighted mean of the values. Its lines are read
   one after the other: the scores, their row maxima, the exponentials, the sums, the quotients, the product with the
   values. -/
module

public import proofs.«01_k».proof.Proof.Attention.Scores
public import proofs.«01_k».proof.Proof.Gen.ReferenceIdeal.Read

@[expose] public section

set_option maxRecDepth 16384

noncomputable section

namespace Cert.Attention

open Idealize.ShloMosaic Cert.ReferenceIdeal Cert.ReferenceIdeal.Facts₀ Cert.ReferenceIdeal.Facts Cert.ReferenceIdeal.Read

section Reference

variable (x0 : FVec Ideal S8x4096x8x128 .f32) (x1 : FVec Ideal S8x4096x8x64 .f32) (x2 : FVec Ideal S8x4096x8x128 .f32)
  (x3 : FVec Ideal S8x4096x64 .f32) (x4 : FVec Ideal S8x4096x8x128 .f32)

theorem ref_score (b h : Fin 8) (q k : Fin 4096) : val_main_v5 (F := Ideal) x0 x1 x2 x3 (ix4 b h q k)
    = (∑ d, x0 (ix4 b q h d) * x2 (ix4 b k h d) + ∑ e, x3 (ix3 b k e) * x1 (ix4 b q h e)) * Ideal.ofBits .f32 1033096506#32 := by
  pointwise [val_main_v5, val_main_v4, val_main_cst, val_main_v3, val_main_v2, val_main_v1, val_main_v0]

/-- A maximum over the last axis that starts from minus infinity. -/
theorem reduce_max (u : FVec Ideal S8x8x4096x4096 .f32) (b h : Fin 8) (q : Fin 4096) :
    Host.reduce FloatOps.maximumf u (val_main_cst_0 (F := Ideal)) reducesTo_S8x8x4096x4096_S8x8x4096_d3 h_S_ (ix3 b h q)
      = Finset.univ.fold max (Ideal.ofBits .f32 0xFF800000#32) fun k : Fin 4096 => u (ix4 b h q k) := by
  pointwise [val_main_cst_0]

theorem ref_bottom (b h : Fin 8) (q : Fin 4096) :
    val_main_v7 (F := Ideal) (ix3 b h q) = Ideal.ofBits .f32 0xFF800000#32 := by
  pointwise [val_main_v7, val_main_cst_1]

theorem spread_max (u : FVec Ideal S8x8x4096 .f32) (b h : Fin 8) (q k : Fin 4096) :
    broadcastInDim S8x8x4096x4096 ![0, 1, 2, 3] bcast_S8x8x4096x1_S8x8x4096x4096_0_1_2_3
      (broadcastInDim S8x8x4096x1 ![0, 1, 2] bcast_S8x8x4096_S8x8x4096x1_0_1_2 u) (ix4 b h q k) = u (ix3 b h q) := by
  pointwise

theorem ref_max (b h : Fin 8) (q k : Fin 4096) : val_main_v10 (F := Ideal) x0 x1 x2 x3 (ix4 b h q k)
    = max (Ideal.ofBits .f32 0xFF800000#32) (Finset.univ.fold max (Ideal.ofBits .f32 0xFF800000#32)
        fun k : Fin 4096 => val_main_v5 (F := Ideal) x0 x1 x2 x3 (ix4 b h q k)) := by
  unfold val_main_v10 val_main_v9
  rw [spread_max, val_main_v8_apply, ref_bottom]
  unfold val_main_v6
  rw [reduce_max]
  generalize (Finset.univ.fold max (Ideal.ofBits .f32 0xFF800000#32)
    fun k : Fin 4096 => val_main_v5 (F := Ideal) x0 x1 x2 x3 (ix4 b h q k)) = w
  rfl

theorem ref_exp (b h : Fin 8) (q k : Fin 4096) : val_main_v12 (F := Ideal) x0 x1 x2 x3 (ix4 b h q k)
    = Ideal.exp (val_main_v5 (F := Ideal) x0 x1 x2 x3 (ix4 b h q k) - val_main_v10 (F := Ideal) x0 x1 x2 x3 (ix4 b h q k)) := by
  pointwise [val_main_v12, val_main_v11]

theorem ref_quotient (b h : Fin 8) (q k : Fin 4096) : val_main_v16 (F := Ideal) x0 x1 x2 x3 (ix4 b h q k)
    = Ideal.div (val_main_v12 (F := Ideal) x0 x1 x2 x3 (ix4 b h q k))
        (∑ l, val_main_v12 (F := Ideal) x0 x1 x2 x3 (ix4 b h q l)) := by
  pointwise [val_main_v16, val_main_v15, val_main_v14, val_main_v13, val_main_cst_2]

theorem ref_result (i : Fin 32768) (j : Fin 1024) : val_main_v20 (F := Ideal) x0 x1 x2 x3 x4 (ix2 i j)
    = ∑ k, x4 (ix4 ⟨i.val / 4096, by omega⟩ k ⟨j.val / 128, by omega⟩ ⟨j.val % 128, by omega⟩)
        * val_main_v16 (F := Ideal) x0 x1 x2 x3 (ix4 ⟨i.val / 4096, by omega⟩ ⟨j.val / 128, by omega⟩ ⟨i.val % 4096, by omega⟩ k) := by
  pointwise [val_main_v20, val_main_v19, val_main_v18, val_main_v17]

/-- The reference's result where the queries and keys are real: row `i` is the token `i % 4096` of batch `i / 4096`, lane
    `j` is the lane `j % 128` of head `j / 128`. -/
theorem reference_eq (y0 : Real4 128) (y1 : Real4 64) (y2 : Real4 128) (y3 : Real3 64)
    (h0 : ∀ b s h d, x0 (ix4 b s h d) = (y0 b s h d : EReal)) (h1 : ∀ b s h d, x1 (ix4 b s h d) = (y1 b s h d : EReal))
    (h2 : ∀ b s h d, x2 (ix4 b s h d) = (y2 b s h d : EReal)) (h3 : ∀ b s d, x3 (ix3 b s d) = (y3 b s d : EReal))
    (i : Fin 32768) (j : Fin 1024) : val_main_v20 (F := Ideal) x0 x1 x2 x3 x4 (ix2 i j)
    = mean (attn y0 y1 y2 y3 ⟨i.val / 4096, by omega⟩ ⟨j.val / 128, by omega⟩ ⟨i.val % 4096, by omega⟩)
        fun k => x4 (ix4 ⟨i.val / 4096, by omega⟩ k ⟨j.val / 128, by omega⟩ ⟨j.val % 128, by omega⟩) := by
  have hs (b h q k) : val_main_v5 (F := Ideal) x0 x1 x2 x3 (ix4 b h q k) = (attn y0 y1 y2 y3 b h q k : EReal) := by
    rw [ref_score]
    simp only [h0, h1, h2, h3, ofBits_scale, ← EReal.coe_mul, ← coe_sum, ← EReal.coe_add]
    unfold attn
    simp only [mul_comm (y3 _ _ _)]
  have he (b h q k) : val_main_v12 (F := Ideal) x0 x1 x2 x3 (ix4 b h q k)
      = ((Real.exp (attn y0 y1 y2 y3 b h q k - top (attn y0 y1 y2 y3 b h q)) : ℝ) : EReal) := by
    rw [ref_exp, ref_max]
    simp only [hs, ofBits_neg_inf]
    rw [fold_max, max_eq_right bot_le, ← EReal.coe_sub, Ideal.exp_coe]
  rw [ref_result]
  simp only [ref_quotient, he, ← coe_sum]
  rw [← sum_div_exp (top (attn y0 y1 y2 y3 ⟨i.val / 4096, by omega⟩ ⟨j.val / 128, by omega⟩ ⟨i.val % 4096, by omega⟩))]
  exact Finset.sum_congr rfl fun k _ => mul_comm _ _

theorem reference_attention (y0 : Real4 128) (y1 : Real4 64) (y2 : Real4 128) (y3 : Real3 64)
    (h0 : ∀ b s h d, x0 (ix4 b s h d) = (y0 b s h d : EReal)) (h1 : ∀ b s h d, x1 (ix4 b s h d) = (y1 b s h d : EReal))
    (h2 : ∀ b s h d, x2 (ix4 b s h d) = (y2 b s h d : EReal)) (h3 : ∀ b s d, x3 (ix3 b s d) = (y3 b s d : EReal)) :
    val_main_v20 (F := Ideal) x0 x1 x2 x3 x4 = attention y0 y1 y2 y3 x4 := by
  funext i
  have hi : i = ix2 ⟨(i 0).val, idx2_lt_0 i⟩ ⟨(i 1).val, idx2_lt_1 i⟩ := by
    funext a
    match a with
    | ⟨0, _⟩ => rfl
    | ⟨1, _⟩ => rfl
  exact (congrArg _ hi).trans (reference_eq x0 x1 x2 x3 x4 y0 y1 y2 y3 h0 h1 h2 h3 _ _)

end Reference

end Cert.Attention

end
-- ==== Proof.Attention.Finite.lean ====
/- The precondition read: an array whose entries' absolute values are all below infinity holds real numbers. -/
module

public import proofs.«01_k».proof.Proof.Attention.Scores
public import proofs.«01_k».proof.Defs
public import proofs.«01_k».proof.Proof.Gen.KernelIdeal

@[expose] public section

noncomputable section

namespace Cert.Attention

open Idealize.ShloMosaic

/-- The side conditions of the predicate: a scalar is spread over each of the arrays. -/
instance preFacts : Cert.Pre_finite_scores.Facts where
  bcast_S_S8x4096x8x128 := by decide
  bcast_S_S8x4096x8x64 := by decide
  bcast_S_S8x4096x64 := by decide

theorem ofBits_inf : Ideal.ofBits .f32 0x7F800000#32 = (⊤ : EReal) := by
  simp [Ideal.ofBits, Ideal.ieee]

/-- An extended real whose absolute value is below infinity is real. -/
theorem real_of_abs_lt (x : EReal) (h : max x (-x) < ⊤) : x = (x.toReal : EReal) := by
  refine (EReal.coe_toReal ?_ ?_).symm
  · rintro rfl
    simp at h
  · rintro rfl
    simp at h

open Cert.Pre_finite_scores Cert.Pre_finite_scores.Facts in
/-- Each of the predicate's four comparisons, read at an index. -/
theorem entry_real {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1)
    (i : s.Idx) : x i = ((x i).toReal : EReal) := by
  have hi := congrFun h i
  refine real_of_abs_lt _ ?_
  by_contra hn
  rw [← ofBits_inf] at hn
  have hi : Ideal.cmp .olt (max (x i) (-x i)) (Ideal.ofBits .f32 0x7F800000#32) = 1#1 := hi
  simp [Ideal.cmp, hn] at hi

end Cert.Attention

end
-- ==== Proof.Network.Spec.lean ====
/- The mathematics of the feed-forward half-step on one token: a row of 1024 numbers is normed, shifted and scaled, sent
   through the gated network, and added to itself. All over the extended reals, in the order the programs compute. -/
module

public import Idealize.ShloMosaic.PureOps
public import Idealize.ShloMosaic.Lib.Pointwise

@[expose] public section

noncomputable section

namespace Cert.Network

open Idealize.ShloMosaic

/-- Rows of `n` numbers and matrices of `a` by `b`. -/
abbrev Row (n : ℕ) := Fin n → EReal
abbrev Mat (a b : ℕ) := Fin a → Fin b → EReal

/-- The root mean square norm of a row, times the gain. -/
def rms (x g : Row 1024) : Row 1024 := fun j =>
  x j * Ideal.rsqrt (Ideal.div (∑ i, x i * x i) (Ideal.ofBits .f32 0x44800000#32) + Ideal.ofBits .f32 0x358637BD#32) * g j

/-- The normed row, scaled by one more than `scale` and shifted. -/
def adaln (x g shift scale : Row 1024) : Row 1024 := fun j =>
  rms x g j * (Ideal.ofBits .f32 0x3F800000#32 + scale j) + shift j

/-- `x` times its logistic function. -/
def silu (x : EReal) : EReal := x * Ideal.logistic x

/-- The same function as the kernels write it. -/
theorem silu_eq (x : EReal) : x * Ideal.div 1 (1 + Ideal.exp (0 - x)) = silu x := by
  unfold silu Ideal.logistic
  rw [zero_sub]

/-- A row times a matrix. -/
def times {a b : ℕ} (x : Row a) (w : Mat a b) : Row b := fun j => ∑ i, x i * w i j

/-- The gated network: two products, the first through `silu`, their product times the second matrix. -/
def swiglu (h : Row 1024) (w : Mat 1024 5632) (wo : Mat 2816 1024) : Row 1024 :=
  times (fun l => silu (times h w ⟨l.val, by omega⟩) * times h w ⟨2816 + l.val, by omega⟩) wo

/-- The half-step: the row, plus half the gate times the network's output on the normed row. -/
def halfStep (x g shift scale gate : Row 1024) (w : Mat 1024 5632) (wo : Mat 2816 1024) : Row 1024 := fun j =>
  x j + Ideal.ofBits .f32 0x3F000000#32 * gate j * swiglu (adaln x g shift scale) w wo j

/-- A row, plus the gate times the projection of `z`: the end of a retention or of an attention. -/
def project {n : ℕ} (x gate : Row 1024) (z : Row n) (w : Mat n 1024) : Row 1024 := fun j => x j + gate j * times z w j

/-- What the retention projects: the normed row with its gain and offset, times the swish gate. -/
def swish (y g gain offset : Row 2048) : Row 2048 := fun k => silu (g k) * (y k * gain k + offset k)

/-! ### The rows of the layer's arrays -/

/-- The attention's output for token `i`, its 8 heads side by side. -/
def heads (o : FVec Ideal ⟨4, ![8, 4096, 8, 128]⟩ .f32) (i : Fin 32768) : Row 1024 := fun k =>
  o (ix4 ⟨i.val / 4096, by omega⟩ ⟨i.val % 4096, by omega⟩ ⟨k.val / 128, by omega⟩ ⟨k.val % 128, by omega⟩)

/-- Token `i` of the 8 sequences of 4096. -/
def token {n : ℕ} (x : FVec Ideal ⟨3, ![8, 4096, n]⟩ .f32) (i : Fin 32768) : Row n := fun k =>
  x (ix3 ⟨i.val / 4096, by omega⟩ ⟨i.val % 4096, by omega⟩ k)

/-- The `s`-th of the nine vectors by which layer `l` modulates the sequence of token `i`. -/
def modulation (mod : FVec Ideal ⟨3, ![4, 8, 9216]⟩ .f32) (l : Fin 4) (s : Fin 9) (i : Fin 32768) : Row 1024 := fun k =>
  mod (ix3 l ⟨i.val / 4096, by omega⟩ ⟨s.val * 1024 + k.val, by omega⟩)

/-- The half-step `s` of layer `l` on the row `x` of token `i`; the half-steps' networks are counted by `f`. -/
def network (mod : FVec Ideal ⟨3, ![4, 8, 9216]⟩ .f32) (norm : FVec Ideal ⟨3, ![4, 3, 1024]⟩ .f32)
    (wi : FVec Ideal ⟨4, ![4, 2, 1024, 5632]⟩ .f32) (wo : FVec Ideal ⟨4, ![4, 2, 2816, 1024]⟩ .f32)
    (l : Fin 4) (s : Fin 3) (f : Fin 2) (i : Fin 32768) (x : Row 1024) : Row 1024 :=
  halfStep x (fun k => norm (ix3 l s k)) (modulation mod l ⟨s.val * 3, by omega⟩ i) (modulation mod l ⟨s.val * 3 + 1, by omega⟩ i)
    (modulation mod l ⟨s.val * 3 + 2, by omega⟩ i) (fun a b => wi (ix4 l f a b)) (fun a b => wo (ix4 l f a b))

/-- The matrix of 32768 tokens by 1024 lanes with the rows `f`. -/
def ofRows (f : Fin 32768 → Row 1024) : FVec Ideal ⟨2, ![32768, 1024]⟩ .f32 := fun i => f ⟨(i 0).val, (i 0).isLt⟩ ⟨(i 1).val, (i 1).isLt⟩

/-- Layer `l` from its attention or retention on, for token `i`: the projection of `z`, and the second half-step. -/
def outer {n : ℕ} (mod : FVec Ideal ⟨3, ![4, 8, 9216]⟩ .f32) (norm : FVec Ideal ⟨3, ![4, 3, 1024]⟩ .f32)
    (wi : FVec Ideal ⟨4, ![4, 2, 1024, 5632]⟩ .f32) (wo : FVec Ideal ⟨4, ![4, 2, 2816, 1024]⟩ .f32)
    (l : Fin 4) (i : Fin 32768) (x : Row 1024) (z : Row n) (w : Mat n 1024) : Row 1024 :=
  network mod norm wi wo l 2 1 i (project x (modulation mod l 5 i) z w)

end Cert.Network

end
-- ==== Proof.Network.Rows.lean ====
/- A block of 1024 rows stored in two halves of 512 rows. -/
module

public import proofs.«01_k».proof.Proof.Network.Spec
public import Idealize.ShloMosaic.Lib.Pipeline.ValueKit

@[expose] public section

noncomputable section

namespace Cert.Network

open Idealize.ShloMosaic

/-- The shapes of a block of tokens and of its halves. -/
abbrev Block : Shape := ⟨2, ![1024, 1024]⟩
abbrev Half : Shape := ⟨2, ![512, 1024]⟩

/-- An index of a matrix is the pair of its coordinates. -/
theorem idx2_eq {a b : ℕ} (i : (⟨2, ![a, b]⟩ : Shape).Idx) : i = ix2 ⟨(i 0).val, (i 0).isLt⟩ ⟨(i 1).val, (i 1).isLt⟩ := by
  funext k
  match k with
  | ⟨0, _⟩ => rfl
  | ⟨1, _⟩ => rfl

/-- If the two stored halves, which cover the block, hold the rows of `f`, the block holds them. -/
theorem canon_halves (i₁ : ∀ a, (![0, 0] : Fin 2 → ℕ) a + Half.size a ≤ Block.size a)
    (i₂ : ∀ a, (![512, 0] : Fin 2 → ℕ) a + Half.size a ≤ Block.size a) (w₁ w₂ : FVec Ideal Half .f32) (r j : Fin 1024)
    (hc : ∃ p ∈ ([⟨Rect.unit (s := Block) ![512, 0] Half.size i₂, w₂⟩, ⟨Rect.unit (s := Block) ![0, 0] Half.size i₁, w₁⟩] :
      List (View.Piece (Elt Ideal) Block .f32)), ix2 r j ∈ p.1.set)
    (f : Fin 1024 → Row 1024) (h₁ : ∀ (r : Fin 512) j, w₁ (ix2 r j) = f ⟨r.val, by omega⟩ j)
    (h₂ : ∀ (r : Fin 512) j, w₂ (ix2 r j) = f ⟨512 + r.val, by omega⟩ j) :
    View.canon (s := Block) (e := .f32) (Val := Elt Ideal) [⟨Rect.unit (s := Block) ![512, 0] Half.size i₂, w₂⟩,
      ⟨Rect.unit (s := Block) ![0, 0] Half.size i₁, w₁⟩] (ix2 r j) = f r j := by
  refine View.canon_eq_of_allAt _ _ _ hc (View.allAt_cons_unit _ _ _ _ _ (fun x hx => ?_)
    (View.allAt_cons_unit _ _ _ _ _ (fun x hx => ?_) (View.allAt_nil _ _)))
  · have e0 : r.val = 512 + (x 0).val := hx 0
    have e1 : j.val = 0 + (x 1).val := hx 1
    refine (congrArg w₂ (idx2_eq x)).trans ((h₂ _ _).trans ?_)
    exact congrArg₂ f (Fin.ext e0.symm) (Fin.ext (by dsimp only; omega))
  · have e0 : r.val = 0 + (x 0).val := hx 0
    have e1 : j.val = 0 + (x 1).val := hx 1
    refine (congrArg w₁ (idx2_eq x)).trans ((h₁ _ _).trans ?_)
    exact congrArg₂ f (Fin.ext (by dsimp only; omega)) (Fin.ext (by dsimp only; omega))

/-- A block of 1024 rows of the matrix: block `t` holds the rows from `1024 t` on. -/
theorem eq_ofRows (t : ℕ) (y : Block.Idx) (z : (⟨2, ![32768, 1024]⟩ : Shape).Idx) (ht : t < 32)
    (h0 : (z 0).val = t * 1024 + (y 0).val) (h1 : (z 1).val = (y 1).val) (w : FVec Ideal Block .f32) (f : Fin 32768 → Row 1024)
    (h : ∀ r j : Fin 1024, w (ix2 r j) = f ⟨t * 1024 + r.val, by omega⟩ j) : w y = ofRows f z := by
  refine (congrArg w (idx2_eq y)).trans ((h _ _).trans ?_)
  exact congrArg₂ f (Fin.ext h0.symm) (Fin.ext h1.symm)

/-- A block of 512 rows of the matrix: block `t` holds the rows from `512 t` on. -/
theorem eq_ofRows_half (t : ℕ) (y : Half.Idx) (z : (⟨2, ![32768, 1024]⟩ : Shape).Idx) (ht : t < 64)
    (h0 : (z 0).val = t * 512 + (y 0).val) (h1 : (z 1).val = (y 1).val) (w : FVec Ideal Half .f32) (f : Fin 32768 → Row 1024)
    (h : ∀ (r : Fin 512) (j : Fin 1024), w (ix2 r j) = f ⟨t * 512 + r.val, by omega⟩ j) : w y = ofRows f z := by
  refine (congrArg w (idx2_eq y)).trans ((h _ _).trans ?_)
  exact congrArg₂ f (Fin.ext h0.symm) (Fin.ext h1.symm)

end Cert.Network

end
-- ==== Proof.Network.Ffn.lean ====
/- The first half-step call: what one point of its grid computes, and what its array holds. -/
module

public import proofs.«01_k».proof.Proof.Network.Rows
public import proofs.«01_k».proof.Proof.Gen.FfnIdeal.Frame

@[expose] public section

set_option maxRecDepth 16384

noncomputable section

namespace Cert.Network.Ffn

open Idealize.ShloMosaic Idealize.ShloMosaic.Pipeline Cert.FfnIdeal Cert.FfnIdeal.Facts₀ Cert.FfnIdeal.Facts
  Cert.FfnIdeal.Gen

/-- The first 512 rows of a block. -/
theorem first_apply (x0 : Vec Ideal S1024x1024 .f32) (x1 : Vec Ideal S1x1x1x3x1024 .f32) (x2 : Vec Ideal S1x1x1x1024 .f32)
    (x3 : Vec Ideal S1x1x1024x5632 .bf16) (x4 : Vec Ideal S1x1x2816x1024 .bf16) (r : Fin 512) (j : Fin 1024) :
    k0_pay8 (k0_pay3 (View.ld x0 r0_1)) (k0_pay5 (View.ld x1 r0_0) (View.ld x0 r0_1) (View.ld x2 r0_2) (View.ld x3 r0_3))
      (k0_pay6 (View.ld x1 r0_0) (View.ld x0 r0_1) (View.ld x2 r0_2) (View.ld x3 r0_4)) (k0_pay7 (View.ld x1 r0_0))
      (View.ld x4 r0_5) (ix2 r j)
      = halfStep (fun i => x0 (ix2 ⟨r.val, by omega⟩ i)) (fun i => x2 (ix4 0 0 0 i)) (fun i => x1 (ix5 0 0 0 0 i))
        (fun i => x1 (ix5 0 0 0 1 i)) (fun i => x1 (ix5 0 0 0 2 i)) (fun i l => x3 (ix4 0 0 i l)) (fun l i => x4 (ix4 0 0 l i)) j := by
  pointwise [k0_pay8, k0_pay7, k0_pay6, k0_pay5, k0_pay4, k0_pay3, k0_pay2, halfStep, swiglu, times, adaln, rms]
  simp only [silu_eq]

/-- The other 512 rows of a block. -/
theorem second_apply (x0 : Vec Ideal S1024x1024 .f32) (x1 : Vec Ideal S1x1x1x3x1024 .f32) (x2 : Vec Ideal S1x1x1x1024 .f32)
    (x3 : Vec Ideal S1x1x1024x5632 .bf16) (x4 : Vec Ideal S1x1x2816x1024 .bf16) (r : Fin 512) (j : Fin 1024) :
    k0_pay1 (k0_pay14 x0 x1 x2 x3 x4) (k0_pay9 (View.ld x0 r0_6)) (k0_pay10 (k0_pay14 x0 x1 x2 x3 x4))
      (k0_pay11 (k0_pay14 x0 x1 x2 x3 x4)) (k0_pay12 (View.ld x0 r0_6) (View.ld x2 r0_2)) (k0_pay13 (F := Ideal))
      (View.ld x3 r0_3) (View.ld x3 r0_4) (View.ld x4 r0_5) (ix2 r j)
      = halfStep (fun i => x0 (ix2 ⟨512 + r.val, by omega⟩ i)) (fun i => x2 (ix4 0 0 0 i)) (fun i => x1 (ix5 0 0 0 0 i))
        (fun i => x1 (ix5 0 0 0 1 i)) (fun i => x1 (ix5 0 0 0 2 i)) (fun i l => x3 (ix4 0 0 i l)) (fun l i => x4 (ix4 0 0 l i)) j := by
  pointwise [k0_pay1, k0_pay9, k0_pay10, k0_pay11, k0_pay12, k0_pay13, k0_pay14, k0_pay2, halfStep, swiglu, times, adaln, rms]
  simp only [silu_eq]

/-- Every row of a block is the half-step of the same row of the fetched block. -/
theorem out_apply (x0 : Vec Ideal S1024x1024 .f32) (x1 : Vec Ideal S1x1x1x3x1024 .f32) (x2 : Vec Ideal S1x1x1x1024 .f32)
    (x3 : Vec Ideal S1x1x1024x5632 .bf16) (x4 : Vec Ideal S1x1x2816x1024 .bf16) (r j : Fin 1024) :
    out0_5 x0 x1 x2 x3 x4 (ix2 r j)
      = halfStep (fun i => x0 (ix2 r i)) (fun i => x2 (ix4 0 0 0 i)) (fun i => x1 (ix5 0 0 0 0 i))
        (fun i => x1 (ix5 0 0 0 1 i)) (fun i => x1 (ix5 0 0 0 2 i)) (fun i l => x3 (ix4 0 0 i l)) (fun l i => x4 (ix4 0 0 l i)) j :=
  canon_halves _ _ _ _ r j (cover0_5 _ _ _) (fun r => halfStep (fun i => x0 (ix2 r i)) (fun i => x2 (ix4 0 0 0 i))
    (fun i => x1 (ix5 0 0 0 0 i)) (fun i => x1 (ix5 0 0 0 1 i)) (fun i => x1 (ix5 0 0 0 2 i)) (fun i l => x3 (ix4 0 0 i l))
    (fun l i => x4 (ix4 0 0 l i))) (first_apply x0 x1 x2 x3 x4) (second_apply x0 x1 x2 x3 x4)

section Launch

variable (m : (ℓ : Loc nD τ sig) → Buf (Elt Ideal) ℓ) (c : Dev nD)

/-! The arguments, as vectors. -/

def arg0 : FVec Ideal S8x4096x1024 .f32 := m (c, Proc.tc.devRef main_arg0)
def arg1 : FVec Ideal S4x8x9216 .f32 := m (c, Proc.tc.devRef main_arg1)
def arg2 : FVec Ideal S4x3x1024 .f32 := m (c, Proc.tc.devRef main_arg2)
def arg3 : FVec Ideal S4x2x1024x5632 .f32 := m (c, Proc.tc.devRef main_arg3)
def arg4 : FVec Ideal S4x2x2816x1024 .f32 := m (c, Proc.tc.devRef main_arg4)

/-! Which block of each array a point fetches or writes. -/

theorem index_0 : ∀ t : Fin cfg0.N, win0_0.index t = ![t.val, 0] := by decide +kernel
theorem index_1 : ∀ t : Fin cfg0.N, win0_1.index t = ![0, t.val / 4, 0, 0, 0] := by decide +kernel
theorem index_2 : ∀ t : Fin cfg0.N, win0_2.index t = ![0, 0, 0, 0] := by decide +kernel
theorem index_3 : ∀ t : Fin cfg0.N, win0_3.index t = ![0, 0, 0, 0] := by decide +kernel
theorem index_4 : ∀ t : Fin cfg0.N, win0_4.index t = ![0, 0, 0, 0] := by decide +kernel
theorem index_5 : ∀ t : Fin cfg0.N, win0_5.index t = ![t.val, 0] := by decide +kernel

/-! The blocks a point fetches, read off the arguments. -/

theorem block_0 (t : Fin 32) (r k : Fin 1024) :
    iblk m c 0 t (ix2 r k) = token (arg0 m c) ⟨t.val * 1024 + r.val, by omega⟩ k := by
  have h : iblk m c 0 t (ix2 r k) = V m c main_v0 (ix2 ⟨t.val * 1024 + r.val, by omega⟩ k) := by blk_ext [iblk, index_0 t]
  rw [h]
  unfold token arg0
  entry_read
  pointwise

theorem block_1 (t : Fin 32) (r : Fin 1024) (p : Fin 3) (k : Fin 1024) : iblk m c 1 t (ix5 0 0 0 p k)
    = modulation (arg1 m c) 0 ⟨p.val, by omega⟩ ⟨t.val * 1024 + r.val, by omega⟩ k := by
  have h : iblk m c 1 t (ix5 0 0 0 p k) = V m c main_v1 (ix5 0 ⟨(t.val * 1024 + r.val) / 4096, by omega⟩ 0 p k) := by
    blk_ext [iblk, index_1 t]
  rw [h]
  unfold modulation arg1
  entry_read
  pointwise

theorem block_2 (t : Fin 32) (k : Fin 1024) : iblk m c 2 t (ix4 0 0 0 k) = arg2 m c (ix3 0 0 k) := by
  have h : iblk m c 2 t (ix4 0 0 0 k) = V m c main_v2 (ix4 0 0 0 k) := by blk_ext [iblk, index_2 t]
  rw [h]
  unfold arg2
  entry_read
  pointwise

theorem block_3 (t : Fin 32) (i : Fin 1024) (l : Fin 5632) : iblk m c 3 t (ix4 0 0 i l) = arg3 m c (ix4 0 0 i l) := by
  have h : iblk m c 3 t (ix4 0 0 i l) = V m c main_v3 (ix4 0 0 i l) := by blk_ext [iblk, index_3 t]
  rw [h]
  unfold arg3
  entry_read
  pointwise

theorem block_4 (t : Fin 32) (l : Fin 2816) (i : Fin 1024) : iblk m c 4 t (ix4 0 0 l i) = arg4 m c (ix4 0 0 l i) := by
  have h : iblk m c 4 t (ix4 0 0 l i) = V m c main_v4 (ix4 0 0 l i) := by blk_ext [iblk, index_4 t]
  rw [h]
  unfold arg4
  entry_read
  pointwise

/-- The call's result holds the half-step of every token. -/
theorem array_eq : (dats m 0 c).arrAt 5 cfg0.N
    = ofRows fun i => network (arg1 m c) (arg2 m c) (arg3 m c) (arg4 m c) 0 0 0 i (token (arg0 m c) i) := by
  refine (dats m 0 c).arrAt_eq_of_covers 5 _ (by decide +kernel) fun t hf y => ?_
  blk_simp
  rw [after0_5]
  refine eq_ofRows t.val _ _ t.isLt (by blk_simp [index_5 t]) (by blk_simp [index_5 t]) _ _ fun r j => ?_
  refine (out_apply _ _ _ _ _ r j).trans ?_
  have b1 := block_1 m c t r
  unfold network
  congr 1
  · exact funext fun k => block_0 m c t r k
  · exact funext fun k => block_2 m c t k
  · exact funext fun k => b1 0 k
  · exact funext fun k => b1 1 k
  · exact funext fun k => b1 2 k
  · exact funext fun i => funext fun l => block_3 m c t i l
  · exact funext fun l => funext fun i => block_4 m c t l i

end Launch

end Cert.Network.Ffn

end
-- ==== Proof.Network.FfnReference.lean ====
/- The first half-step as the reference writes it, read at every token. -/
module

public import proofs.«01_k».proof.Proof.Network.Rows
public import proofs.«01_k».proof.Proof.Gen.ReferenceFfnIdeal.Read

@[expose] public section

set_option maxRecDepth 16384

noncomputable section

namespace Cert.Network.Ffn

open Idealize.ShloMosaic Cert.ReferenceFfnIdeal Cert.ReferenceFfnIdeal.Facts₀ Cert.ReferenceFfnIdeal.Facts Cert.ReferenceFfnIdeal.Read

variable (x : FVec Ideal S8x4096x1024 .f32) (mod : FVec Ideal S4x8x9216 .f32) (norm : FVec Ideal S4x3x1024 .f32)
  (wi : FVec Ideal S4x2x1024x5632 .f32) (wo : FVec Ideal S4x2x2816x1024 .f32)

/-- The normed and modulated row. -/
theorem ref_adaln (b : Fin 8) (s : Fin 4096) (k : Fin 1024) : val_main_v33 (F := Ideal) x mod norm (ix3 b s k)
    = adaln (fun i => x (ix3 b s i)) (fun i => norm (ix3 0 0 i)) (fun i => mod (ix3 0 b ⟨i.val, by omega⟩))
        (fun i => mod (ix3 0 b ⟨1024 + i.val, by omega⟩)) k := by
  pointwise [val_main_v33, val_main_v32, val_main_v31, val_main_v30, val_main_v29, val_main_v28, val_main_v27, val_main_cst_2,
    val_main_v26, val_main_v25, val_main_v24, val_main_v23, val_main_v22, val_main_v21, val_main_v20, val_main_v19, val_main_v18,
    val_main_cst_1, val_main_v17, val_main_v16, val_main_cst_0, val_main_v15, val_main_v14, val_main_cst, val_main_v13,
    val_main_v12, val_main_v11, val_main_v3, val_main_v2, val_main_v1, val_main_v0, adaln, rms]

/-- The product with the first matrix. -/
theorem ref_wide (b : Fin 8) (s : Fin 4096) (l : Fin 5632) : val_main_v41 (F := Ideal) x mod norm wi (ix3 b s l)
    = times (fun k => val_main_v33 (F := Ideal) x mod norm (ix3 b s k)) (fun k l => wi (ix4 0 0 k l)) l := by
  unfold val_main_v41
  generalize val_main_v33 (F := Ideal) x mod norm = h
  pointwise [val_main_v38, val_main_v37, times]

/-- The gated product. -/
theorem ref_gate (b : Fin 8) (s : Fin 4096) (l : Fin 2816) : val_main_v45 (F := Ideal) x mod norm wi (ix3 b s l)
    = silu (val_main_v41 (F := Ideal) x mod norm wi (ix3 b s ⟨l.val, by omega⟩))
      * val_main_v41 (F := Ideal) x mod norm wi (ix3 b s ⟨2816 + l.val, by omega⟩) := by
  unfold val_main_v45 val_main_v44 val_main_call0_v5 val_main_call0_v3 val_main_call0_v1 val_main_call0_v0 val_main_v43 val_main_v42
  generalize val_main_v41 (F := Ideal) x mod norm wi = h
  pointwise [val_main_call0_v4, val_main_call0_v2, val_main_call0_cst, val_main_call0_cst_0, silu, Ideal.logistic]

/-- The result's rows, before they are laid out as tokens. -/
theorem ref_step (b : Fin 8) (s : Fin 4096) (j : Fin 1024) : val_main_v49 (F := Ideal) x mod norm wi wo (ix3 b s j)
    = x (ix3 b s j) + Ideal.ofBits .f32 0x3F000000#32 * mod (ix3 0 b ⟨2048 + j.val, by omega⟩)
      * times (fun l => val_main_v45 (F := Ideal) x mod norm wi (ix3 b s l)) (fun l j => wo (ix4 0 0 l j)) j := by
  unfold val_main_v49 val_main_v48 val_main_v46
  generalize val_main_v45 (F := Ideal) x mod norm wi = h
  pointwise [val_main_v47, val_main_v40, val_main_v39, val_main_v36, val_main_v35, val_main_cst_3, val_main_v34, val_main_v4,
    val_main_v1, val_main_v0, times]

/-- The reference's result holds the half-step of every token. -/
theorem reference_eq : val_main_v50 (F := Ideal) x mod norm wi wo
    = ofRows fun i => network mod norm wi wo 0 0 0 i (token x i) := by
  funext y
  have h : val_main_v50 (F := Ideal) x mod norm wi wo y = val_main_v49 (F := Ideal) x mod norm wi wo
      (ix3 ⟨(y 0).val / 4096, by have := (y 0).isLt; simp at this; omega⟩ ⟨(y 0).val % 4096, by omega⟩ ⟨(y 1).val, (y 1).isLt⟩) := by
    unfold val_main_v50
    generalize val_main_v49 (F := Ideal) x mod norm wi wo = u
    rw [idx2_eq y]
    pointwise
  rw [h, ref_step]
  simp only [ref_gate, ref_wide, ref_adaln]
  simp only [ofRows, network, halfStep, swiglu, modulation, token]
  rfl

end Cert.Network.Ffn

end
-- ==== Proof.Network.Pre.lean ====
/- The second half-step call of a layer with attention: what one point of its grid computes, and what its array holds. -/
module

public import proofs.«01_k».proof.Proof.Network.Rows
public import proofs.«01_k».proof.Proof.Gen.PreIdeal.Frame

@[expose] public section

set_option maxRecDepth 16384

noncomputable section

namespace Cert.Network.Pre

open Idealize.ShloMosaic Idealize.ShloMosaic.Pipeline Cert.PreIdeal Cert.PreIdeal.Facts₀ Cert.PreIdeal.Facts Cert.PreIdeal.Gen

section Point

variable (x0 : Vec Ideal S1024x1024 .f32) (x1 : Vec Ideal S1024x1024 .bf16) (x2 : Vec Ideal S1x1024x1024 .bf16)
  (x3 : Vec Ideal S1x1x1x3x1024 .f32) (x4 : Vec Ideal S1x1x1x3x1024 .f32) (x5 : Vec Ideal S1x1x1x1024 .f32)
  (x6 : Vec Ideal S1x1x1024x5632 .bf16) (x7 : Vec Ideal S1x1x2816x1024 .bf16)

/-- Row `r` of a block after the projection of the attention's output. -/
def projected (r : Fin 1024) : Row 1024 :=
  project (fun i => x0 (ix2 r i)) (fun i => x3 (ix5 0 0 0 2 i)) (fun i => x1 (ix2 r i)) (fun i j => x2 (ix3 0 i j))

/-- Row `r` of a block after the half-step on it. -/
def stepped (r : Fin 1024) : Row 1024 :=
  halfStep (projected x0 x1 x2 x3 r) (fun i => x5 (ix4 0 0 0 i)) (fun i => x4 (ix5 0 0 0 0 i)) (fun i => x4 (ix5 0 0 0 1 i))
    (fun i => x4 (ix5 0 0 0 2 i)) (fun i l => x6 (ix4 0 0 i l)) (fun l i => x7 (ix4 0 0 l i))

/-- The first 512 rows of a block. -/
theorem first_apply (r : Fin 512) (j : Fin 1024) :
    k0_pay7 (k0_pay12 x0 x1 x2 x3 x4 x5 x6 x7) (k0_pay3 (View.ld x0 r0_1) (View.ld x1 r0_1) (View.ld x3 r0_0) (View.ld x2 r0_2))
      (k0_pay4 (View.ld x4 r0_0)) (k0_pay5 (View.ld x0 r0_1) (View.ld x1 r0_1) (View.ld x3 r0_0) (View.ld x2 r0_2) (View.ld x5 r0_3))
      (k0_pay6 (View.ld x4 r0_0)) (View.ld x6 r0_4) (View.ld x6 r0_5) (View.ld x7 r0_6) (ix2 r j)
      = stepped x0 x1 x2 x3 x4 x5 x6 x7 ⟨r.val, by omega⟩ j := by
  pointwise [k0_pay7, k0_pay12, k0_pay2, k0_pay3, k0_pay4, k0_pay5, k0_pay6, stepped, projected, project, halfStep, swiglu, times,
    adaln, rms]
  simp only [silu_eq]

/-- The other 512 rows of a block. -/
theorem second_apply (r : Fin 512) (j : Fin 1024) :
    k0_pay1 (k0_pay12 x0 x1 x2 x3 x4 x5 x6 x7) (k0_pay9 (k0_pay13 x0 x1 x2 x3 x4 x5 x6 x7) (View.ld x1 r0_7) (View.ld x3 r0_0)
        (View.ld x2 r0_2)) (k0_pay10 (k0_pay12 x0 x1 x2 x3 x4 x5 x6 x7) (k0_pay13 x0 x1 x2 x3 x4 x5 x6 x7) (View.ld x1 r0_7)
        (View.ld x3 r0_0) (View.ld x2 r0_2) (View.ld x5 r0_3)) (k0_pay11 (k0_pay12 x0 x1 x2 x3 x4 x5 x6 x7)
        (k0_pay13 x0 x1 x2 x3 x4 x5 x6 x7) (View.ld x1 r0_7) (View.ld x3 r0_0) (View.ld x2 r0_2) (View.ld x5 r0_3) (View.ld x6 r0_4))
      (View.ld x6 r0_5) (View.ld x7 r0_6) (ix2 r j)
      = stepped x0 x1 x2 x3 x4 x5 x6 x7 ⟨512 + r.val, by omega⟩ j := by
  pointwise [k0_pay1, k0_pay12, k0_pay13, k0_pay2, k0_pay8, k0_pay9, k0_pay10, k0_pay11, stepped, projected, project, halfStep, swiglu,
    times, adaln, rms]
  simp only [silu_eq]

/-- Every row of a block. -/
theorem out_apply (r j : Fin 1024) : out0_8 x0 x1 x2 x3 x4 x5 x6 x7 (ix2 r j) = stepped x0 x1 x2 x3 x4 x5 x6 x7 r j :=
  canon_halves _ _ _ _ r j (cover0_8 _ _ _) (stepped x0 x1 x2 x3 x4 x5 x6 x7) (first_apply x0 x1 x2 x3 x4 x5 x6 x7)
    (second_apply x0 x1 x2 x3 x4 x5 x6 x7)

end Point

section Launch

variable (m : (ℓ : Loc nD τ sig) → Buf (Elt Ideal) ℓ) (c : Dev nD)

/-! The arguments, as vectors. -/

def arg0 : FVec Ideal S8x4096x1024 .f32 := m (c, Proc.tc.devRef main_arg0)
def arg1 : FVec Ideal S8x4096x8x128 .f32 := m (c, Proc.tc.devRef main_arg1)
def arg2 : FVec Ideal S4x8x9216 .f32 := m (c, Proc.tc.devRef main_arg2)
def arg3 : FVec Ideal S4x3x1024 .f32 := m (c, Proc.tc.devRef main_arg3)
def arg4 : FVec Ideal S4x2x1024x5632 .f32 := m (c, Proc.tc.devRef main_arg4)
def arg5 : FVec Ideal S4x2x2816x1024 .f32 := m (c, Proc.tc.devRef main_arg5)
def arg6 : FVec Ideal S2x1024x1024 .f32 := m (c, Proc.tc.devRef main_arg6)

/-! Which block of each array a point fetches or writes. -/

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![0, 0, 0] := by decide +kernel
theorem index_3 : ∀ t : Fin cfg0.N, win0_3.index t = ![1, t.val / 4, 1, 0, 0] := by decide +kernel
theorem index_4 : ∀ t : Fin cfg0.N, win0_4.index t = ![1, t.val / 4, 2, 0, 0] := by decide +kernel
theorem index_5 : ∀ t : Fin cfg0.N, win0_5.index t = ![1, 2, 0, 0] := by decide +kernel
theorem index_6 : ∀ t : Fin cfg0.N, win0_6.index t = ![1, 1, 0, 0] := by decide +kernel
theorem index_7 : ∀ t : Fin cfg0.N, win0_7.index t = ![1, 1, 0, 0] := by decide +kernel
theorem index_8 : ∀ t : Fin cfg0.N, win0_8.index t = ![t.val, 0] := by decide +kernel

/-! The blocks a point fetches, read off the arguments. -/

theorem block_0 (t : Fin 32) (r k : Fin 1024) :
    iblk m c 0 t (ix2 r k) = token (arg0 m c) ⟨t.val * 1024 + r.val, by omega⟩ k := by
  have h : iblk m c 0 t (ix2 r k) = V m c main_v0 (ix2 ⟨t.val * 1024 + r.val, by omega⟩ k) := by blk_ext [iblk, index_0 t]
  rw [h]
  unfold token arg0
  entry_read
  pointwise

theorem block_1 (t : Fin 32) (r k : Fin 1024) :
    iblk m c 1 t (ix2 r k) = heads (arg1 m c) ⟨t.val * 1024 + r.val, by omega⟩ k := by
  have h : iblk m c 1 t (ix2 r k) = V m c main_v6 (ix2 ⟨t.val * 1024 + r.val, by omega⟩ k) := by blk_ext [iblk, index_1 t]
  rw [h]
  unfold heads arg1
  entry_read
  pointwise

theorem block_2 (t : Fin 32) (k j : Fin 1024) : iblk m c 2 t (ix3 0 k j) = arg6 m c (ix3 0 k j) := by
  have h : iblk m c 2 t (ix3 0 k j) = V m c main_v7 (ix3 0 k j) := by blk_ext [iblk, index_2 t]
  rw [h]
  unfold arg6
  entry_read
  pointwise

theorem block_3 (t : Fin 32) (r : Fin 1024) (p : Fin 3) (k : Fin 1024) : iblk m c 3 t (ix5 0 0 0 p k)
    = modulation (arg2 m c) 1 ⟨3 + p.val, by omega⟩ ⟨t.val * 1024 + r.val, by omega⟩ k := by
  have h : iblk m c 3 t (ix5 0 0 0 p k) = V m c main_v1 (ix5 1 ⟨(t.val * 1024 + r.val) / 4096, by omega⟩ 1 p k) := by
    blk_ext [iblk, index_3 t]
  rw [h]
  unfold modulation arg2
  entry_read
  pointwise
  exact congrArg (fun k => arg2 m c (ix3 1 _ k)) (Fin.ext (by dsimp only; omega))

theorem block_4 (t : Fin 32) (r : Fin 1024) (p : Fin 3) (k : Fin 1024) : iblk m c 4 t (ix5 0 0 0 p k)
    = modulation (arg2 m c) 1 ⟨6 + p.val, by omega⟩ ⟨t.val * 1024 + r.val, by omega⟩ k := by
  have h : iblk m c 4 t (ix5 0 0 0 p k) = V m c main_v1 (ix5 1 ⟨(t.val * 1024 + r.val) / 4096, by omega⟩ 2 p k) := by
    blk_ext [iblk, index_4 t]
  rw [h]
  unfold modulation arg2
  entry_read
  pointwise
  exact congrArg (fun k => arg2 m c (ix3 1 _ k)) (Fin.ext (by dsimp only; omega))

theorem block_5 (t : Fin 32) (k : Fin 1024) : iblk m c 5 t (ix4 0 0 0 k) = arg3 m c (ix3 1 2 k) := by
  have h : iblk m c 5 t (ix4 0 0 0 k) = V m c main_v2 (ix4 1 2 0 k) := by blk_ext [iblk, index_5 t]
  rw [h]
  unfold arg3
  entry_read
  pointwise

theorem block_6 (t : Fin 32) (i : Fin 1024) (l : Fin 5632) : iblk m c 6 t (ix4 0 0 i l) = arg4 m c (ix4 1 1 i l) := by
  have h : iblk m c 6 t (ix4 0 0 i l) = V m c main_v3 (ix4 1 1 i l) := by blk_ext [iblk, index_6 t]
  rw [h]
  unfold arg4
  entry_read
  pointwise

theorem block_7 (t : Fin 32) (l : Fin 2816) (i : Fin 1024) : iblk m c 7 t (ix4 0 0 l i) = arg5 m c (ix4 1 1 l i) := by
  have h : iblk m c 7 t (ix4 0 0 l i) = V m c main_v4 (ix4 1 1 l i) := by blk_ext [iblk, index_7 t]
  rw [h]
  unfold arg5
  entry_read
  pointwise

/-- The call's result holds, for every token, the projection and the half-step after it. -/
theorem array_eq : (dats m 0 c).arrAt 8 cfg0.N = ofRows fun i => outer (arg2 m c) (arg3 m c) (arg4 m c) (arg5 m c) 1 i
    (token (arg0 m c) i) (heads (arg1 m c) i) (fun k j => arg6 m c (ix3 0 k j)) := by
  refine (dats m 0 c).arrAt_eq_of_covers 8 _ (by decide +kernel) fun t hf y => ?_
  blk_simp
  rw [after0_8]
  refine eq_ofRows t.val _ _ t.isLt (by blk_simp [index_8 t]) (by blk_simp [index_8 t]) _ _ fun r j => ?_
  refine (out_apply _ _ _ _ _ _ _ _ r j).trans ?_
  unfold stepped projected outer network
  congr 1
  · congr 1
    · exact funext fun k => block_0 m c t r k
    · exact funext fun k => block_3 m c t r 2 k
    · exact funext fun k => block_1 m c t r k
    · exact funext fun k => funext fun j => block_2 m c t k j
  · exact funext fun k => block_5 m c t k
  · exact funext fun k => block_4 m c t r 0 k
  · exact funext fun k => block_4 m c t r 1 k
  · exact funext fun k => block_4 m c t r 2 k
  · exact funext fun i => funext fun l => block_6 m c t i l
  · exact funext fun l => funext fun i => block_7 m c t l i

end Launch

end Cert.Network.Pre

end
-- ==== Proof.Network.PreReference.lean ====
/- A layer from its attention on, as the reference writes it, read at every token. -/
module

public import proofs.«01_k».proof.Proof.Network.Rows
public import proofs.«01_k».proof.Proof.Gen.ReferencePreIdeal.Read

@[expose] public section

set_option maxRecDepth 16384

noncomputable section

namespace Cert.Network.Pre

open Idealize.ShloMosaic Cert.ReferencePreIdeal Cert.ReferencePreIdeal.Facts₀ Cert.ReferencePreIdeal.Facts
  Cert.ReferencePreIdeal.Read

variable (x : FVec Ideal S8x4096x1024 .f32) (o : FVec Ideal S8x4096x8x128 .f32) (mod : FVec Ideal S4x8x9216 .f32)
  (norm : FVec Ideal S4x3x1024 .f32) (wi : FVec Ideal S4x2x1024x5632 .f32)
  (wo : FVec Ideal S4x2x2816x1024 .f32) (wp : FVec Ideal S2x1024x1024 .f32)

/-- The row after the projection of the attention's output. -/
theorem ref_project (b : Fin 8) (s : Fin 4096) (j : Fin 1024) : val_main_v18 (F := Ideal) x o mod wp (ix3 b s j)
    = project (fun i => x (ix3 b s i)) (fun i => mod (ix3 1 b ⟨5120 + i.val, by omega⟩))
        (fun k => o (ix4 b s ⟨k.val / 128, by omega⟩ ⟨k.val % 128, by omega⟩)) (fun k j => wp (ix3 0 k j)) j := by
  pointwise [val_main_v18, val_main_v17, val_main_v16, val_main_v15, val_main_v14, val_main_v13, val_main_v12, val_main_v11,
    val_main_v7, val_main_v1, val_main_v0, project, times]

/-- The normed and modulated row. -/
theorem ref_adaln (b : Fin 8) (s : Fin 4096) (k : Fin 1024) : val_main_v41 (F := Ideal) x o mod norm wp (ix3 b s k)
    = adaln (fun i => val_main_v18 (F := Ideal) x o mod wp (ix3 b s i)) (fun i => norm (ix3 1 2 i))
        (fun i => mod (ix3 1 b ⟨6144 + i.val, by omega⟩)) (fun i => mod (ix3 1 b ⟨7168 + i.val, by omega⟩)) k := by
  unfold val_main_v41 val_main_v38 val_main_v33 val_main_v30 val_main_v29 val_main_v28 val_main_v27 val_main_v25 val_main_v23
    val_main_v22 val_main_v21
  generalize val_main_v18 (F := Ideal) x o mod wp = u
  pointwise [val_main_v40, val_main_v39, val_main_v37, val_main_v36, val_main_v35, val_main_cst_2, val_main_v34, val_main_v32,
    val_main_v31, val_main_v26, val_main_cst_1, val_main_v24, val_main_cst_0, val_main_cst, val_main_v20, val_main_v19, val_main_v9,
    val_main_v8, val_main_v1, val_main_v0, adaln, rms]

/-- The product with the first matrix. -/
theorem ref_wide (b : Fin 8) (s : Fin 4096) (l : Fin 5632) : val_main_v49 (F := Ideal) x o mod norm wi wp (ix3 b s l)
    = times (fun k => val_main_v41 (F := Ideal) x o mod norm wp (ix3 b s k)) (fun k l => wi (ix4 1 1 k l)) l := by
  unfold val_main_v49
  generalize val_main_v41 (F := Ideal) x o mod norm wp = h
  pointwise [val_main_v46, val_main_v45, times]

/-- The gated product. -/
theorem ref_gate (b : Fin 8) (s : Fin 4096) (l : Fin 2816) : val_main_v53 (F := Ideal) x o mod norm wi wp (ix3 b s l)
    = silu (val_main_v49 (F := Ideal) x o mod norm wi wp (ix3 b s ⟨l.val, by omega⟩))
      * val_main_v49 (F := Ideal) x o mod norm wi wp (ix3 b s ⟨2816 + l.val, by omega⟩) := by
  unfold val_main_v53 val_main_v52 val_main_call0_v5 val_main_call0_v3 val_main_call0_v1 val_main_call0_v0 val_main_v51 val_main_v50
  generalize val_main_v49 (F := Ideal) x o mod norm wi wp = h
  pointwise [val_main_call0_v4, val_main_call0_v2, val_main_call0_cst, val_main_call0_cst_0, silu, Ideal.logistic]

/-- The rows after the half-step, before they are laid out as tokens. -/
theorem ref_step (b : Fin 8) (s : Fin 4096) (j : Fin 1024) : val_main_v57 (F := Ideal) x o mod norm wi wo wp (ix3 b s j)
    = val_main_v18 (F := Ideal) x o mod wp (ix3 b s j) + Ideal.ofBits .f32 0x3F000000#32 * mod (ix3 1 b ⟨8192 + j.val, by omega⟩)
      * times (fun l => val_main_v53 (F := Ideal) x o mod norm wi wp (ix3 b s l)) (fun l j => wo (ix4 1 1 l j)) j := by
  unfold val_main_v57 val_main_v56 val_main_v54
  generalize val_main_v53 (F := Ideal) x o mod norm wi wp = h
  generalize val_main_v18 (F := Ideal) x o mod wp = u
  pointwise [val_main_v55, val_main_v48, val_main_v47, val_main_v44, val_main_v43, val_main_cst_3, val_main_v42, val_main_v10,
    val_main_v1, val_main_v0, times]

/-- The reference's result holds, for every token, the projection and the half-step. -/
theorem reference_eq : val_main_v58 (F := Ideal) x o mod norm wi wo wp
    = ofRows fun i => outer mod norm wi wo 1 i (token x i) (heads o i) (fun k j => wp (ix3 0 k j)) := by
  funext y
  have h : val_main_v58 (F := Ideal) x o mod norm wi wo wp y = val_main_v57 (F := Ideal) x o mod norm wi wo wp
      (ix3 ⟨(y 0).val / 4096, by have := (y 0).isLt; simp at this; omega⟩ ⟨(y 0).val % 4096, by omega⟩ ⟨(y 1).val, (y 1).isLt⟩) := by
    unfold val_main_v58
    generalize val_main_v57 (F := Ideal) x o mod norm wi wo wp = u
    rw [idx2_eq y]
    pointwise
  rw [h, ref_step]
  simp only [ref_gate, ref_wide, ref_adaln, ref_project]
  simp only [ofRows, outer, network, halfStep, swiglu, modulation, token, heads, project]
  rfl

end Cert.Network.Pre

end
-- ==== Proof.Network.Final.lean ====
/- The last call, the second half-step after the last layer's attention and the final norm: what one point of its grid computes, and what its array holds. -/
module

public import proofs.«01_k».proof.Proof.Network.Rows
public import proofs.«01_k».proof.Proof.Gen.FinalIdeal.Frame

@[expose] public section

set_option maxRecDepth 16384

noncomputable section

namespace Cert.Network.Final

open Idealize.ShloMosaic Idealize.ShloMosaic.Pipeline Cert.FinalIdeal Cert.FinalIdeal.Facts₀ Cert.FinalIdeal.Facts Cert.FinalIdeal.Gen

section Point

variable (x0 : Vec Ideal S1024x1024 .f32) (x1 : Vec Ideal S1024x1024 .bf16) (x2 : Vec Ideal S1x1024x1024 .bf16)
  (x3 : Vec Ideal S1x1x1x3x1024 .f32) (x4 : Vec Ideal S1x1x1x3x1024 .f32) (x5 : Vec Ideal S1x1x1x1024 .f32)
  (x6 : Vec Ideal S1x1x1024x5632 .bf16) (x7 : Vec Ideal S1x1x2816x1024 .bf16) (x8 : Vec Ideal S1x1024 .f32)

/-- Row `r` of a block after the projection of the attention's output. -/
def projected (r : Fin 1024) : Row 1024 :=
  project (fun i => x0 (ix2 r i)) (fun i => x3 (ix5 0 0 0 2 i)) (fun i => x1 (ix2 r i)) (fun i j => x2 (ix3 0 i j))

/-- Row `r` of a block after the half-step on it. -/
def stepped (r : Fin 1024) : Row 1024 :=
  halfStep (projected x0 x1 x2 x3 r) (fun i => x5 (ix4 0 0 0 i)) (fun i => x4 (ix5 0 0 0 0 i)) (fun i => x4 (ix5 0 0 0 1 i))
    (fun i => x4 (ix5 0 0 0 2 i)) (fun i l => x6 (ix4 0 0 i l)) (fun l i => x7 (ix4 0 0 l i))

/-- Row `r` of a block after the final norm. -/
def normed (r : Fin 1024) : Row 1024 := rms (stepped x0 x1 x2 x3 x4 x5 x6 x7 r) (fun i => x8 (ix2 0 i))

/-- The first 512 rows of a block, before the norm. -/
theorem first_stepped (r : Fin 512) (j : Fin 1024) : k0_pay7 (k0_pay19 x0 x1 x2 x3 x4 x5 x6 x7 x8) (k0_pay20 x0 x1 x2 x3 x4 x5 x6 x7 x8)
      (k0_pay21 x0 x1 x2 x3 x4 x5 x6 x7 x8) (k0_pay22 x0 x1 x2 x3 x4 x5 x6 x7 x8) (k0_pay23 x0 x1 x2 x3 x4 x5 x6 x7 x8)
      (View.ld x6 r0_4) (View.ld x6 r0_5) (View.ld x7 r0_6) (ix2 r j)
      = stepped x0 x1 x2 x3 x4 x5 x6 x7 ⟨r.val, by omega⟩ j := by
  pointwise [k0_pay7, k0_pay19, k0_pay20, k0_pay21, k0_pay22, k0_pay23, k0_pay2, k0_pay3, k0_pay4, k0_pay5, k0_pay6, stepped, projected,
    project, halfStep, swiglu, times, adaln, rms]
  simp only [silu_eq]

/-- The other 512 rows of a block, before the norm. -/
theorem second_stepped (r : Fin 512) (j : Fin 1024) : k0_pay16 (k0_pay19 x0 x1 x2 x3 x4 x5 x6 x7 x8)
      (k0_pay24 x0 x1 x2 x3 x4 x5 x6 x7 x8) (k0_pay25 x0 x1 x2 x3 x4 x5 x6 x7 x8) (k0_pay26 x0 x1 x2 x3 x4 x5 x6 x7 x8)
      (k0_pay27 x0 x1 x2 x3 x4 x5 x6 x7 x8) (k0_pay28 x0 x1 x2 x3 x4 x5 x6 x7 x8) (View.ld x6 r0_4) (View.ld x6 r0_5)
      (View.ld x7 r0_6) (ix2 r j) = stepped x0 x1 x2 x3 x4 x5 x6 x7 ⟨512 + r.val, by omega⟩ j := by
  pointwise [k0_pay16, k0_pay19, k0_pay24, k0_pay25, k0_pay26, k0_pay27, k0_pay28, k0_pay2, k0_pay11, k0_pay12, k0_pay13, k0_pay14,
    k0_pay15, stepped, projected, project, halfStep, swiglu, times, adaln, rms]
  simp only [silu_eq]

/-- The first 512 rows of a block. -/
theorem first_apply (r : Fin 512) (j : Fin 1024) :
    k0_pay10 (k0_pay7 (k0_pay19 x0 x1 x2 x3 x4 x5 x6 x7 x8) (k0_pay20 x0 x1 x2 x3 x4 x5 x6 x7 x8) (k0_pay21 x0 x1 x2 x3 x4 x5 x6 x7 x8)
        (k0_pay22 x0 x1 x2 x3 x4 x5 x6 x7 x8) (k0_pay23 x0 x1 x2 x3 x4 x5 x6 x7 x8) (View.ld x6 r0_4) (View.ld x6 r0_5) (View.ld x7 r0_6))
      (k0_pay8 (View.ld x8 r0_7)) (k0_pay9 (k0_pay19 x0 x1 x2 x3 x4 x5 x6 x7 x8) (k0_pay20 x0 x1 x2 x3 x4 x5 x6 x7 x8)
        (k0_pay21 x0 x1 x2 x3 x4 x5 x6 x7 x8) (k0_pay22 x0 x1 x2 x3 x4 x5 x6 x7 x8) (k0_pay23 x0 x1 x2 x3 x4 x5 x6 x7 x8)
        (View.ld x6 r0_4) (View.ld x6 r0_5) (View.ld x7 r0_6)) (ix2 r j)
      = normed x0 x1 x2 x3 x4 x5 x6 x7 x8 ⟨r.val, by omega⟩ j := by
  have h (k) := first_stepped x0 x1 x2 x3 x4 x5 x6 x7 x8 r k
  unfold k0_pay9
  generalize k0_pay7 (F := Ideal) _ _ _ _ _ _ _ _ = y at *
  unfold normed
  simp only [funext fun k => (h k).symm]
  pointwise [k0_pay10, k0_pay8, rms]

/-- The other 512 rows of a block. -/
theorem second_apply (r : Fin 512) (j : Fin 1024) :
    k0_pay1 (k0_pay16 (k0_pay19 x0 x1 x2 x3 x4 x5 x6 x7 x8) (k0_pay24 x0 x1 x2 x3 x4 x5 x6 x7 x8) (k0_pay25 x0 x1 x2 x3 x4 x5 x6 x7 x8)
        (k0_pay26 x0 x1 x2 x3 x4 x5 x6 x7 x8) (k0_pay27 x0 x1 x2 x3 x4 x5 x6 x7 x8) (k0_pay28 x0 x1 x2 x3 x4 x5 x6 x7 x8)
        (View.ld x6 r0_4) (View.ld x6 r0_5) (View.ld x7 r0_6)) (k0_pay17 (View.ld x8 r0_7))
      (k0_pay18 (k0_pay19 x0 x1 x2 x3 x4 x5 x6 x7 x8) (k0_pay24 x0 x1 x2 x3 x4 x5 x6 x7 x8) (k0_pay25 x0 x1 x2 x3 x4 x5 x6 x7 x8)
        (k0_pay26 x0 x1 x2 x3 x4 x5 x6 x7 x8) (k0_pay27 x0 x1 x2 x3 x4 x5 x6 x7 x8) (k0_pay28 x0 x1 x2 x3 x4 x5 x6 x7 x8)
        (View.ld x6 r0_4) (View.ld x6 r0_5) (View.ld x7 r0_6)) (ix2 r j)
      = normed x0 x1 x2 x3 x4 x5 x6 x7 x8 ⟨512 + r.val, by omega⟩ j := by
  have h (k) := second_stepped x0 x1 x2 x3 x4 x5 x6 x7 x8 r k
  unfold k0_pay18
  generalize k0_pay16 (F := Ideal) _ _ _ _ _ _ _ _ _ = y at *
  unfold normed
  simp only [funext fun k => (h k).symm]
  pointwise [k0_pay1, k0_pay17, rms]

/-- Every row of a block. -/
theorem out_apply (r j : Fin 1024) : out0_9 x0 x1 x2 x3 x4 x5 x6 x7 x8 (ix2 r j) = normed x0 x1 x2 x3 x4 x5 x6 x7 x8 r j :=
  canon_halves _ _ _ _ r j (cover0_9 _ _ _) (normed x0 x1 x2 x3 x4 x5 x6 x7 x8) (first_apply x0 x1 x2 x3 x4 x5 x6 x7 x8)
    (second_apply x0 x1 x2 x3 x4 x5 x6 x7 x8)

end Point

section Launch

variable (m : (ℓ : Loc nD τ sig) → Buf (Elt Ideal) ℓ) (c : Dev nD)

/-! The arguments, as vectors. -/

def arg0 : FVec Ideal S8x4096x1024 .f32 := m (c, Proc.tc.devRef main_arg0)
def arg1 : FVec Ideal S8x4096x8x128 .f32 := m (c, Proc.tc.devRef main_arg1)
def arg2 : FVec Ideal S4x8x9216 .f32 := m (c, Proc.tc.devRef main_arg2)
def arg3 : FVec Ideal S4x3x1024 .f32 := m (c, Proc.tc.devRef main_arg3)
def arg4 : FVec Ideal S1024 .f32 := m (c, Proc.tc.devRef main_arg4)
def arg5 : FVec Ideal S4x2x1024x5632 .f32 := m (c, Proc.tc.devRef main_arg5)
def arg6 : FVec Ideal S4x2x2816x1024 .f32 := m (c, Proc.tc.devRef main_arg6)
def arg7 : FVec Ideal S2x1024x1024 .f32 := m (c, Proc.tc.devRef main_arg7)

/-! Which block of each array a point fetches or writes. -/

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![1, 0, 0] := by decide +kernel
theorem index_3 : ∀ t : Fin cfg0.N, win0_3.index t = ![3, t.val / 4, 1, 0, 0] := by decide +kernel
theorem index_4 : ∀ t : Fin cfg0.N, win0_4.index t = ![3, t.val / 4, 2, 0, 0] := by decide +kernel
theorem index_5 : ∀ t : Fin cfg0.N, win0_5.index t = ![3, 2, 0, 0] := by decide +kernel
theorem index_6 : ∀ t : Fin cfg0.N, win0_6.index t = ![3, 1, 0, 0] := by decide +kernel
theorem index_7 : ∀ t : Fin cfg0.N, win0_7.index t = ![3, 1, 0, 0] := by decide +kernel
theorem index_8 : ∀ t : Fin cfg0.N, win0_8.index t = ![0, 0] := by decide +kernel
theorem index_9 : ∀ t : Fin cfg0.N, win0_9.index t = ![t.val, 0] := by decide +kernel

/-! The blocks a point fetches, read off the arguments. -/

theorem block_0 (t : Fin 32) (r k : Fin 1024) :
    iblk m c 0 t (ix2 r k) = token (arg0 m c) ⟨t.val * 1024 + r.val, by omega⟩ k := by
  have h : iblk m c 0 t (ix2 r k) = V m c main_v0 (ix2 ⟨t.val * 1024 + r.val, by omega⟩ k) := by blk_ext [iblk, index_0 t]
  rw [h]
  unfold token arg0
  entry_read
  pointwise

theorem block_1 (t : Fin 32) (r k : Fin 1024) :
    iblk m c 1 t (ix2 r k) = heads (arg1 m c) ⟨t.val * 1024 + r.val, by omega⟩ k := by
  have h : iblk m c 1 t (ix2 r k) = V m c main_v6 (ix2 ⟨t.val * 1024 + r.val, by omega⟩ k) := by blk_ext [iblk, index_1 t]
  rw [h]
  unfold heads arg1
  entry_read
  pointwise

theorem block_2 (t : Fin 32) (k j : Fin 1024) : iblk m c 2 t (ix3 0 k j) = arg7 m c (ix3 1 k j) := by
  have h : iblk m c 2 t (ix3 0 k j) = V m c main_v7 (ix3 1 k j) := by blk_ext [iblk, index_2 t]
  rw [h]
  unfold arg7
  entry_read
  pointwise

theorem block_3 (t : Fin 32) (r : Fin 1024) (p : Fin 3) (k : Fin 1024) : iblk m c 3 t (ix5 0 0 0 p k)
    = modulation (arg2 m c) 3 ⟨3 + p.val, by omega⟩ ⟨t.val * 1024 + r.val, by omega⟩ k := by
  have h : iblk m c 3 t (ix5 0 0 0 p k) = V m c main_v1 (ix5 3 ⟨(t.val * 1024 + r.val) / 4096, by omega⟩ 1 p k) := by
    blk_ext [iblk, index_3 t]
  rw [h]
  unfold modulation arg2
  entry_read
  pointwise
  exact congrArg (fun k => arg2 m c (ix3 3 _ k)) (Fin.ext (by dsimp only; omega))

theorem block_4 (t : Fin 32) (r : Fin 1024) (p : Fin 3) (k : Fin 1024) : iblk m c 4 t (ix5 0 0 0 p k)
    = modulation (arg2 m c) 3 ⟨6 + p.val, by omega⟩ ⟨t.val * 1024 + r.val, by omega⟩ k := by
  have h : iblk m c 4 t (ix5 0 0 0 p k) = V m c main_v1 (ix5 3 ⟨(t.val * 1024 + r.val) / 4096, by omega⟩ 2 p k) := by
    blk_ext [iblk, index_4 t]
  rw [h]
  unfold modulation arg2
  entry_read
  pointwise
  exact congrArg (fun k => arg2 m c (ix3 3 _ k)) (Fin.ext (by dsimp only; omega))

theorem block_5 (t : Fin 32) (k : Fin 1024) : iblk m c 5 t (ix4 0 0 0 k) = arg3 m c (ix3 3 2 k) := by
  have h : iblk m c 5 t (ix4 0 0 0 k) = V m c main_v2 (ix4 3 2 0 k) := by blk_ext [iblk, index_5 t]
  rw [h]
  unfold arg3
  entry_read
  pointwise

theorem block_6 (t : Fin 32) (i : Fin 1024) (l : Fin 5632) : iblk m c 6 t (ix4 0 0 i l) = arg5 m c (ix4 3 1 i l) := by
  have h : iblk m c 6 t (ix4 0 0 i l) = V m c main_v3 (ix4 3 1 i l) := by blk_ext [iblk, index_6 t]
  rw [h]
  unfold arg5
  entry_read
  pointwise

theorem block_7 (t : Fin 32) (l : Fin 2816) (i : Fin 1024) : iblk m c 7 t (ix4 0 0 l i) = arg6 m c (ix4 3 1 l i) := by
  have h : iblk m c 7 t (ix4 0 0 l i) = V m c main_v4 (ix4 3 1 l i) := by blk_ext [iblk, index_7 t]
  rw [h]
  unfold arg6
  entry_read
  pointwise

theorem block_8 (t : Fin 32) (k : Fin 1024) : iblk m c 8 t (ix2 0 k) = arg4 m c (ix1 k) := by
  have h : iblk m c 8 t (ix2 0 k) = V m c main_v8 (ix2 0 k) := by blk_ext [iblk, index_8 t]
  rw [h]
  unfold arg4
  entry_read
  pointwise

/-- The call's result holds, for every token, the projection, the half-step after it and the final norm. -/
theorem array_eq : (dats m 0 c).arrAt 9 cfg0.N = ofRows fun i => rms (outer (arg2 m c) (arg3 m c) (arg5 m c) (arg6 m c) 3 i
    (token (arg0 m c) i) (heads (arg1 m c) i) (fun k j => arg7 m c (ix3 1 k j))) (fun k => arg4 m c (ix1 k)) := by
  refine (dats m 0 c).arrAt_eq_of_covers 9 _ (by decide +kernel) fun t hf y => ?_
  blk_simp
  rw [after0_9]
  refine eq_ofRows t.val _ _ t.isLt (by blk_simp [index_9 t]) (by blk_simp [index_9 t]) _ _ fun r j => ?_
  refine (out_apply _ _ _ _ _ _ _ _ _ r j).trans ?_
  unfold normed
  congr 1
  · unfold stepped projected outer network
    congr 1
    · congr 1
      · exact funext fun k => block_0 m c t r k
      · exact funext fun k => block_3 m c t r 2 k
      · exact funext fun k => block_1 m c t r k
      · exact funext fun k => funext fun j => block_2 m c t k j
    · exact funext fun k => block_5 m c t k
    · exact funext fun k => block_4 m c t r 0 k
    · exact funext fun k => block_4 m c t r 1 k
    · exact funext fun k => block_4 m c t r 2 k
    · exact funext fun i => funext fun l => block_6 m c t i l
    · exact funext fun l => funext fun i => block_7 m c t l i
  · exact funext fun k => block_8 m c t k

end Launch

end Cert.Network.Final

end
-- ==== Proof.Network.FinalReference.lean ====
/- The last layer from its attention on, as the reference writes it, read at every token. -/
module

public import proofs.«01_k».proof.Proof.Network.Rows
public import proofs.«01_k».proof.Proof.Gen.ReferenceFinalIdeal.Read

@[expose] public section

set_option maxRecDepth 16384

noncomputable section

namespace Cert.Network.Final

open Idealize.ShloMosaic Cert.ReferenceFinalIdeal Cert.ReferenceFinalIdeal.Facts₀ Cert.ReferenceFinalIdeal.Facts
  Cert.ReferenceFinalIdeal.Read

variable (x : FVec Ideal S8x4096x1024 .f32) (o : FVec Ideal S8x4096x8x128 .f32) (mod : FVec Ideal S4x8x9216 .f32)
  (norm : FVec Ideal S4x3x1024 .f32) (fin : FVec Ideal S1024 .f32) (wi : FVec Ideal S4x2x1024x5632 .f32)
  (wo : FVec Ideal S4x2x2816x1024 .f32) (wp : FVec Ideal S2x1024x1024 .f32)

/-- The row after the projection of the attention's output. -/
theorem ref_project (b : Fin 8) (s : Fin 4096) (j : Fin 1024) : val_main_v18 (F := Ideal) x o mod wp (ix3 b s j)
    = project (fun i => x (ix3 b s i)) (fun i => mod (ix3 3 b ⟨5120 + i.val, by omega⟩))
        (fun k => o (ix4 b s ⟨k.val / 128, by omega⟩ ⟨k.val % 128, by omega⟩)) (fun k j => wp (ix3 1 k j)) j := by
  pointwise [val_main_v18, val_main_v17, val_main_v16, val_main_v15, val_main_v14, val_main_v13, val_main_v12, val_main_v11,
    val_main_v7, val_main_v1, val_main_v0, project, times]

/-- The normed and modulated row. -/
theorem ref_adaln (b : Fin 8) (s : Fin 4096) (k : Fin 1024) : val_main_v41 (F := Ideal) x o mod norm wp (ix3 b s k)
    = adaln (fun i => val_main_v18 (F := Ideal) x o mod wp (ix3 b s i)) (fun i => norm (ix3 3 2 i))
        (fun i => mod (ix3 3 b ⟨6144 + i.val, by omega⟩)) (fun i => mod (ix3 3 b ⟨7168 + i.val, by omega⟩)) k := by
  unfold val_main_v41 val_main_v38 val_main_v33 val_main_v30 val_main_v29 val_main_v28 val_main_v27 val_main_v25 val_main_v23
    val_main_v22 val_main_v21
  generalize val_main_v18 (F := Ideal) x o mod wp = u
  pointwise [val_main_v40, val_main_v39, val_main_v37, val_main_v36, val_main_v35, val_main_cst_2, val_main_v34, val_main_v32,
    val_main_v31, val_main_v26, val_main_cst_1, val_main_v24, val_main_cst_0, val_main_cst, val_main_v20, val_main_v19, val_main_v9,
    val_main_v8, val_main_v1, val_main_v0, adaln, rms]

/-- The product with the first matrix. -/
theorem ref_wide (b : Fin 8) (s : Fin 4096) (l : Fin 5632) : val_main_v49 (F := Ideal) x o mod norm wi wp (ix3 b s l)
    = times (fun k => val_main_v41 (F := Ideal) x o mod norm wp (ix3 b s k)) (fun k l => wi (ix4 3 1 k l)) l := by
  unfold val_main_v49
  generalize val_main_v41 (F := Ideal) x o mod norm wp = h
  pointwise [val_main_v46, val_main_v45, times]

/-- The gated product. -/
theorem ref_gate (b : Fin 8) (s : Fin 4096) (l : Fin 2816) : val_main_v53 (F := Ideal) x o mod norm wi wp (ix3 b s l)
    = silu (val_main_v49 (F := Ideal) x o mod norm wi wp (ix3 b s ⟨l.val, by omega⟩))
      * val_main_v49 (F := Ideal) x o mod norm wi wp (ix3 b s ⟨2816 + l.val, by omega⟩) := by
  unfold val_main_v53 val_main_v52 val_main_call0_v5 val_main_call0_v3 val_main_call0_v1 val_main_call0_v0 val_main_v51 val_main_v50
  generalize val_main_v49 (F := Ideal) x o mod norm wi wp = h
  pointwise [val_main_call0_v4, val_main_call0_v2, val_main_call0_cst, val_main_call0_cst_0, silu, Ideal.logistic]

/-- The rows after the half-step, before they are laid out as tokens. -/
theorem ref_step (b : Fin 8) (s : Fin 4096) (j : Fin 1024) : val_main_v57 (F := Ideal) x o mod norm wi wo wp (ix3 b s j)
    = val_main_v18 (F := Ideal) x o mod wp (ix3 b s j) + Ideal.ofBits .f32 0x3F000000#32 * mod (ix3 3 b ⟨8192 + j.val, by omega⟩)
      * times (fun l => val_main_v53 (F := Ideal) x o mod norm wi wp (ix3 b s l)) (fun l j => wo (ix4 3 1 l j)) j := by
  unfold val_main_v57 val_main_v56 val_main_v54
  generalize val_main_v53 (F := Ideal) x o mod norm wi wp = h
  generalize val_main_v18 (F := Ideal) x o mod wp = u
  pointwise [val_main_v55, val_main_v48, val_main_v47, val_main_v44, val_main_v43, val_main_cst_3, val_main_v42, val_main_v10,
    val_main_v1, val_main_v0, times]

/-- The final norm. -/
theorem ref_final (b : Fin 8) (s : Fin 4096) (j : Fin 1024) : val_main_v70 (F := Ideal) x o mod norm fin wi wo wp (ix3 b s j)
    = rms (fun i => val_main_v57 (F := Ideal) x o mod norm wi wo wp (ix3 b s i)) (fun i => fin (ix1 i)) j := by
  unfold val_main_v70 val_main_v67 val_main_v66 val_main_v65 val_main_v64 val_main_v62 val_main_v60 val_main_v59 val_main_v58
  generalize val_main_v57 (F := Ideal) x o mod norm wi wo wp = u
  pointwise [val_main_v69, val_main_v68, val_main_v63, val_main_cst_6, val_main_v61, val_main_cst_5, val_main_cst_4, rms]

/-- The reference's result holds, for every token, the projection, the half-step and the final norm. -/
theorem reference_eq : val_main_v71 (F := Ideal) x o mod norm fin wi wo wp
    = ofRows fun i => rms (outer mod norm wi wo 3 i (token x i) (heads o i) (fun k j => wp (ix3 1 k j))) (fun k => fin (ix1 k)) := by
  funext y
  have h : val_main_v71 (F := Ideal) x o mod norm fin wi wo wp y = val_main_v70 (F := Ideal) x o mod norm fin wi wo wp
      (ix3 ⟨(y 0).val / 4096, by have := (y 0).isLt; simp at this; omega⟩ ⟨(y 0).val % 4096, by omega⟩ ⟨(y 1).val, (y 1).isLt⟩) := by
    unfold val_main_v71
    generalize val_main_v70 (F := Ideal) x o mod norm fin wi wo wp = u
    rw [idx2_eq y]
    pointwise
  rw [h, ref_final]
  simp only [ref_step, ref_gate, ref_wide, ref_adaln, ref_project]
  simp only [ofRows, outer, network, halfStep, swiglu, modulation, token, heads, project]
  rfl

end Cert.Network.Final

end
-- ==== Proof.Network.Rotary.lean ====
/- The rotary embedding of a row of heads, and how the arrays it is stored in are read. -/
module

public import proofs.«01_k».proof.Proof.Network.Rows

@[expose] public section

noncomputable section

namespace Cert.Network

open Idealize.ShloMosaic

/-- The angle by which token `i` turns lane `l` of the two halves of a head of `d` lanes: its position, times 10000 to the
    power of `-2 l / d`. -/
def angle (pos : IVec ⟨2, ![8, 4096]⟩ 32) (i : Fin 32768) (d : BitVec 32) (l : ℕ) : EReal :=
  FloatOps.sitofp (F := Ideal) .f32 (pos (ix2 ⟨i.val / 4096, by omega⟩ ⟨i.val % 4096, by omega⟩))
    * Ideal.pow (Ideal.ofBits .f32 0x461C4000#32)
      (Ideal.div (-(Ideal.ofBits .f32 0x40000000#32 * FloatOps.sitofp (F := Ideal) .f32 (BitVec.ofNat 32 l))) (Ideal.ofBits .f32 d))

/-- Token `i` of layer `l` as the attention or the retention takes it: normed and modulated. -/
def mixed (mod : FVec Ideal ⟨3, ![4, 8, 9216]⟩ .f32) (norm : FVec Ideal ⟨3, ![4, 3, 1024]⟩ .f32)
    (x : FVec Ideal ⟨3, ![8, 4096, 1024]⟩ .f32) (l : Fin 4) (i : Fin 32768) : Row 1024 :=
  adaln (token x i) (fun k => norm (ix3 l 1 k)) (modulation mod l 3 i) (modulation mod l 4 i)

/-- Its product with `n` columns of the retention's input matrix, from column `o` on. -/
def column {n : ℕ} (w : FVec Ideal ⟨3, ![2, 1024, 6144]⟩ .f32) (h : Row 1024) (o : ℕ) (ho : o + n ≤ 6144) : Row n :=
  times h fun a (b : Fin n) => w (ix3 0 a ⟨o + b.val, by omega⟩)

/-- Lane `j` of four heads of 256, each head's two halves turned by the angles with these cosines and sines. -/
def rotate (y : Row 1024) (cos sin : Row 128) : Row 1024 := fun j =>
  if h : j.val % 256 < 128 then
    y j * cos ⟨j.val % 256, h⟩ - y ⟨j.val + 128, by omega⟩ * sin ⟨j.val % 256, h⟩
  else
    y ⟨j.val - 128, by omega⟩ * sin ⟨j.val % 256 - 128, by omega⟩ + y j * cos ⟨j.val % 256 - 128, by omega⟩

/-- A lane of the first half of head `a`. -/
theorem rotate_first (y : Row 1024) (cos sin : Row 128) (a : ℕ) (ha : a < 4) (l : Fin 128) :
    rotate y cos sin ⟨a * 256 + l.val, by omega⟩
      = y ⟨a * 256 + l.val, by omega⟩ * cos l - y ⟨a * 256 + 128 + l.val, by omega⟩ * sin l := by
  have h : (a * 256 + l.val) % 256 = l.val := by omega
  unfold rotate
  rw [dif_pos (by dsimp only; omega)]
  congr 2
  · exact congrArg cos (Fin.ext h)
  · exact congrArg y (Fin.ext (by dsimp only; omega))
  · exact congrArg sin (Fin.ext h)

/-- A lane of the second half of head `a`. -/
theorem rotate_second (y : Row 1024) (cos sin : Row 128) (a : ℕ) (ha : a < 4) (l : Fin 128) :
    rotate y cos sin ⟨a * 256 + 128 + l.val, by omega⟩
      = y ⟨a * 256 + l.val, by omega⟩ * sin l + y ⟨a * 256 + 128 + l.val, by omega⟩ * cos l := by
  have h : (a * 256 + 128 + l.val) % 256 - 128 = l.val := by omega
  unfold rotate
  rw [dif_neg (by dsimp only; omega)]
  congr 2
  · exact congrArg y (Fin.ext (by dsimp only; omega))
  · exact congrArg sin (Fin.ext h)
  · exact congrArg cos (Fin.ext h)

/-- The matrix of 32768 tokens by `n` lanes, stored as bfloat16, with the rows `f`. -/
def tokens {n : ℕ} (f : Fin 32768 → Row n) : FVec Ideal ⟨2, ![32768, n]⟩ .bf16 := fun i =>
  f ⟨(i 0).val, (i 0).isLt⟩ ⟨(i 1).val, (i 1).isLt⟩

/-- A block of 1024 rows of it: block `t` holds the rows from `1024 t` on. -/
theorem eq_tokens {n : ℕ} (t : ℕ) (y : (⟨2, ![1024, n]⟩ : Shape).Idx) (z : (⟨2, ![32768, n]⟩ : Shape).Idx) (ht : t < 32)
    (h0 : (z 0).val = t * 1024 + (y 0).val) (h1 : (z 1).val = (y 1).val) (w : FVec Ideal ⟨2, ![1024, n]⟩ .bf16)
    (f : Fin 32768 → Row n) (h : ∀ (r : Fin 1024) (j : Fin n), w (ix2 r j) = f ⟨t * 1024 + r.val, by omega⟩ j) :
    w y = tokens f z := by
  refine (congrArg w (idx2_eq y)).trans ((h _ _).trans ?_)
  exact congrArg₂ f (Fin.ext h0.symm) (Fin.ext h1.symm)

/-- What the two halves of head `a` are to hold: the rows `y` turned by the angles, times `s`. -/
def First (y : Fin 1024 → Row 1024) (cos sin : Fin 1024 → Row 128) (s : EReal) (a : ℕ) (ha : a < 4)
    (w : FVec Ideal ⟨2, ![1024, 128]⟩ .bf16) : Prop := ∀ (r : Fin 1024) (l : Fin 128), w (ix2 r l)
  = (y r ⟨a * 256 + l.val, by omega⟩ * cos r l - y r ⟨a * 256 + 128 + l.val, by omega⟩ * sin r l) * s

def Second (y : Fin 1024 → Row 1024) (cos sin : Fin 1024 → Row 128) (s : EReal) (a : ℕ) (ha : a < 4)
    (w : FVec Ideal ⟨2, ![1024, 128]⟩ .bf16) : Prop := ∀ (r : Fin 1024) (l : Fin 128), w (ix2 r l)
  = (y r ⟨a * 256 + l.val, by omega⟩ * sin r l + y r ⟨a * 256 + 128 + l.val, by omega⟩ * cos r l) * s

section Pieces

variable {y : Fin 1024 → Row 1024} {cos sin : Fin 1024 → Row 128} {s : EReal} {a : ℕ} {ha : a < 4}
  {w : FVec Ideal ⟨2, ![1024, 128]⟩ .bf16} (r j : Fin 1024)

/-- A stored first half is a piece of the rotated rows. -/
theorem first_tile (h : First y cos sin s a ha w) : View.TileAt (S := Block) (e := .bf16) (Val := Elt Ideal) (ix2 r j)
    ![0, a * 256] ![1024, 128] w (rotate (y r) (cos r) (sin r) j * s) := by
  intro x hx
  have e0 : r.val = 0 + (x 0).val := hx 0
  have e1 : j.val = a * 256 + (x 1).val := hx 1
  have b : (x 1).val < 128 := (x 1).isLt
  have e : (x 0).val = r.val := by omega
  refine (congrArg w (idx2_eq x)).trans ((h ⟨(x 0).val, by omega⟩ ⟨(x 1).val, b⟩).trans ?_)
  refine congrArg (· * s) ((rotate_first _ _ _ a ha ⟨(x 1).val, b⟩).symm.trans ?_)
  exact congrArg₂ (fun r j => rotate (y r) (cos r) (sin r) j) (Fin.ext e) (Fin.ext e1.symm)

/-- A stored second half is a piece of the rotated rows. -/
theorem second_tile (h : Second y cos sin s a ha w) : View.TileAt (S := Block) (e := .bf16) (Val := Elt Ideal) (ix2 r j)
    ![0, a * 256 + 128] ![1024, 128] w (rotate (y r) (cos r) (sin r) j * s) := by
  intro x hx
  have e0 : r.val = 0 + (x 0).val := hx 0
  have e1 : j.val = a * 256 + 128 + (x 1).val := hx 1
  have b : (x 1).val < 128 := (x 1).isLt
  have e : (x 0).val = r.val := by omega
  refine (congrArg w (idx2_eq x)).trans ((h ⟨(x 0).val, by omega⟩ ⟨(x 1).val, b⟩).trans ?_)
  refine congrArg (· * s) ((rotate_second _ _ _ a ha ⟨(x 1).val, b⟩).symm.trans ?_)
  exact congrArg₂ (fun r j => rotate (y r) (cos r) (sin r) j) (Fin.ext e) (Fin.ext e1.symm)

end Pieces

end Cert.Network

end
-- ==== Proof.Network.RetIn.lean ====
/- The retention's input call: what one point of its grid computes, and what its four arrays hold. -/
module

public import proofs.«01_k».proof.Proof.Network.Rotary
public import proofs.«01_k».proof.Proof.Gen.RetInIdeal.Frame

@[expose] public section

set_option maxRecDepth 16384

noncomputable section

namespace Cert.Network.RetIn

open Idealize.ShloMosaic Idealize.ShloMosaic.Pipeline Cert.RetInIdeal Cert.RetInIdeal.Facts₀ Cert.RetInIdeal.Facts
  Cert.RetInIdeal.Gen

section Point

variable (x0 : Vec Ideal S1024x1024 .f32) (x1 : Vec Ideal S1x1x1x3x1024 .f32) (x2 : Vec Ideal S1x1x1x1024 .f32)
  (x3 : Vec Ideal S1x1024x6144 .bf16) (x4 x5 : Vec Ideal S1024x128 .f32)

/-- Row `r` of the fetched block, normed and modulated. -/
def hidden (r : Fin 1024) : Row 1024 :=
  adaln (fun i => x0 (ix2 r i)) (fun i => x2 (ix4 0 0 0 i)) (fun i => x1 (ix5 0 0 0 0 i)) (fun i => x1 (ix5 0 0 0 1 i))

theorem hidden_apply (r k : Fin 1024) : k0_pay44 x0 x1 x2 x3 x4 x5 (ix2 r k) = hidden x0 x1 x2 r k := by
  pointwise [k0_pay44, k0_pay5, hidden, adaln, rms]

/-- The products for the queries and for the keys. -/
theorem queries_apply (r j : Fin 1024) : k0_pay47 x0 x1 x2 x3 x4 x5 (ix2 r j)
    = times (hidden x0 x1 x2 r) (fun i l => x3 (ix3 0 i ⟨l.val, by omega⟩)) j := by
  have h := hidden_apply x0 x1 x2 x3 x4 x5 r
  unfold k0_pay47 k0_pay8
  unfold k0_pay44 at h
  generalize k0_pay5 (F := Ideal) _ _ _ = u at h ⊢
  pointwise [times, h]

theorem keys_apply (r j : Fin 1024) : k0_pay50 x0 x1 x2 x3 x4 x5 (ix2 r j)
    = times (hidden x0 x1 x2 r) (fun i (l : Fin 1024) => x3 (ix3 0 i ⟨1024 + l.val, by omega⟩)) j := by
  have h := hidden_apply x0 x1 x2 x3 x4 x5 r
  unfold k0_pay50 k0_pay26
  generalize k0_pay44 (F := Ideal) _ _ _ _ _ _ = u at h ⊢
  pointwise [times, h]

/-- The values. -/
theorem values_apply (r : Fin 1024) (j : Fin 2048) : out0_8 x0 x1 x2 x3 x4 x5 (ix2 r j)
    = times (hidden x0 x1 x2 r) (fun i (l : Fin 2048) => x3 (ix3 0 i ⟨2048 + l.val, by omega⟩)) j := by
  unfold out0_8
  rw [View.canon_unit_zero (by decide)]
  have h := hidden_apply x0 x1 x2 x3 x4 x5 r
  generalize k0_pay44 (F := Ideal) _ _ _ _ _ _ = u at h ⊢
  pointwise [k0_pay3, times, h]

/-- The gates. -/
theorem gates_apply (r : Fin 1024) (j : Fin 2048) : out0_9 x0 x1 x2 x3 x4 x5 (ix2 r j)
    = silu (times (hidden x0 x1 x2 r) (fun i (l : Fin 2048) => x3 (ix3 0 i ⟨4096 + l.val, by omega⟩)) j) := by
  unfold out0_9
  rw [View.canon_unit_zero (by decide)]
  have h := hidden_apply x0 x1 x2 x3 x4 x5 r
  generalize k0_pay44 (F := Ideal) _ _ _ _ _ _ = u at h ⊢
  pointwise [k0_pay4, times, h]
  simp only [silu_eq]

/-- The rotated queries. -/
theorem rotated_queries (r j : Fin 1024) : out0_6 x0 x1 x2 x3 x4 x5 (ix2 r j)
    = rotate (times (hidden x0 x1 x2 r) (fun i (l : Fin 1024) => x3 (ix3 0 i ⟨l.val, by omega⟩)))
        (fun l => x4 (ix2 r l)) (fun l => x5 (ix2 r l)) j * 1 := by
  have h := queries_apply x0 x1 x2 x3 x4 x5
  unfold k0_pay47 at h
  unfold out0_6 k0_pay47 k0_pay48 k0_pay49 k0_pay9 k0_pay10
  generalize k0_pay8 (F := Ideal) _ _ _ _ = u at h ⊢
  rw [show times _ _ = fun j => u (ix2 r j) from funext fun j => (h r j).symm]
  clear h
  have first (a : ℕ) (ha : a < 4) (w : FVec Ideal S1024x128 .bf16)
      (hw : First (fun r j => u (ix2 r j)) (fun r l => x4 (ix2 r l)) (fun r l => x5 (ix2 r l)) 1 a ha w) := first_tile r j hw
  have second (a : ℕ) (ha : a < 4) (w : FVec Ideal S1024x128 .bf16)
      (hw : Second (fun r j => u (ix2 r j)) (fun r l => x4 (ix2 r l)) (fun r l => x5 (ix2 r l)) 1 a ha w) := second_tile r j hw
  refine View.canon_eq_of_allAt _ _ _ (cover0_6 _ _ _ _ _ _ _ _ _)
    (View.allAt_cons_unit _ _ _ _ _ (second 3 (by omega) _ fun r l => ?_)
    (View.allAt_cons_unit _ _ _ _ _ (first 3 (by omega) _ fun r l => ?_)
    (View.allAt_cons_unit _ _ _ _ _ (second 2 (by omega) _ fun r l => ?_)
    (View.allAt_cons_unit _ _ _ _ _ (first 2 (by omega) _ fun r l => ?_)
    (View.allAt_cons_unit _ _ _ _ _ (second 1 (by omega) _ fun r l => ?_)
    (View.allAt_cons_unit _ _ _ _ _ (first 1 (by omega) _ fun r l => ?_)
    (View.allAt_cons_unit _ _ _ _ _ (second 0 (by omega) _ fun r l => ?_)
    (View.allAt_cons_unit _ _ _ _ _ (first 0 (by omega) _ fun r l => ?_) (View.allAt_nil _ _)))))))))
  · pointwise [k0_pay25, k0_pay22, k0_pay23, k0_pay45, k0_pay46, k0_pay6, k0_pay7]
  · pointwise [k0_pay24, k0_pay22, k0_pay23, k0_pay45, k0_pay46, k0_pay6, k0_pay7]
  · pointwise [k0_pay21, k0_pay20, k0_pay18, k0_pay17, k0_pay45, k0_pay46, k0_pay6, k0_pay7]
  · pointwise [k0_pay19, k0_pay18, k0_pay17, k0_pay45, k0_pay46, k0_pay6, k0_pay7]
  · pointwise [k0_pay16, k0_pay14, k0_pay13, k0_pay45, k0_pay46, k0_pay6, k0_pay7]
  · pointwise [k0_pay15, k0_pay14, k0_pay13, k0_pay45, k0_pay46, k0_pay6, k0_pay7]
  · pointwise [k0_pay12, k0_pay45, k0_pay46, k0_pay6, k0_pay7]
  · pointwise [k0_pay11, k0_pay45, k0_pay46, k0_pay6, k0_pay7]

/-- The rotated keys, divided by the square root of their number of lanes. -/
theorem rotated_keys (r j : Fin 1024) : out0_7 x0 x1 x2 x3 x4 x5 (ix2 r j)
    = rotate (times (hidden x0 x1 x2 r) (fun i (l : Fin 1024) => x3 (ix3 0 i ⟨1024 + l.val, by omega⟩)))
        (fun l => x4 (ix2 r l)) (fun l => x5 (ix2 r l)) j * Ideal.ofBits .f32 0x3D800000#32 := by
  have h := keys_apply x0 x1 x2 x3 x4 x5
  unfold k0_pay50 at h
  unfold out0_7 k0_pay50 k0_pay29 k0_pay30 k0_pay27 k0_pay28
  generalize k0_pay26 (F := Ideal) _ _ = u at h ⊢
  rw [show times _ _ = fun j => u (ix2 r j) from funext fun j => (h r j).symm]
  clear h
  generalize hs : Ideal.ofBits .f32 0x3D800000#32 = s
  have first (a : ℕ) (ha : a < 4) (w : FVec Ideal S1024x128 .bf16)
      (hw : First (fun r j => u (ix2 r j)) (fun r l => x4 (ix2 r l)) (fun r l => x5 (ix2 r l)) s a ha w) := first_tile r j hw
  have second (a : ℕ) (ha : a < 4) (w : FVec Ideal S1024x128 .bf16)
      (hw : Second (fun r j => u (ix2 r j)) (fun r l => x4 (ix2 r l)) (fun r l => x5 (ix2 r l)) s a ha w) := second_tile r j hw
  subst hs
  refine View.canon_eq_of_allAt _ _ _ (cover0_7 _ _ _ _ _ _ _ _ _)
    (View.allAt_cons_unit _ _ _ _ _ (second 3 (by omega) _ fun r l => ?_)
    (View.allAt_cons_unit _ _ _ _ _ (first 3 (by omega) _ fun r l => ?_)
    (View.allAt_cons_unit _ _ _ _ _ (second 2 (by omega) _ fun r l => ?_)
    (View.allAt_cons_unit _ _ _ _ _ (first 2 (by omega) _ fun r l => ?_)
    (View.allAt_cons_unit _ _ _ _ _ (second 1 (by omega) _ fun r l => ?_)
    (View.allAt_cons_unit _ _ _ _ _ (first 1 (by omega) _ fun r l => ?_)
    (View.allAt_cons_unit _ _ _ _ _ (second 0 (by omega) _ fun r l => ?_)
    (View.allAt_cons_unit _ _ _ _ _ (first 0 (by omega) _ fun r l => ?_) (View.allAt_nil _ _)))))))))
  · pointwise [k0_pay2, k0_pay40, k0_pay41, k0_pay45, k0_pay46, k0_pay6, k0_pay7]
  · pointwise [k0_pay1, k0_pay40, k0_pay41, k0_pay42, k0_pay43, k0_pay45, k0_pay46, k0_pay6, k0_pay7]
  · pointwise [k0_pay39, k0_pay36, k0_pay37, k0_pay45, k0_pay46, k0_pay6, k0_pay7]
  · pointwise [k0_pay38, k0_pay36, k0_pay37, k0_pay45, k0_pay46, k0_pay6, k0_pay7]
  · pointwise [k0_pay35, k0_pay32, k0_pay33, k0_pay45, k0_pay46, k0_pay6, k0_pay7]
  · pointwise [k0_pay34, k0_pay32, k0_pay33, k0_pay45, k0_pay46, k0_pay6, k0_pay7]
  · pointwise [k0_pay31, k0_pay45, k0_pay46, k0_pay6, k0_pay7]
  · pointwise [k0_pay45, k0_pay46, k0_pay6, k0_pay7]

end Point

section Launch

variable (m : (ℓ : Loc nD τ sig) → Buf (Elt Ideal) ℓ) (c : Dev nD)

/-! The arguments, as vectors. -/

def arg0 : FVec Ideal S8x4096x1024 .f32 := m (c, Proc.tc.devRef main_arg0)
def arg1 : IVec S8x4096 32 := m (c, Proc.tc.devRef main_arg1)
def arg2 : FVec Ideal S4x8x9216 .f32 := m (c, Proc.tc.devRef main_arg2)
def arg3 : FVec Ideal S4x3x1024 .f32 := m (c, Proc.tc.devRef main_arg3)
def arg4 : FVec Ideal S2x1024x6144 .f32 := m (c, Proc.tc.devRef main_arg4)

/-! Which block of each array a point fetches or writes. -/

theorem index_0 : ∀ t : Fin cfg0.N, win0_0.index t = ![t.val, 0] := by decide +kernel
theorem index_1 : ∀ t : Fin cfg0.N, win0_1.index t = ![0, t.val / 4, 1, 0, 0] := by decide +kernel
theorem index_2 : ∀ t : Fin cfg0.N, win0_2.index t = ![0, 1, 0, 0] := by decide +kernel
theorem index_3 : ∀ t : Fin cfg0.N, win0_3.index t = ![0, 0, 0] := by decide +kernel
theorem index_4 : ∀ t : Fin cfg0.N, win0_4.index t = ![t.val, 0] := by decide +kernel
theorem index_5 : ∀ t : Fin cfg0.N, win0_5.index t = ![t.val, 0] := by decide +kernel
theorem index_6 : ∀ t : Fin cfg0.N, win0_6.index t = ![t.val, 0] := by decide +kernel
theorem index_7 : ∀ t : Fin cfg0.N, win0_7.index t = ![t.val, 0] := by decide +kernel
theorem index_8 : ∀ t : Fin cfg0.N, win0_8.index t = ![t.val, 0] := by decide +kernel
theorem index_9 : ∀ t : Fin cfg0.N, win0_9.index t = ![t.val, 0] := by decide +kernel

/-! The blocks a point fetches, read off the arguments. -/

theorem block_0 (t : Fin 32) (r k : Fin 1024) :
    iblk m c 0 t (ix2 r k) = token (arg0 m c) ⟨t.val * 1024 + r.val, by omega⟩ k := by
  have h : iblk m c 0 t (ix2 r k) = V m c main_v16 (ix2 ⟨t.val * 1024 + r.val, by omega⟩ k) := by blk_ext [iblk, index_0 t]
  rw [h]
  unfold token arg0
  entry_read
  pointwise

theorem block_1 (t : Fin 32) (r : Fin 1024) (p : Fin 3) (k : Fin 1024) : iblk m c 1 t (ix5 0 0 0 p k)
    = modulation (arg2 m c) 0 ⟨3 + p.val, by omega⟩ ⟨t.val * 1024 + r.val, by omega⟩ k := by
  have h : iblk m c 1 t (ix5 0 0 0 p k) = V m c main_v17 (ix5 0 ⟨(t.val * 1024 + r.val) / 4096, by omega⟩ 1 p k) := by
    blk_ext [iblk, index_1 t]
  rw [h]
  unfold modulation arg2
  entry_read
  pointwise
  exact congrArg (fun k => arg2 m c (ix3 0 _ k)) (Fin.ext (by dsimp only; omega))

theorem block_2 (t : Fin 32) (k : Fin 1024) : iblk m c 2 t (ix4 0 0 0 k) = arg3 m c (ix3 0 1 k) := by
  have h : iblk m c 2 t (ix4 0 0 0 k) = V m c main_v18 (ix4 0 1 0 k) := by blk_ext [iblk, index_2 t]
  rw [h]
  unfold arg3
  entry_read
  pointwise

theorem block_3 (t : Fin 32) (i : Fin 1024) (l : Fin 6144) : iblk m c 3 t (ix3 0 i l) = arg4 m c (ix3 0 i l) := by
  have h : iblk m c 3 t (ix3 0 i l) = V m c main_v19 (ix3 0 i l) := by blk_ext [iblk, index_3 t]
  rw [h]
  unfold arg4
  entry_read
  pointwise

theorem block_4 (t : Fin 32) (r : Fin 1024) (l : Fin 128) : iblk m c 4 t (ix2 r l)
    = Ideal.cos (angle (arg1 m c) ⟨t.val * 1024 + r.val, by omega⟩ 0x43800000#32 l.val) := by
  have h : iblk m c 4 t (ix2 r l) = V m c main_v20 (ix2 ⟨t.val * 1024 + r.val, by omega⟩ l) := by blk_ext [iblk, index_4 t]
  rw [h]
  unfold angle arg1
  entry_read
  pointwise

theorem block_5 (t : Fin 32) (r : Fin 1024) (l : Fin 128) : iblk m c 5 t (ix2 r l)
    = Ideal.sin (angle (arg1 m c) ⟨t.val * 1024 + r.val, by omega⟩ 0x43800000#32 l.val) := by
  have h : iblk m c 5 t (ix2 r l) = V m c main_v21 (ix2 ⟨t.val * 1024 + r.val, by omega⟩ l) := by blk_ext [iblk, index_5 t]
  rw [h]
  unfold angle arg1
  entry_read
  pointwise

/-- The rows a point norms are its tokens'. -/
theorem hidden_eq (t : Fin 32) (r : Fin 1024) : hidden (iblk m c 0 t) (iblk m c 1 t) (iblk m c 2 t) r
    = mixed (arg2 m c) (arg3 m c) (arg0 m c) 0 ⟨t.val * 1024 + r.val, by omega⟩ := by
  have b1 := block_1 m c t r
  unfold hidden mixed
  congr 1
  · exact funext fun k => block_0 m c t r k
  · exact funext fun k => block_2 m c t k
  · exact funext fun k => b1 0 k
  · exact funext fun k => b1 1 k

/-- The first array holds the rotated queries. -/
theorem queries_eq : (dats m 0 c).arrAt 6 cfg0.N = tokens fun i => rotate (column (arg4 m c) (mixed (arg2 m c) (arg3 m c) (arg0 m c) 0 i) 0 (by omega))
    (fun l => Ideal.cos (angle (arg1 m c) i 0x43800000#32 l.val)) (fun l => Ideal.sin (angle (arg1 m c) i 0x43800000#32 l.val)) := by
  refine (dats m 0 c).arrAt_eq_of_covers 6 _ (by decide +kernel) fun t hf y => ?_
  blk_simp
  rw [after0_6]
  refine eq_tokens t.val _ _ t.isLt (by blk_simp [index_6 t]) (by blk_simp [index_6 t]) _ _ fun r j => ?_
  refine (rotated_queries _ _ _ _ _ _ r j).trans ((mul_one _).trans ?_)
  rw [hidden_eq m c t r]
  unfold column
  congr 2
  · exact funext fun i => funext fun l => (block_3 m c t i _).trans (congrArg (fun l => arg4 m c (ix3 0 i l)) (Fin.ext (by dsimp only; omega)))
  · exact funext fun l => block_4 m c t r l
  · exact funext fun l => block_5 m c t r l

/-- The second holds the rotated and scaled keys. -/
theorem keys_eq : (dats m 0 c).arrAt 7 cfg0.N = tokens fun i j => rotate (column (arg4 m c) (mixed (arg2 m c) (arg3 m c) (arg0 m c) 0 i) 1024 (by omega))
    (fun l => Ideal.cos (angle (arg1 m c) i 0x43800000#32 l.val)) (fun l => Ideal.sin (angle (arg1 m c) i 0x43800000#32 l.val)) j
      * Ideal.ofBits .f32 0x3D800000#32 := by
  refine (dats m 0 c).arrAt_eq_of_covers 7 _ (by decide +kernel) fun t hf y => ?_
  blk_simp
  rw [after0_7]
  refine eq_tokens t.val _ _ t.isLt (by blk_simp [index_7 t]) (by blk_simp [index_7 t]) _ _ fun r j => ?_
  refine (rotated_keys _ _ _ _ _ _ r j).trans (congrArg (· * _) ?_)
  rw [hidden_eq m c t r]
  unfold column
  congr 2
  · exact funext fun i => funext fun l => block_3 m c t i _
  · exact funext fun l => block_4 m c t r l
  · exact funext fun l => block_5 m c t r l

/-- The third holds the values. -/
theorem values_eq : (dats m 0 c).arrAt 8 cfg0.N = tokens (n := 2048) fun i =>
    column (arg4 m c) (mixed (arg2 m c) (arg3 m c) (arg0 m c) 0 i) 2048 (by omega) := by
  refine (dats m 0 c).arrAt_eq_of_covers 8 _ (by decide +kernel) fun t hf y => ?_
  blk_simp
  rw [after0_8]
  refine eq_tokens t.val _ _ t.isLt (by blk_simp [index_8 t]) (by blk_simp [index_8 t]) _ _ fun r j => ?_
  refine (values_apply _ _ _ _ _ _ r j).trans ?_
  rw [hidden_eq m c t r]
  unfold column
  congr 1
  exact funext fun i => funext fun l => block_3 m c t i _

/-- The fourth holds the gates. -/
theorem gates_eq : (dats m 0 c).arrAt 9 cfg0.N = tokens (n := 2048) fun i j =>
    silu (column (arg4 m c) (mixed (arg2 m c) (arg3 m c) (arg0 m c) 0 i) 4096 (by omega) j) := by
  refine (dats m 0 c).arrAt_eq_of_covers 9 _ (by decide +kernel) fun t hf y => ?_
  blk_simp
  rw [after0_9]
  refine eq_tokens t.val _ _ t.isLt (by blk_simp [index_9 t]) (by blk_simp [index_9 t]) _ _ fun r j => ?_
  refine (gates_apply _ _ _ _ _ _ r j).trans (congrArg silu ?_)
  rw [hidden_eq m c t r]
  unfold column
  congr 1
  exact funext fun i => funext fun l => block_3 m c t i _

end Launch

end Cert.Network.RetIn

end
-- ==== Proof.Network.RetInReference.lean ====
/- The retention's inputs as the reference writes them, read at every token. -/
module

public import proofs.«01_k».proof.Proof.Network.Rotary
public import proofs.«01_k».proof.Proof.Gen.ReferenceRetInIdeal.Read

@[expose] public section

set_option maxRecDepth 16384

noncomputable section

namespace Cert.Network.RetIn

open Idealize.ShloMosaic Cert.ReferenceRetInIdeal Cert.ReferenceRetInIdeal.Facts₀ Cert.ReferenceRetInIdeal.Facts
  Cert.ReferenceRetInIdeal.Read

variable (x : FVec Ideal S8x4096x1024 .f32) (pos : IVec S8x4096 32) (mod : FVec Ideal S4x8x9216 .f32)
  (norm : FVec Ideal S4x3x1024 .f32) (w : FVec Ideal S2x1024x6144 .f32)

/-- The normed and modulated row. -/
theorem ref_adaln (b : Fin 8) (s : Fin 4096) (k : Fin 1024) : val_main_v33 (F := Ideal) x mod norm (ix3 b s k)
    = adaln (fun i => x (ix3 b s i)) (fun i => norm (ix3 0 1 i)) (fun i => mod (ix3 0 b ⟨3072 + i.val, by omega⟩))
        (fun i => mod (ix3 0 b ⟨4096 + i.val, by omega⟩)) k := by
  pointwise [val_main_v33, val_main_v32, val_main_v31, val_main_v30, val_main_v29, val_main_v28, val_main_v27, val_main_cst_2,
    val_main_v26, val_main_v25, val_main_v24, val_main_v23, val_main_v22, val_main_v21, val_main_v20, val_main_v19, val_main_v18,
    val_main_cst_1, val_main_v17, val_main_v16, val_main_cst_0, val_main_v15, val_main_v14, val_main_cst, val_main_v13,
    val_main_v12, val_main_v11, val_main_v6, val_main_v5, val_main_v1, val_main_v0, adaln, rms]

/-- The product with the input matrix. -/
theorem ref_wide (b : Fin 8) (s : Fin 4096) (l : Fin 6144) : val_main_v36 (F := Ideal) x mod norm w (ix3 b s l)
    = times (fun k => val_main_v33 (F := Ideal) x mod norm (ix3 b s k)) (fun k l => w (ix3 0 k l)) l := by
  unfold val_main_v36
  generalize val_main_v33 (F := Ideal) x mod norm = h
  pointwise [val_main_v35, val_main_v34, times]

/-- The cosines and sines, for the queries and for the keys. -/
theorem ref_cos (i : Fin 32768) (l : Fin 128) : val_main_v58 (F := Ideal) pos (ix4 ⟨i.val / 4096, by omega⟩ ⟨i.val % 4096, by omega⟩ 0 l)
    = Ideal.cos (angle pos i 0x43800000#32 l.val) := by
  pointwise [val_main_v58, val_main_v57, val_main_v56, val_main_v55, val_main_v54, val_main_v53, val_main_v52, val_main_v51,
    val_main_v50, val_main_cst_6, val_main_v49, val_main_v48, val_main_cst_5, val_main_v47, val_main_v46, val_main_v45,
    val_main_cst_4, val_main_v44, val_main_v43, val_main_cst_3, val_main_v42, angle]

theorem ref_sin (i : Fin 32768) (l : Fin 128) : val_main_v59 (F := Ideal) pos (ix4 ⟨i.val / 4096, by omega⟩ ⟨i.val % 4096, by omega⟩ 0 l)
    = Ideal.sin (angle pos i 0x43800000#32 l.val) := by
  pointwise [val_main_v59, val_main_v57, val_main_v56, val_main_v55, val_main_v54, val_main_v53, val_main_v52, val_main_v51,
    val_main_v50, val_main_cst_6, val_main_v49, val_main_v48, val_main_cst_5, val_main_v47, val_main_v46, val_main_v45,
    val_main_cst_4, val_main_v44, val_main_v43, val_main_cst_3, val_main_v42, angle]

theorem key_cos : val_main_v91 (F := Ideal) pos = val_main_v58 (F := Ideal) pos := rfl
theorem key_sin : val_main_v92 (F := Ideal) pos = val_main_v59 (F := Ideal) pos := rfl

/-- The rotated queries. -/
theorem ref_queries (b : Fin 8) (s : Fin 4096) (j : Fin 1024) : val_main_v73 (F := Ideal) x pos mod norm w (ix3 b s j)
    = rotate (fun l => val_main_v36 (F := Ideal) x mod norm w (ix3 b s ⟨l.val, by omega⟩))
        (fun l => val_main_v58 (F := Ideal) pos (ix4 b s 0 l)) (fun l => val_main_v59 (F := Ideal) pos (ix4 b s 0 l)) j := by
  unfold val_main_v73 val_main_v72 val_main_v71 val_main_v70 val_main_v69 val_main_v68 val_main_v67 val_main_v66 val_main_v65
    val_main_v64 val_main_v63 val_main_v62 val_main_v61 val_main_v60 val_main_v41 val_main_v37
  generalize val_main_v36 (F := Ideal) x mod norm w = u
  generalize val_main_v58 (F := Ideal) pos = cos
  generalize val_main_v59 (F := Ideal) pos = sin
  pointwise [rotate]
  have e (k k' : Fin 6144) (h : k.val = k'.val) : u (ix3 b s k) = u (ix3 b s k') := by rw [Fin.ext h]
  by_cases h : j.val % 256 < 128
  · rw [dif_pos h, dif_pos h]
    exact congrArg₂ (· - ·) rfl (congrArg (· * _) (e _ _ (by dsimp only; omega)))
  · rw [dif_neg h, dif_neg h]
    exact congrArg₂ (· + ·) (congrArg (· * _) (e _ _ (by dsimp only; omega))) (congrArg (· * _) (e _ _ (by dsimp only; omega)))

/-- The rotated and scaled keys. -/
theorem ref_keys (b : Fin 8) (s : Fin 4096) (j : Fin 1024) : val_main_v108 (F := Ideal) x pos mod norm w (ix3 b s j)
    = rotate (fun l => val_main_v36 (F := Ideal) x mod norm w (ix3 b s ⟨1024 + l.val, by omega⟩))
        (fun l => val_main_v58 (F := Ideal) pos (ix4 b s 0 l)) (fun l => val_main_v59 (F := Ideal) pos (ix4 b s 0 l)) j
      * Ideal.ofBits .f32 0x3D800000#32 := by
  rw [← key_cos pos, ← key_sin pos]
  unfold val_main_v108 val_main_v107 val_main_v105 val_main_v104 val_main_v103 val_main_v102 val_main_v101 val_main_v100
    val_main_v99 val_main_v98 val_main_v97 val_main_v96 val_main_v95 val_main_v94 val_main_v93 val_main_v74 val_main_v38
  generalize val_main_v36 (F := Ideal) x mod norm w = u
  generalize val_main_v91 (F := Ideal) pos = cos
  generalize val_main_v92 (F := Ideal) pos = sin
  pointwise [val_main_v106, val_main_cst_11, rotate]
  have e (k k' : Fin 6144) (h : k.val = k'.val) : u (ix3 b s k) = u (ix3 b s k') := by rw [Fin.ext h]
  by_cases h : j.val % 256 < 128
  · rw [dif_pos h, dif_pos h]
    exact congrArg (· * _) <| congrArg₂ (· - ·) rfl (congrArg (· * _) (e _ _ (by dsimp only; omega)))
  · rw [dif_neg h, dif_neg h]
    exact congrArg (· * _) <| congrArg₂ (· + ·) (congrArg (· * _) (e _ _ (by dsimp only; omega))) (congrArg (· * _) (e _ _ (by dsimp only; omega)))

/-- The gates. -/
theorem ref_gates (b : Fin 8) (s : Fin 4096) (l : Fin 2048) : val_main_v109 (F := Ideal) x mod norm w (ix3 b s l)
    = silu (val_main_v36 (F := Ideal) x mod norm w (ix3 b s ⟨4096 + l.val, by omega⟩)) := by
  unfold val_main_v109 val_main_call0_v5 val_main_call0_v3 val_main_call0_v1 val_main_call0_v0 val_main_v40
  generalize val_main_v36 (F := Ideal) x mod norm w = h
  pointwise [val_main_call0_v4, val_main_call0_v2, val_main_call0_cst, val_main_call0_cst_0, silu, Ideal.logistic]

end Cert.Network.RetIn

end
-- ==== Proof.Network.RetInResults.lean ====
/- The four arrays the reference prepares for the retention. -/
module

public import proofs.«01_k».proof.Proof.Network.RetInReference

@[expose] public section

set_option maxRecDepth 16384

noncomputable section

namespace Cert.Network.RetIn

open Idealize.ShloMosaic Cert.ReferenceRetInIdeal Cert.ReferenceRetInIdeal.Facts₀ Cert.ReferenceRetInIdeal.Facts
  Cert.ReferenceRetInIdeal.Read

variable (x : FVec Ideal S8x4096x1024 .f32) (pos : IVec S8x4096 32) (mod : FVec Ideal S4x8x9216 .f32)
  (norm : FVec Ideal S4x3x1024 .f32) (w : FVec Ideal S2x1024x6144 .f32)

/-- `n` columns of the product, for token `i`. -/
theorem ref_column {n : ℕ} (i : Fin 32768) (o : ℕ) (ho : o + n ≤ 6144) (l : Fin n) :
    val_main_v36 (F := Ideal) x mod norm w (ix3 ⟨i.val / 4096, by omega⟩ ⟨i.val % 4096, by omega⟩ ⟨o + l.val, by omega⟩)
      = column w (mixed mod norm x 0 i) o ho l := by
  rw [ref_wide]
  simp only [ref_adaln]
  rfl

/-- Its first 1024 columns. -/
theorem ref_first (i : Fin 32768) :
    (fun l : Fin 1024 => val_main_v36 (F := Ideal) x mod norm w (ix3 ⟨i.val / 4096, by omega⟩ ⟨i.val % 4096, by omega⟩ ⟨l.val, by omega⟩))
      = column w (mixed mod norm x 0 i) 0 (by omega) := by
  have e := ref_column x mod norm w i 0 (by omega : 0 + 1024 ≤ 6144)
  generalize val_main_v36 (F := Ideal) x mod norm w = u at e ⊢
  funext l
  rw [← e l]
  exact congrArg (fun k => u (ix3 _ _ k)) (Fin.ext (Nat.zero_add l.val).symm)

/-- The sequences one after the other, read at token `y 0`. -/
theorem flat_apply (u : FVec Ideal S8x4096x1024 .f32) (y : S32768x1024.Idx) :
    truncf .bf16 (shapeCast S32768x1024 u shapeCasts_S8x4096x1024_S32768x1024) bitsLt_bf16_f32 y
      = u (ix3 ⟨(y 0).val / 4096, by have := (y 0).isLt; simp at this; omega⟩ ⟨(y 0).val % 4096, by omega⟩ ⟨(y 1).val, (y 1).isLt⟩) := by
  rw [idx2_eq y]
  pointwise

/-- The reference's first result holds the rotated queries. -/
theorem reference_queries : val_main_v111 (F := Ideal) x pos mod norm w
    = tokens fun i => rotate (column w (mixed mod norm x 0 i) 0 (by omega))
        (fun l => Ideal.cos (angle pos i 0x43800000#32 l.val)) (fun l => Ideal.sin (angle pos i 0x43800000#32 l.val)) := by
  funext y
  have h : val_main_v111 (F := Ideal) x pos mod norm w y = val_main_v73 (F := Ideal) x pos mod norm w
      (ix3 ⟨(y 0).val / 4096, by have := (y 0).isLt; simp at this; omega⟩ ⟨(y 0).val % 4096, by omega⟩ ⟨(y 1).val, (y 1).isLt⟩) := by
    exact flat_apply _ y
  refine h.trans ((ref_queries x pos mod norm w _ _ _).trans ?_)
  exact congrFun (congr (congr (congrArg rotate (ref_first x mod norm w ⟨(y 0).val, (y 0).isLt⟩))
    (funext fun l => ref_cos pos ⟨(y 0).val, (y 0).isLt⟩ l)) (funext fun l => ref_sin pos ⟨(y 0).val, (y 0).isLt⟩ l)) _

/-- The second holds the rotated and scaled keys. -/
theorem reference_keys : val_main_v113 (F := Ideal) x pos mod norm w
    = tokens fun i j => rotate (column w (mixed mod norm x 0 i) 1024 (by omega))
        (fun l => Ideal.cos (angle pos i 0x43800000#32 l.val)) (fun l => Ideal.sin (angle pos i 0x43800000#32 l.val)) j
      * Ideal.ofBits .f32 0x3D800000#32 := by
  funext y
  have h : val_main_v113 (F := Ideal) x pos mod norm w y = val_main_v108 (F := Ideal) x pos mod norm w
      (ix3 ⟨(y 0).val / 4096, by have := (y 0).isLt; simp at this; omega⟩ ⟨(y 0).val % 4096, by omega⟩ ⟨(y 1).val, (y 1).isLt⟩) := by
    exact flat_apply _ y
  rw [h, ref_keys]
  unfold tokens
  refine congrArg (· * _) ?_
  congr 1
  · exact funext fun l => ref_column x mod norm w ⟨(y 0).val, (y 0).isLt⟩ 1024 (by omega) l
  · exact funext fun l => ref_cos pos ⟨(y 0).val, (y 0).isLt⟩ l
  · exact funext fun l => ref_sin pos ⟨(y 0).val, (y 0).isLt⟩ l

/-- The third holds the values. -/
theorem reference_values : val_main_v115 (F := Ideal) x mod norm w
    = tokens (n := 2048) fun i => column w (mixed mod norm x 0 i) 2048 (by omega) := by
  funext y
  have h : val_main_v115 (F := Ideal) x mod norm w y = val_main_v36 (F := Ideal) x mod norm w
      (ix3 ⟨(y 0).val / 4096, by have : (y 0).val < 32768 := (y 0).isLt; omega⟩ ⟨(y 0).val % 4096, by omega⟩
        ⟨2048 + (y 1).val, by have : (y 1).val < 2048 := (y 1).isLt; omega⟩) := by
    unfold val_main_v115 val_main_v114 val_main_v39
    generalize val_main_v36 (F := Ideal) x mod norm w = u
    rw [idx2_eq y]
    pointwise
  rw [h]
  exact ref_column (n := 2048) x mod norm w ⟨(y 0).val, (y 0).isLt⟩ 2048 (by omega) ⟨(y 1).val, (y 1).isLt⟩

/-- The fourth holds the gates. -/
theorem reference_gates : val_main_v117 (F := Ideal) x mod norm w
    = tokens (n := 2048) fun i j => silu (column w (mixed mod norm x 0 i) 4096 (by omega) j) := by
  funext y
  have h : val_main_v117 (F := Ideal) x mod norm w y = val_main_v109 (F := Ideal) x mod norm w
      (ix3 ⟨(y 0).val / 4096, by have : (y 0).val < 32768 := (y 0).isLt; omega⟩ ⟨(y 0).val % 4096, by omega⟩ ⟨(y 1).val, (y 1).isLt⟩) := by
    unfold val_main_v117 val_main_v116
    generalize val_main_v109 (F := Ideal) x mod norm w = u
    rw [idx2_eq y]
    pointwise
  rw [h, ref_gates]
  exact congrArg silu (ref_column (n := 2048) x mod norm w ⟨(y 0).val, (y 0).isLt⟩ 4096 (by omega) ⟨(y 1).val, (y 1).isLt⟩)

end Cert.Network.RetIn

end
-- ==== Proof.Network.Latent.lean ====
/- The latent attention's queries, keys and values: two narrow normed rows and their products, a part of each head rotated. -/
module

public import proofs.«01_k».proof.Proof.Network.Rotary

@[expose] public section

noncomputable section

namespace Cert.Network

open Idealize.ShloMosaic

/-- The root mean square norm of a row of `n` numbers, the encoding of `n` given, times the gain. -/
def normed {n : ℕ} (size : BitVec 32) (x g : Row n) : Row n := fun j =>
  x j * Ideal.rsqrt (Ideal.div (∑ i, x i * x i) (Ideal.ofBits .f32 size) + Ideal.ofBits .f32 0x358637BD#32) * g j

/-- The two halves of a row of 64 lanes, turned by the angles with these cosines and sines. -/
def turn (y : Row 64) (cos sin : Row 32) : Row 64 := fun l =>
  if h : l.val < 32 then y l * cos ⟨l.val, h⟩ - y ⟨l.val + 32, by omega⟩ * sin ⟨l.val, h⟩
  else y ⟨l.val - 32, by omega⟩ * sin ⟨l.val - 32, by omega⟩ + y l * cos ⟨l.val - 32, by omega⟩

/-- The lane by which a lane is turned: the one 32 further on, or back. -/
abbrev other (l : Fin 64) : Fin 64 := ⟨(l.val + 32) % 64, by omega⟩

/-- The cosine of a lane, and the sine with the sign it takes. -/
def cosine (cos : Row 32) : Row 64 := fun l => cos ⟨l.val % 32, by omega⟩
def signed (sin : Row 32) : Row 64 := fun l =>
  if h : l.val < 32 then 0 - sin ⟨l.val, h⟩ else sin ⟨l.val - 32, by omega⟩

/-- Turning is a sum: the lane times its cosine, and the other lane times the signed sine. -/
theorem turn_eq (y : Row 64) (cos sin : Row 32) (l : Fin 64) :
    y l * cosine cos l + y (other l) * signed sin l = turn y cos sin l := by
  unfold turn cosine signed
  by_cases h : l.val < 32
  · rw [dif_pos h, dif_pos h, zero_sub, mul_neg, ← sub_eq_add_neg]
    exact congrArg₂ (· - ·) (congrArg (y l * cos ·) (Fin.ext (by dsimp only; omega)))
      (congrArg (y · * _) (Fin.ext (by dsimp only; omega)))
  · rw [dif_neg h, dif_neg h, add_comm]
    exact congrArg₂ (· + ·) (congrArg (y · * _) (Fin.ext (by dsimp only; omega)))
      (congrArg (y l * cos ·) (Fin.ext (by dsimp only; omega)))

/-- The scale of the scores: one over the square root of 192 and the logarithm of 2. -/
def scale : EReal := (((Real.sqrt 192)⁻¹ * (Real.log 2)⁻¹ : ℝ) : EReal)

theorem scale_nonneg : 0 ≤ scale := by
  have : (0 : ℝ) ≤ (Real.sqrt 192)⁻¹ * (Real.log 2)⁻¹ :=
    mul_nonneg (inv_nonneg.mpr (Real.sqrt_nonneg _)) (inv_nonneg.mpr (Real.log_nonneg (by norm_num)))
  exact EReal.coe_nonneg.mpr this

/-- The same with the scale multiplied into the cosines and sines. -/
theorem turn_scaled (y : Row 64) (cos sin : Row 32) (l : Fin 64) :
    y l * (cosine cos l * scale) + y (other l) * (signed sin l * scale) = turn y cos sin l * scale := by
  rw [← turn_eq, ← mul_assoc, ← mul_assoc, EReal.right_distrib_of_nonneg_of_ne_top scale_nonneg (EReal.coe_ne_top _)]

/-- Head `a` of the queries from their latent row `q`: 128 lanes as they are and 64 turned, all times the scale. -/
def queryHead (q : Row 384) (w : Mat 384 1536) (cos sin : Row 32) (a : Fin 8) : Row 192 := fun l =>
  (if h : l.val < 128 then times q w ⟨a.val * 192 + l.val, by omega⟩
    else turn (fun b => times q w ⟨a.val * 192 + 128 + b.val, by omega⟩) cos sin ⟨l.val - 128, by omega⟩) * scale

/-- Head `a` of the keys from their latent row `k`: 128 lanes of the product, and the 64 lanes `y` turned, the same for all heads. -/
def keyHead (k : Row 256) (w : Mat 256 2048) (y : Row 64) (cos sin : Row 32) (a : Fin 8) : Row 192 := fun l =>
  if h : l.val < 128 then times k w ⟨a.val * 256 + l.val, by omega⟩ else turn y cos sin ⟨l.val - 128, by omega⟩

/-- The 8 heads of the values, side by side. -/
def valueRow (k : Row 256) (w : Mat 256 2048) : Row 1024 := fun j =>
  times k w ⟨j.val / 128 * 256 + 128 + j.val % 128, by omega⟩

/-- The parts of the row of 704 lanes that the queries and the keys begin with. -/
def latentQuery (d : Row 704) (g : Row 384) : Row 384 := normed 0x43C00000#32 (fun k => d ⟨k.val, by omega⟩) g
def latentKey (d : Row 704) (g : Row 256) : Row 256 := normed 0x43800000#32 (fun k => d ⟨384 + k.val, by omega⟩) g

/-- 8 heads of 32768 tokens, with the rows `f`, stored as bfloat16. -/
def byHead (f : Fin 8 → Fin 32768 → Row 192) : FVec Ideal ⟨3, ![8, 32768, 192]⟩ .bf16 := fun i =>
  f ⟨(i 0).val, (i 0).isLt⟩ ⟨(i 1).val, (i 1).isLt⟩ ⟨(i 2).val, (i 2).isLt⟩

/-- An index of a stack of matrices is its three coordinates. -/
theorem idx3_eq {a b c : ℕ} (i : (⟨3, ![a, b, c]⟩ : Shape).Idx) :
    i = ix3 ⟨(i 0).val, (i 0).isLt⟩ ⟨(i 1).val, (i 1).isLt⟩ ⟨(i 2).val, (i 2).isLt⟩ := by
  funext k
  match k with
  | ⟨0, _⟩ => rfl
  | ⟨1, _⟩ => rfl
  | ⟨2, _⟩ => rfl

/-- A block of 1024 tokens of it: block `t` holds the tokens from `1024 t` on. -/
theorem eq_byHead (t : ℕ) (y : (⟨3, ![8, 1024, 192]⟩ : Shape).Idx) (z : (⟨3, ![8, 32768, 192]⟩ : Shape).Idx) (ht : t < 32)
    (h0 : (z 0).val = (y 0).val) (h1 : (z 1).val = t * 1024 + (y 1).val) (h2 : (z 2).val = (y 2).val)
    (w : FVec Ideal ⟨3, ![8, 1024, 192]⟩ .bf16) (f : Fin 8 → Fin 32768 → Row 192)
    (h : ∀ (a : Fin 8) (r : Fin 1024) (l : Fin 192), w (ix3 a r l) = f a ⟨t * 1024 + r.val, by omega⟩ l) :
    w y = byHead f z := by
  refine (congrArg w (idx3_eq y)).trans ((h _ _ _).trans ?_)
  exact congr (congrArg₂ f (Fin.ext h0.symm) (Fin.ext h1.symm)) (Fin.ext h2.symm)

/-- The first 128 lanes of head `a` of a block, stored on their own, are a piece of it. -/
theorem plain_tile (f : Fin 8 → Fin 1024 → Row 192) (a' : ℕ) (ha : a' < 8) (w : FVec Ideal ⟨3, ![1, 1024, 128]⟩ .bf16)
    (a : Fin 8) (r : Fin 1024) (l : Fin 192)
    (h : ∀ (r : Fin 1024) (l : Fin 128), w (ix3 0 r l) = f ⟨a', ha⟩ r ⟨l.val, by omega⟩) :
    View.TileAt (S := ⟨3, ![8, 1024, 192]⟩) (e := .bf16) (Val := Elt Ideal) (ix3 a r l) ![a', 0, 0] ![1, 1024, 128] w (f a r l) := by
  intro x hx
  have b0 : (x 0).val < 1 := (x 0).isLt
  have e0 : a.val = a' + (x 0).val := hx 0
  have e1 : r.val = 0 + (x 1).val := hx 1
  have e2 : l.val = 0 + (x 2).val := hx 2
  have e : x = ix3 0 ⟨(x 1).val, (x 1).isLt⟩ ⟨(x 2).val, (x 2).isLt⟩ :=
    (idx3_eq x).trans (congrArg (fun k => ix3 k _ _) (Fin.ext (show (x 0).val = 0 by omega)))
  refine (congrArg w e).trans ((h _ _).trans ?_)
  exact congr (congrArg₂ f (Fin.ext (by dsimp only; omega)) (Fin.ext (by dsimp only; omega))) (Fin.ext (by dsimp only; omega))

/-- Its last 64 lanes likewise. -/
theorem turned_tile (f : Fin 8 → Fin 1024 → Row 192) (a' : ℕ) (ha : a' < 8) (w : FVec Ideal ⟨3, ![1, 1024, 64]⟩ .bf16)
    (a : Fin 8) (r : Fin 1024) (l : Fin 192)
    (h : ∀ (r : Fin 1024) (l : Fin 64), w (ix3 0 r l) = f ⟨a', ha⟩ r ⟨128 + l.val, by omega⟩) :
    View.TileAt (S := ⟨3, ![8, 1024, 192]⟩) (e := .bf16) (Val := Elt Ideal) (ix3 a r l) ![a', 0, 128] ![1, 1024, 64] w (f a r l) := by
  intro x hx
  have b0 : (x 0).val < 1 := (x 0).isLt
  have e0 : a.val = a' + (x 0).val := hx 0
  have e1 : r.val = 0 + (x 1).val := hx 1
  have e2 : l.val = 128 + (x 2).val := hx 2
  have e : x = ix3 0 ⟨(x 1).val, (x 1).isLt⟩ ⟨(x 2).val, (x 2).isLt⟩ :=
    (idx3_eq x).trans (congrArg (fun k => ix3 k _ _) (Fin.ext (show (x 0).val = 0 by omega)))
  refine (congrArg w e).trans ((h _ _).trans ?_)
  exact congr (congrArg₂ f (Fin.ext (by dsimp only; omega)) (Fin.ext (by dsimp only; omega))) (Fin.ext (by dsimp only; omega))

end Cert.Network

end
-- ==== Proof.Network.MlaIn.lean ====
/- The latent attention's input call: what one point of its grid computes. -/
module

public import proofs.«01_k».proof.Proof.Network.Latent
public import proofs.«01_k».proof.Proof.Gen.MlaInIdeal.Frame

@[expose] public section

set_option maxRecDepth 16384

noncomputable section

namespace Cert.Network.MlaIn

open Idealize.ShloMosaic Idealize.ShloMosaic.Pipeline Cert.MlaInIdeal Cert.MlaInIdeal.Facts₀ Cert.MlaInIdeal.Facts
  Cert.MlaInIdeal.Gen

/-- The named constant is the scale. -/
theorem named_scale : Named.named (F := Ideal) κ "score_scale" (φ := .f32) 0x3DD53B95#32 = scale :=
  IdealRules.named_const.ideal_named_scalar _ _ _ _ rfl

/-- Eight copies of a matrix side by side. -/
theorem copies_apply (u : FVec Ideal S1024x64 .f32) (r : Fin 1024) (j : Fin 512) :
    concatenate S1024x512 1 [⟨S1024x64, u⟩, ⟨S1024x64, u⟩, ⟨S1024x64, u⟩, ⟨S1024x64, u⟩, ⟨S1024x64, u⟩, ⟨S1024x64, u⟩, ⟨S1024x64, u⟩, ⟨S1024x64, u⟩]
      Gen.concatenates_S1024x64_S1024x64_S1024x64_S1024x64_S1024x64_S1024x64_S1024x64_S1024x64_S1024x512_d1 (ix2 r j)
      = u (ix2 r ⟨j.val % 64, by omega⟩) := by
  pointwise
  split_ifs <;> exact congrArg (fun k => u (ix2 r k)) (Fin.ext (by dsimp only; omega))

section Point

variable (x0 : Vec Ideal S1024x1024 .f32) (x1 : Vec Ideal S1x1x1x3x1024 .f32) (x2 : Vec Ideal S1x1x1x1024 .f32)
  (x3 : Vec Ideal S1x1024x768 .bf16) (u : FVec Ideal S1024x768 .f32)

/-- Row `r` of the fetched block, normed and modulated, and its product with the first matrix. -/
def hidden (r : Fin 1024) : Row 1024 :=
  adaln (fun i => x0 (ix2 r i)) (fun i => x2 (ix4 0 0 0 i)) (fun i => x1 (ix5 0 0 0 0 i)) (fun i => x1 (ix5 0 0 0 1 i))

theorem down_apply (r : Fin 1024) (j : Fin 768) : k0_pay2 x1 x0 x2 x3 (ix2 r j)
    = times (hidden x0 x1 x2 r) (fun a b => x3 (ix3 0 a b)) j := by
  pointwise [k0_pay2, hidden, times, adaln, rms]

/-- The two normed rows. -/
theorem query_latent (g : Vec Ideal S1x1x384 .f32) (r : Fin 1024) (k : Fin 384) : k0_pay6 u g (ix2 r k)
    = latentQuery (fun l => u (ix2 r ⟨l.val, by omega⟩)) (fun k => g (ix3 0 0 k)) k := by
  pointwise [k0_pay6, latentQuery, normed]

theorem key_latent (g : Vec Ideal S1x1x256 .f32) (r : Fin 1024) (k : Fin 256) : k0_pay11 u g (ix2 r k)
    = latentKey (fun l => u (ix2 r ⟨l.val, by omega⟩)) (fun k => g (ix3 0 0 k)) k := by
  pointwise [k0_pay11, latentKey, normed]

/-- The queries' lanes that are not turned. -/
theorem query_plain (g : Vec Ideal S1x1x384 .f32) (w : Vec Ideal S1x384x1024 .bf16) (r j : Fin 1024) :
    k0_pay7 u g w (ix2 r j) = times (fun k => k0_pay6 u g (ix2 r k)) (fun k j => w (ix3 0 k j)) j * scale := by
  unfold k0_pay7
  generalize k0_pay6 u g = q
  pointwise [times, named_scale]

/-- The cosines and the signed sines, and their copies times the scale. -/
theorem cosine_apply (c : Vec Ideal S1024x32 .f32) (r : Fin 1024) (l : Fin 64) : k0_pay3 c (ix2 r l) = cosine (fun l => c (ix2 r l)) l := by
  pointwise [k0_pay3, cosine]
  split_ifs <;> exact congrArg (fun k => c (ix2 r k)) (Fin.ext (by dsimp only; omega))

theorem signed_apply (s : Vec Ideal S1024x32 .f32) (r : Fin 1024) (l : Fin 64) :
    k0_pay5 (k0_pay4 s) (Scalar.ofBits .f32 0x00000000#32) s (ix2 r l) = signed (fun l => s (ix2 r l)) l := by
  pointwise [k0_pay5, k0_pay4, signed]

theorem signed_copies (s : Vec Ideal S1024x32 .f32) (r : Fin 1024) (j : Fin 512) :
    k0_pay8 (k0_pay4 s) (Scalar.ofBits .f32 0x00000000#32) s (ix2 r j) = signed (fun l => s (ix2 r l)) ⟨j.val % 64, by omega⟩ * scale := by
  unfold k0_pay8
  refine (copies_apply _ r j).trans ?_
  rw [← signed_apply]
  generalize k0_pay5 (F := Ideal) _ _ _ = v
  pointwise [named_scale]

/-- The queries' lanes that are turned: the lane's product with its cosine, then the other lane's with its signed sine. -/
theorem query_cosine (g : Vec Ideal S1x1x384 .f32) (c : Vec Ideal S1024x32 .f32) (w : Vec Ideal S1x384x512 .bf16) (r : Fin 1024)
    (j : Fin 512) : k0_pay9 u (k0_pay3 c) g w (ix2 r j)
      = times (fun k => k0_pay6 u g (ix2 r k)) (fun k j => w (ix3 0 k j)) j * (cosine (fun l => c (ix2 r l)) ⟨j.val % 64, by omega⟩ * scale) := by
  unfold k0_pay9
  generalize k0_pay6 u g = q
  refine (mulf_apply _ _ _).trans (congrArg₂ (· * ·) ?_ ((copies_apply _ r j).trans ?_))
  · pointwise [times]
  · rw [← cosine_apply]
    generalize k0_pay3 c = v
    pointwise [named_scale]

theorem query_turned (q : FVec Ideal S1024x384 .bf16) (v v' : FVec Ideal S1024x512 .f32) (w : Vec Ideal S1x384x512 .bf16) (r : Fin 1024)
    (j : Fin 512) : k0_pay10 q v v' w (ix2 r j)
      = v' (ix2 r j) + times (fun k => q (ix2 r k)) (fun k j => w (ix3 0 k j)) j * v (ix2 r j) := by
  pointwise [k0_pay10, times]

/-- The keys' lanes that are not turned, and the values. -/
theorem key_plain (g : Vec Ideal S1x1x256 .f32) (w : Vec Ideal S1x256x1024 .bf16) (r j : Fin 1024) :
    k0_pay12 u g w (ix2 r j) = times (fun k => k0_pay11 u g (ix2 r k)) (fun k j => w (ix3 0 k j)) j := by
  unfold k0_pay12
  generalize k0_pay11 u g = q
  pointwise [times]

theorem values_plain (g : Vec Ideal S1x1x256 .f32) (w : Vec Ideal S1x256x1024 .bf16) (r j : Fin 1024) :
    k0_pay13 u g w (ix2 r j) = times (fun k => k0_pay11 u g (ix2 r k)) (fun k j => w (ix3 0 k j)) j := by
  unfold k0_pay13
  generalize k0_pay11 u g = q
  pointwise [times]

/-- The keys' turned lanes. -/
theorem key_turned (c s : FVec Ideal S1024x64 .f32) (r : Fin 1024) (l : Fin 64) : k0_pay14 u c s (ix2 r l)
    = u (ix2 r ⟨640 + l.val, by omega⟩) * c (ix2 r l) + u (ix2 r ⟨704 + l.val, by omega⟩) * s (ix2 r l) := by
  pointwise [k0_pay14]

end Point

end Cert.Network.MlaIn

end
-- ==== Proof.Network.MlaInHeads.lean ====
/- The latent attention's input call: the three blocks a point of its grid stores. -/
module

public import proofs.«01_k».proof.Proof.Network.MlaIn

@[expose] public section

set_option maxRecDepth 16384

noncomputable section

namespace Cert.Network.MlaIn

open Idealize.ShloMosaic Idealize.ShloMosaic.Pipeline Cert.MlaInIdeal Cert.MlaInIdeal.Facts₀ Cert.MlaInIdeal.Facts
  Cert.MlaInIdeal.Gen

section Parts

variable (u : FVec Ideal S1024x768 .f32) (g : Vec Ideal S1x1x384 .f32) (k : Vec Ideal S1x1x256 .f32)
  (cos sin : Vec Ideal S1024x32 .f32) (W : Mat 384 1536) (V : Mat 256 2048)

/-- The latent rows of token `r`. -/
abbrev queryRow (r : Fin 1024) : Row 384 := latentQuery (fun l => u (ix2 r ⟨l.val, by omega⟩)) (fun k => g (ix3 0 0 k))
abbrev keyRow (r : Fin 1024) : Row 256 := latentKey (fun l => u (ix2 r ⟨l.val, by omega⟩)) (fun j => k (ix3 0 0 j))

/-- The heads of the queries and of the keys, and the values, of token `r`. -/
abbrev queryOf (a : Fin 8) (r : Fin 1024) : Row 192 := queryHead (queryRow u g r) W (fun l => cos (ix2 r l)) (fun l => sin (ix2 r l)) a
abbrev keyOf (a : Fin 8) (r : Fin 1024) : Row 192 := keyHead (keyRow u k r) V (fun l => u (ix2 r ⟨640 + l.val, by omega⟩))
  (fun l => cos (ix2 r l)) (fun l => sin (ix2 r l)) a

/-- Lane `l` of the first 128 of head `a` of the queries. -/
theorem query_first (w : Vec Ideal S1x384x1024 .bf16)
    (hw : ∀ k (a : Fin 8) (l : Fin 128), w (ix3 0 k ⟨a.val * 128 + l.val, by omega⟩) = W k ⟨a.val * 192 + l.val, by omega⟩)
    (a : Fin 8) (r : Fin 1024) (l : Fin 128) :
    k0_pay7 u g w (ix2 r ⟨a.val * 128 + l.val, by omega⟩) = queryOf u g cos sin W a r ⟨l.val, by omega⟩ := by
  rw [query_plain]
  unfold queryOf queryHead
  rw [dif_pos l.isLt]
  simp only [query_latent, times, hw]

/-- Lane `l` of its last 64. -/
theorem query_last (w w' : Vec Ideal S1x384x512 .bf16)
    (hw : ∀ k (a : Fin 8) (l : Fin 64), w (ix3 0 k ⟨a.val * 64 + l.val, by omega⟩) = W k ⟨a.val * 192 + 128 + l.val, by omega⟩)
    (hw' : ∀ k (a : Fin 8) (l : Fin 64), w' (ix3 0 k ⟨a.val * 64 + l.val, by omega⟩) = W k ⟨a.val * 192 + 128 + (other l).val, by omega⟩)
    (a : Fin 8) (r : Fin 1024) (l : Fin 64) :
    k0_pay10 (k0_pay6 u g) (k0_pay8 (k0_pay4 sin) (Scalar.ofBits .f32 0x00000000#32) sin) (k0_pay9 u (k0_pay3 cos) g w) w'
      (ix2 r ⟨a.val * 64 + l.val, by omega⟩) = queryOf u g cos sin W a r ⟨128 + l.val, by omega⟩ := by
  rw [query_turned, signed_copies, query_cosine]
  unfold queryOf queryHead
  rw [dif_neg (by dsimp only; omega)]
  have e : (⟨(a.val * 64 + l.val) % 64, by omega⟩ : Fin 64) = l := Fin.ext (by dsimp only; omega)
  have e' : (⟨128 + l.val - 128, by omega⟩ : Fin 64) = l := Fin.ext (by dsimp only; omega)
  have h := turn_scaled (fun b => times (queryRow u g r) W ⟨a.val * 192 + 128 + b.val, by omega⟩) (fun l => cos (ix2 r l)) (fun l => sin (ix2 r l)) l
  rw [e, e', ← h]
  simp only [query_latent, times, hw, hw']

/-- Lane `l` of the first 128 of head `a` of the keys. -/
theorem key_first (w : Vec Ideal S1x256x1024 .bf16)
    (hw : ∀ k (a : Fin 8) (l : Fin 128), w (ix3 0 k ⟨a.val * 128 + l.val, by omega⟩) = V k ⟨a.val * 256 + l.val, by omega⟩)
    (a : Fin 8) (r : Fin 1024) (l : Fin 128) :
    k0_pay12 u k w (ix2 r ⟨a.val * 128 + l.val, by omega⟩) = keyOf u k cos sin V a r ⟨l.val, by omega⟩ := by
  rw [key_plain]
  unfold keyOf keyHead
  rw [dif_pos l.isLt]
  simp only [key_latent, times, hw]

/-- Lane `l` of its last 64, the same for every head. -/
theorem key_last (hu : ∀ r (l : Fin 64), u (ix2 r ⟨704 + l.val, by omega⟩) = u (ix2 r ⟨640 + (other l).val, by omega⟩))
    (a : Fin 8) (r : Fin 1024) (l : Fin 64) :
    k0_pay14 u (k0_pay3 cos) (k0_pay5 (k0_pay4 sin) (Scalar.ofBits .f32 0x00000000#32) sin) (ix2 r l)
      = keyOf u k cos sin V a r ⟨128 + l.val, by omega⟩ := by
  rw [key_turned, signed_apply, cosine_apply, hu]
  unfold keyOf keyHead
  rw [dif_neg (by dsimp only; omega)]
  have e' : (⟨128 + l.val - 128, by omega⟩ : Fin 64) = l := Fin.ext (by dsimp only; omega)
  have h := turn_eq (fun b => u (ix2 r ⟨640 + b.val, by omega⟩)) (fun l => cos (ix2 r l)) (fun l => sin (ix2 r l)) l
  rw [e', ← h]

/-- Lane `j` of the values. -/
theorem value_lane (w : Vec Ideal S1x256x1024 .bf16)
    (hw : ∀ k (j : Fin 1024), w (ix3 0 k j) = V k ⟨j.val / 128 * 256 + 128 + j.val % 128, by omega⟩) (r j : Fin 1024) :
    k0_pay13 u k w (ix2 r j) = valueRow (keyRow u k r) V j := by
  rw [values_plain]
  unfold valueRow
  simp only [key_latent, times, hw]

end Parts

section Run

variable (c : Dev nD) (arg1 : Memref sig .tc .vmem S1024x1024 .f32) (h1 : arg1.IsWhole)
  (arg2 : Memref sig .tc .vmem S1x1x1x3x1024 .f32) (h2 : arg2.IsWhole) (arg3 : Memref sig .tc .vmem S1x1x1x1024 .f32) (h3 : arg3.IsWhole)
  (arg4 : Memref sig .tc .vmem S1x1024x768 .bf16) (h4 : arg4.IsWhole) (arg5 : Memref sig .tc .vmem S1x1x384 .f32) (h5 : arg5.IsWhole)
  (arg6 : Memref sig .tc .vmem S1x1x256 .f32) (h6 : arg6.IsWhole) (arg7 : Memref sig .tc .vmem S1x384x2048 .bf16) (h7 : arg7.IsWhole)
  (arg8 : Memref sig .tc .vmem S1x256x2048 .bf16) (h8 : arg8.IsWhole) (arg9 : Memref sig .tc .vmem S1024x32 .f32) (h9 : arg9.IsWhole)
  (arg10 : Memref sig .tc .vmem S1024x32 .f32) (h10 : arg10.IsWhole)
  (x0 : Vec Ideal S1024x1024 .f32) (x1 : Vec Ideal S1x1x1x3x1024 .f32) (x2 : Vec Ideal S1x1x1x1024 .f32)
  (x3 : Vec Ideal S1x1024x768 .bf16) (x4 : Vec Ideal S1x1x384 .f32) (x5 : Vec Ideal S1x1x256 .f32) (x6 : Vec Ideal S1x384x2048 .bf16)
  (x7 : Vec Ideal S1x256x2048 .bf16) (x8 x9 : Vec Ideal S1024x32 .f32)

/-- What a point computes once and uses in several places, as a function of the fetched blocks. -/
theorem run_down : kernelRun0_A.sl.r c arg1 h1 arg2 h2 arg3 h3 arg4 h4 x0 x1 x2 x3 = k0_pay2 x1 x0 x2 x3 := by
  unfold kernelRun0_A.sl.r
  simp (disch := decide) only [View.readAt_eq_ld, Memref.IsWhole.read_unread, View.ld_unit_lit']

theorem run_cosine : kernelRun0_A.sl.r_1 c arg9 h9 x8 = k0_pay3 x8 := by
  unfold kernelRun0_A.sl.r_1
  simp (disch := decide) only [View.readAt_eq_ld, Memref.IsWhole.read_unread, View.ld_unit_lit']

theorem run_signed : kernelRun0_A.sl.r_3 c arg10 h10 x9 = k0_pay5 (k0_pay4 x9) (Scalar.ofBits .f32 0x00000000#32) x9 := by
  unfold kernelRun0_A.sl.r_3 kernelRun0_A.sl.r_2 kernelRun0_A.sl.cst_21
  simp (disch := decide) only [View.readAt_eq_ld, Memref.IsWhole.read_unread, View.ld_unit_lit']

/-- The queries' lanes that are not turned, and those that are. -/
theorem run_query_first (W : Mat 384 1536)
    (hw : ∀ k (a : Fin 8) (l : Fin 128), x6 (ix3 0 k ⟨a.val * 128 + l.val, by omega⟩) = W k ⟨a.val * 192 + l.val, by omega⟩)
    (a : Fin 8) (r : Fin 1024) (l : Fin 128) :
    kernelRun0_A.sl.r_5 c arg1 h1 arg2 h2 arg3 h3 arg4 h4 arg5 h5 arg7 h7 x0 x1 x2 x3 x4 x6 (ix2 r ⟨a.val * 128 + l.val, by omega⟩)
      = queryOf (k0_pay2 x1 x0 x2 x3) x4 x8 x9 W a r ⟨l.val, by omega⟩ := by
  unfold kernelRun0_A.sl.r_5
  rw [run_down]
  simp (disch := decide) only [View.readAt_eq_ld, Memref.IsWhole.read_unread, View.ld_unit_lit']
  refine query_first _ _ x8 x9 W _ (fun k a l => ?_) a r l
  rw [← hw]
  pointwise

theorem run_query_last (W : Mat 384 1536)
    (hw : ∀ k (a : Fin 8) (l : Fin 64), x6 (ix3 0 k ⟨1024 + (a.val * 64 + l.val), by omega⟩) = W k ⟨a.val * 192 + 128 + l.val, by omega⟩)
    (hw' : ∀ k (a : Fin 8) (l : Fin 64), x6 (ix3 0 k ⟨1536 + (a.val * 64 + l.val), by omega⟩)
      = W k ⟨a.val * 192 + 128 + (other l).val, by omega⟩) (a : Fin 8) (r : Fin 1024) (l : Fin 64) :
    kernelRun0_A.sl.r_9 c arg1 h1 arg2 h2 arg3 h3 arg4 h4 arg5 h5 arg7 h7 arg9 h9 arg10 h10 x0 x1 x2 x3 x4 x6 x8 x9
      (ix2 r ⟨a.val * 64 + l.val, by omega⟩) = queryOf (k0_pay2 x1 x0 x2 x3) x4 x8 x9 W a r ⟨128 + l.val, by omega⟩ := by
  unfold kernelRun0_A.sl.r_9 kernelRun0_A.sl.r_8 kernelRun0_A.sl.r_7 kernelRun0_A.sl.r_6 kernelRun0_A.sl.r_4 kernelRun0_A.sl.r_2
    kernelRun0_A.sl.cst_21
  rw [run_down, run_cosine]
  simp (disch := decide) only [View.readAt_eq_ld, Memref.IsWhole.read_unread, View.ld_unit_lit']
  refine query_last _ _ x8 x9 W _ _ (fun k a l => ?_) (fun k a l => ?_) a r l
  · rw [← hw]
    pointwise
  · rw [← hw']
    pointwise

/-- The same of the keys. -/
theorem run_key_first (V : Mat 256 2048)
    (hw : ∀ k (a : Fin 8) (l : Fin 128), x7 (ix3 0 k ⟨a.val * 128 + l.val, by omega⟩) = V k ⟨a.val * 256 + l.val, by omega⟩)
    (a : Fin 8) (r : Fin 1024) (l : Fin 128) :
    kernelRun0_A.sl.r_10 c arg1 h1 arg2 h2 arg3 h3 arg4 h4 arg6 h6 arg8 h8 x0 x1 x2 x3 x5 x7 (ix2 r ⟨a.val * 128 + l.val, by omega⟩)
      = keyOf (k0_pay2 x1 x0 x2 x3) x5 x8 x9 V a r ⟨l.val, by omega⟩ := by
  unfold kernelRun0_A.sl.r_10
  rw [run_down]
  simp (disch := decide) only [View.readAt_eq_ld, Memref.IsWhole.read_unread, View.ld_unit_lit']
  refine key_first _ _ x8 x9 V _ (fun k a l => ?_) a r l
  rw [← hw]
  pointwise

theorem run_key_last (V : Mat 256 2048)
    (hu : ∀ k (l : Fin 64), x3 (ix3 0 k ⟨704 + l.val, by omega⟩) = x3 (ix3 0 k ⟨640 + (other l).val, by omega⟩))
    (a : Fin 8) (r : Fin 1024) (l : Fin 64) :
    kernelRun0_A.sl.r_11 c arg1 h1 arg2 h2 arg3 h3 arg4 h4 arg9 h9 arg10 h10 x0 x1 x2 x3 x8 x9 (ix2 r l)
      = keyOf (k0_pay2 x1 x0 x2 x3) x5 x8 x9 V a r ⟨128 + l.val, by omega⟩ := by
  unfold kernelRun0_A.sl.r_11
  rw [run_down, run_cosine, run_signed]
  refine key_last _ x5 x8 x9 V (fun r l => ?_) a r l
  rw [down_apply, down_apply]
  simp only [times, hu]

end Run

variable (m : (ℓ : Loc nD τ sig) → Buf (Elt Ideal) ℓ) (c : Dev nD)

/-- The down projection's block at point `t`. -/
abbrev down (t : Fin cfg0.N) : FVec Ideal S1024x768 .f32 := k0_pay2 (iblk m c 1 t) (iblk m c 0 t) (iblk m c 2 t) (iblk m c 3 t)

/-- The stored queries. -/
theorem queries_block (t : Fin cfg0.N) (W : Mat 384 1536)
    (hw : ∀ k (a : Fin 8) (l : Fin 128), iblk m c 6 t (ix3 0 k ⟨a.val * 128 + l.val, by omega⟩) = W k ⟨a.val * 192 + l.val, by omega⟩)
    (hw1 : ∀ k (a : Fin 8) (l : Fin 64), iblk m c 6 t (ix3 0 k ⟨1024 + (a.val * 64 + l.val), by omega⟩)
      = W k ⟨a.val * 192 + 128 + l.val, by omega⟩)
    (hw2 : ∀ k (a : Fin 8) (l : Fin 64), iblk m c 6 t (ix3 0 k ⟨1536 + (a.val * 64 + l.val), by omega⟩)
      = W k ⟨a.val * 192 + 128 + (other l).val, by omega⟩) (a : Fin 8) (r : Fin 1024) (l : Fin 192) :
    (outsAt0 m c t).1 (ix3 a r l) = queryOf (down m c t) (iblk m c 4 t) (iblk m c 8 t) (iblk m c 9 t) W a r l := by
  have first := run_query_first c (ms0_0 t) (hs0_0 t) (ms0_1 t) (hs0_1 t) (ms0_2 t) (hs0_2 t) (ms0_3 t) (hs0_3 t) (ms0_4 t) (hs0_4 t)
    (ms0_6 t) (hs0_6 t) (iblk m c 0 t) (iblk m c 1 t) (iblk m c 2 t) (iblk m c 3 t) (iblk m c 4 t) (iblk m c 6 t) (iblk m c 8 t) (iblk m c 9 t) W hw
  have last := run_query_last c (ms0_0 t) (hs0_0 t) (ms0_1 t) (hs0_1 t) (ms0_2 t) (hs0_2 t) (ms0_3 t) (hs0_3 t) (ms0_4 t) (hs0_4 t)
    (ms0_6 t) (hs0_6 t) (ms0_8 t) (hs0_8 t) (ms0_9 t) (hs0_9 t) (iblk m c 0 t) (iblk m c 1 t) (iblk m c 2 t) (iblk m c 3 t) (iblk m c 4 t)
    (iblk m c 6 t) (iblk m c 8 t) (iblk m c 9 t) W hw1 hw2
  change ∀ (a : Fin 8) (r : Fin 1024) (l : Fin 128), _ = queryOf (down m c t) (iblk m c 4 t) (iblk m c 8 t) (iblk m c 9 t) W a r _ at first
  change ∀ (a : Fin 8) (r : Fin 1024) (l : Fin 64), _ = queryOf (down m c t) (iblk m c 4 t) (iblk m c 8 t) (iblk m c 9 t) W a r _ at last
  generalize queryOf (down m c t) (iblk m c 4 t) (iblk m c 8 t) (iblk m c 9 t) W = f at first last ⊢
  unfold outsAt0
  dsimp only
  unfold out0_A_10
  refine (View.read_writes_apply_eq_canon _ _ _ _ (by apply cover0_A_10)).trans
    (View.canon_eq_of_allAt _ _ _ (by apply cover0_A_10) ?_)
  unfold kernelRun0_A
  dsimp only
  unfold kernelRun0_A.sl.r_14 kernelRun0_A.sl.r_13 kernelRun0_A.sl.r_12
  generalize kernelRun0_A.sl.r_5 (F := Ideal) _ _ _ _ _ _ _ _ _ _ _ _ _ _ _ _ _ _ _ = n at first ⊢
  generalize kernelRun0_A.sl.r_9 (F := Ideal) _ _ _ _ _ _ _ _ _ _ _ _ _ _ _ _ _ _ _ _ _ _ _ _ _ = p at last ⊢
  exact View.allAt_cons_unit _ _ _ _ _ (turned_tile f 7 (by omega) _ a r l fun r l => (by pointwise [k0_pay47] : _ = _).trans (last 7 r l))
    (View.allAt_cons_unit _ _ _ _ _ (plain_tile f 7 (by omega) _ a r l fun r l => (by pointwise [k0_pay46] : _ = _).trans (first 7 r l))
    (View.allAt_cons_unit _ _ _ _ _ (turned_tile f 6 (by omega) _ a r l fun r l => (by pointwise [k0_pay43] : _ = _).trans (last 6 r l))
    (View.allAt_cons_unit _ _ _ _ _ (plain_tile f 6 (by omega) _ a r l fun r l => (by pointwise [k0_pay42] : _ = _).trans (first 6 r l))
    (View.allAt_cons_unit _ _ _ _ _ (turned_tile f 5 (by omega) _ a r l fun r l => (by pointwise [k0_pay39] : _ = _).trans (last 5 r l))
    (View.allAt_cons_unit _ _ _ _ _ (plain_tile f 5 (by omega) _ a r l fun r l => (by pointwise [k0_pay38] : _ = _).trans (first 5 r l))
    (View.allAt_cons_unit _ _ _ _ _ (turned_tile f 4 (by omega) _ a r l fun r l => (by pointwise [k0_pay35] : _ = _).trans (last 4 r l))
    (View.allAt_cons_unit _ _ _ _ _ (plain_tile f 4 (by omega) _ a r l fun r l => (by pointwise [k0_pay34, k0_pay33] : _ = _).trans (first 4 r l))
    (View.allAt_cons_unit _ _ _ _ _ (turned_tile f 3 (by omega) _ a r l fun r l => (by pointwise [k0_pay30] : _ = _).trans (last 3 r l))
    (View.allAt_cons_unit _ _ _ _ _ (plain_tile f 3 (by omega) _ a r l fun r l => (by pointwise [k0_pay29] : _ = _).trans (first 3 r l))
    (View.allAt_cons_unit _ _ _ _ _ (turned_tile f 2 (by omega) _ a r l fun r l => (by pointwise [k0_pay26] : _ = _).trans (last 2 r l))
    (View.allAt_cons_unit _ _ _ _ _ (plain_tile f 2 (by omega) _ a r l fun r l => (by pointwise [k0_pay25, k0_pay24] : _ = _).trans (first 2 r l))
    (View.allAt_cons_unit _ _ _ _ _ (turned_tile f 1 (by omega) _ a r l fun r l => (by pointwise [k0_pay21] : _ = _).trans (last 1 r l))
    (View.allAt_cons_unit _ _ _ _ _ (plain_tile f 1 (by omega) _ a r l fun r l => (by pointwise [k0_pay20] : _ = _).trans (first 1 r l))
    (View.allAt_cons_unit _ _ _ _ _ (turned_tile f 0 (by omega) _ a r l fun r l => (by pointwise [k0_pay17] : _ = _).trans (last 0 r l))
    (View.allAt_cons_unit _ _ _ _ _ (plain_tile f 0 (by omega) _ a r l fun r l => (by pointwise [k0_pay16, k0_pay15] : _ = _).trans (first 0 r l))
    (View.allAt_nil _ _))))))))))))))))

/-- The stored keys. -/
theorem keys_block (t : Fin cfg0.N) (V : Mat 256 2048)
    (hw : ∀ k (a : Fin 8) (l : Fin 128), iblk m c 7 t (ix3 0 k ⟨a.val * 128 + l.val, by omega⟩) = V k ⟨a.val * 256 + l.val, by omega⟩)
    (hu : ∀ k (l : Fin 64), iblk m c 3 t (ix3 0 k ⟨704 + l.val, by omega⟩) = iblk m c 3 t (ix3 0 k ⟨640 + (other l).val, by omega⟩))
    (a : Fin 8) (r : Fin 1024) (l : Fin 192) :
    (outsAt0 m c t).2.1 (ix3 a r l) = keyOf (down m c t) (iblk m c 5 t) (iblk m c 8 t) (iblk m c 9 t) V a r l := by
  have first := run_key_first c (ms0_0 t) (hs0_0 t) (ms0_1 t) (hs0_1 t) (ms0_2 t) (hs0_2 t) (ms0_3 t) (hs0_3 t) (ms0_5 t) (hs0_5 t)
    (ms0_7 t) (hs0_7 t) (iblk m c 0 t) (iblk m c 1 t) (iblk m c 2 t) (iblk m c 3 t) (iblk m c 5 t) (iblk m c 7 t) (iblk m c 8 t) (iblk m c 9 t) V hw
  have last := run_key_last c (ms0_0 t) (hs0_0 t) (ms0_1 t) (hs0_1 t) (ms0_2 t) (hs0_2 t) (ms0_3 t) (hs0_3 t)
    (ms0_8 t) (hs0_8 t) (ms0_9 t) (hs0_9 t) (iblk m c 0 t) (iblk m c 1 t) (iblk m c 2 t) (iblk m c 3 t) (iblk m c 5 t) (iblk m c 8 t)
    (iblk m c 9 t) V hu
  change ∀ (a : Fin 8) (r : Fin 1024) (l : Fin 128), _ = keyOf (down m c t) (iblk m c 5 t) (iblk m c 8 t) (iblk m c 9 t) V a r _ at first
  change ∀ (a : Fin 8) (r : Fin 1024) (l : Fin 64), _ = keyOf (down m c t) (iblk m c 5 t) (iblk m c 8 t) (iblk m c 9 t) V a r _ at last
  generalize keyOf (down m c t) (iblk m c 5 t) (iblk m c 8 t) (iblk m c 9 t) V = f at first last ⊢
  unfold outsAt0
  dsimp only
  unfold out0_A_11
  refine (View.read_writes_apply_eq_canon _ _ _ _ (by apply cover0_A_11)).trans
    (View.canon_eq_of_allAt _ _ _ (by apply cover0_A_11) ?_)
  unfold kernelRun0_A
  dsimp only
  generalize kernelRun0_A.sl.r_10 (F := Ideal) _ _ _ _ _ _ _ _ _ _ _ _ _ _ _ _ _ _ _ = n at first ⊢
  generalize kernelRun0_A.sl.r_11 (F := Ideal) _ _ _ _ _ _ _ _ _ _ _ _ _ _ _ _ _ _ _ = p at last ⊢
  exact View.allAt_cons_unit _ _ _ _ _ (turned_tile f 7 (by omega) _ a r l fun r l => (by pointwise [k0_pay1] : _ = _).trans (last 7 r l))
    (View.allAt_cons_unit _ _ _ _ _ (plain_tile f 7 (by omega) _ a r l fun r l => (by pointwise [k0_pay48] : _ = _).trans (first 7 r l))
    (View.allAt_cons_unit _ _ _ _ _ (turned_tile f 6 (by omega) _ a r l fun r l => (by pointwise [k0_pay45] : _ = _).trans (last 6 r l))
    (View.allAt_cons_unit _ _ _ _ _ (plain_tile f 6 (by omega) _ a r l fun r l => (by pointwise [k0_pay44] : _ = _).trans (first 6 r l))
    (View.allAt_cons_unit _ _ _ _ _ (turned_tile f 5 (by omega) _ a r l fun r l => (by pointwise [k0_pay41] : _ = _).trans (last 5 r l))
    (View.allAt_cons_unit _ _ _ _ _ (plain_tile f 5 (by omega) _ a r l fun r l => (by pointwise [k0_pay40] : _ = _).trans (first 5 r l))
    (View.allAt_cons_unit _ _ _ _ _ (turned_tile f 4 (by omega) _ a r l fun r l => (by pointwise [k0_pay37] : _ = _).trans (last 4 r l))
    (View.allAt_cons_unit _ _ _ _ _ (plain_tile f 4 (by omega) _ a r l fun r l => (by pointwise [k0_pay36] : _ = _).trans (first 4 r l))
    (View.allAt_cons_unit _ _ _ _ _ (turned_tile f 3 (by omega) _ a r l fun r l => (by pointwise [k0_pay32] : _ = _).trans (last 3 r l))
    (View.allAt_cons_unit _ _ _ _ _ (plain_tile f 3 (by omega) _ a r l fun r l => (by pointwise [k0_pay31] : _ = _).trans (first 3 r l))
    (View.allAt_cons_unit _ _ _ _ _ (turned_tile f 2 (by omega) _ a r l fun r l => (by pointwise [k0_pay28] : _ = _).trans (last 2 r l))
    (View.allAt_cons_unit _ _ _ _ _ (plain_tile f 2 (by omega) _ a r l fun r l => (by pointwise [k0_pay27] : _ = _).trans (first 2 r l))
    (View.allAt_cons_unit _ _ _ _ _ (turned_tile f 1 (by omega) _ a r l fun r l => (by pointwise [k0_pay23] : _ = _).trans (last 1 r l))
    (View.allAt_cons_unit _ _ _ _ _ (plain_tile f 1 (by omega) _ a r l fun r l => (by pointwise [k0_pay22] : _ = _).trans (first 1 r l))
    (View.allAt_cons_unit _ _ _ _ _ (turned_tile f 0 (by omega) _ a r l fun r l => (by pointwise [k0_pay19] : _ = _).trans (last 0 r l))
    (View.allAt_cons_unit _ _ _ _ _ (plain_tile f 0 (by omega) _ a r l fun r l => (by pointwise [k0_pay18] : _ = _).trans (first 0 r l))
    (View.allAt_nil _ _))))))))))))))))

/-- The stored values. -/
theorem values_block (t : Fin cfg0.N) (V : Mat 256 2048)
    (hw : ∀ k (j : Fin 1024), iblk m c 7 t (ix3 0 k ⟨1024 + j.val, by omega⟩) = V k ⟨j.val / 128 * 256 + 128 + j.val % 128, by omega⟩)
    (r j : Fin 1024) : (outsAt0 m c t).2.2 (ix2 r j) = valueRow (keyRow (down m c t) (iblk m c 5 t) r) V j := by
  unfold outsAt0
  dsimp only
  unfold out0_A_12
  refine (View.read_writes_apply_eq_canon _ _ _ _ (by apply cover0_A_12)).trans ?_
  unfold kernelRun0_A
  dsimp only
  rw [View.canon_unit_zero (by decide), run_down]
  simp (disch := decide) only [View.readAt_eq_ld, Memref.IsWhole.read_unread, View.ld_unit_lit']
  refine value_lane _ _ V _ (fun k j => ?_) r j
  rw [← hw]
  pointwise

end Cert.Network.MlaIn

end
-- ==== Proof.Network.MlaInMatrix.lean ====
/- The latent attention's input call: the matrix of the queries as the call reads it, with its columns in another order. -/
module

public import proofs.«01_k».proof.Proof.Network.MlaInHeads

@[expose] public section

set_option maxRecDepth 16384

noncomputable section

namespace Cert.Network.MlaIn
open Idealize.ShloMosaic Cert.MlaInIdeal Cert.MlaInIdeal.Gen

/-- The steps that prepare the arrays, from the joining of the queries' matrix on. -/
abbrev later : List (HloOp τ sig (Elt Ideal)) := (hostOps0 (F := Ideal)).drop 35

/-- The steps before it. -/
abbrev earlier : List (HloOp τ sig (Elt Ideal)) := (hostOps0 (F := Ideal)).take 35

/-- Three parts side by side, stored as bfloat16. -/
def beside (u : FVec Ideal S2x384x1024 .f32) (v w : FVec Ideal S2x384x512 .f32) : FVec Ideal S2x384x2048 .bf16 :=
  truncf .bf16 (concatenate S2x384x2048 2 [⟨S2x384x1024, u⟩, ⟨S2x384x512, v⟩, ⟨S2x384x512, w⟩]
    concatenates_S2x384x1024_S2x384x512_S2x384x512_S2x384x2048_d2) bitsLt_bf16_f32

/-- This is what the later steps leave in the matrix. -/
theorem joined (F : Valuation τ sig (Elt Ideal)) : StableHlo.after later F (Proc.devRef .tc main_v32)
    = beside (F (Proc.devRef .tc main_v25)) (F (Proc.devRef .tc main_v26)) (F (Proc.devRef .tc main_v30)) := by
  simp only [later, hostOps0, List.drop_succ_cons, List.drop_zero]
  after_results_simp
  rfl

/-! They leave the parts as they are. -/

theorem kept_25 (F : Valuation τ sig (Elt Ideal)) : StableHlo.after later F (Proc.devRef .tc main_v25) = F (Proc.devRef .tc main_v25) := by
  simp only [later, hostOps0, List.drop_succ_cons, List.drop_zero]
  after_results_simp

theorem kept_26 (F : Valuation τ sig (Elt Ideal)) : StableHlo.after later F (Proc.devRef .tc main_v26) = F (Proc.devRef .tc main_v26) := by
  simp only [later, hostOps0, List.drop_succ_cons, List.drop_zero]
  after_results_simp

theorem kept_30 (F : Valuation τ sig (Elt Ideal)) : StableHlo.after later F (Proc.devRef .tc main_v30) = F (Proc.devRef .tc main_v30) := by
  simp only [later, hostOps0, List.drop_succ_cons, List.drop_zero]
  after_results_simp

variable (m : (ℓ : Loc nD τ sig) → Buf (Elt Ideal) ℓ) (c : Dev nD)

/-- The queries' matrix among the arguments. -/
def arg7 : FVec Ideal S2x384x1536 .f32 := m (c, Proc.tc.devRef main_arg7)

theorem joined_queries : V m c main_v32 = beside (V m c main_v25) (V m c main_v26) (V m c main_v30) := by
  have hs (b : Ref sig .tc) : V m c b = StableHlo.after later (StableHlo.after earlier fun b => m (c, b)) (Proc.devRef .tc b) := rfl
  rw [hs, hs, hs, hs, joined, kept_25, kept_26, kept_30]

/-- The three parts, read at a column. -/
theorem beside_apply (u : FVec Ideal S2x384x1024 .f32) (v w : FVec Ideal S2x384x512 .f32) (k : Fin 384) (j : Fin 2048) :
    beside u v w (ix3 0 k j) = if h : j.val < 1024 then u (ix3 0 k ⟨j.val, h⟩)
      else if h' : j.val < 1536 then v (ix3 0 k ⟨j.val - 1024, by omega⟩) else w (ix3 0 k ⟨j.val - 1536, by omega⟩) := by
  pointwise [beside]
  by_cases h : j.val < 1024
  · rw [dif_pos h, dif_pos h]
  · rw [dif_neg h, dif_neg h]
    by_cases h' : j.val < 1536
    · rw [dif_pos h', dif_pos (by omega)]
    · rw [dif_neg h', dif_neg (by omega)]
      exact congrArg (fun j => w (ix3 0 k j)) (Fin.ext (by first | rfl | (dsimp only; omega)))

/-! The parts, read off the argument. -/

theorem first_lanes (k : Fin 384) (j : Fin 1024) :
    V m c main_v25 (ix3 0 k j) = arg7 m c (ix3 0 k ⟨j.val / 128 * 192 + j.val % 128, by omega⟩) := by
  unfold arg7
  entry_read
  pointwise

theorem last_lanes (k : Fin 384) (j : Fin 512) :
    V m c main_v26 (ix3 0 k j) = arg7 m c (ix3 0 k ⟨j.val / 64 * 192 + 128 + j.val % 64, by omega⟩) := by
  unfold arg7
  entry_read
  pointwise
  exact congrArg (fun l => arg7 m c (ix3 0 k l)) (Fin.ext (by first | rfl | (dsimp only; omega)))

theorem other_lanes (k : Fin 384) (j : Fin 512) :
    V m c main_v30 (ix3 0 k j) = arg7 m c (ix3 0 k ⟨j.val / 64 * 192 + 128 + (j.val + 32) % 64, by omega⟩) := by
  unfold arg7
  entry_read
  pointwise
  split_ifs <;> exact congrArg (fun l => arg7 m c (ix3 0 k l)) (Fin.ext (by first | rfl | (dsimp only; omega)))

/-- The column of the queries' matrix that is column `j` of the fetched one: first the lanes that are not turned, then those that
    are, then the lanes these are turned by. -/
def queryColumn (j : ℕ) : ℕ :=
  if j < 1024 then j / 128 * 192 + j % 128
  else if j < 1536 then (j - 1024) / 64 * 192 + 128 + (j - 1024) % 64
  else (j - 1536) / 64 * 192 + 128 + (j - 1536 + 32) % 64

/-- The matrix the call reads, column by column. -/
theorem joined_column (k : Fin 384) (j : Fin 2048) (l : Fin 1536) (hl : l.val = queryColumn j.val) :
    V m c main_v32 (ix3 0 k j) = arg7 m c (ix3 0 k l) := by
  refine (congrFun (joined_queries m c) (ix3 0 k j)).trans ((beside_apply _ _ _ k j).trans ?_)
  unfold queryColumn at hl
  split_ifs at hl ⊢
  · exact (first_lanes m c k _).trans (congrArg (fun l => arg7 m c (ix3 0 k l)) (Fin.ext hl.symm))
  · exact (last_lanes m c k _).trans (congrArg (fun l => arg7 m c (ix3 0 k l)) (Fin.ext hl.symm))
  · exact (other_lanes m c k _).trans (congrArg (fun l => arg7 m c (ix3 0 k l)) (Fin.ext hl.symm))

end Cert.Network.MlaIn
-- ==== Proof.Network.MlaInSpec.lean ====
/- The latent attention's input call: the rows its three arrays hold, as functions of the arguments. -/
module

public import proofs.«01_k».proof.Proof.Network.Latent

@[expose] public section

noncomputable section

namespace Cert.Network

open Idealize.ShloMosaic

section Rows

variable (x : FVec Ideal ⟨3, ![8, 4096, 1024]⟩ .f32) (pos : IVec ⟨2, ![8, 4096]⟩ 32) (mod : FVec Ideal ⟨3, ![4, 8, 9216]⟩ .f32)
  (norm : FVec Ideal ⟨3, ![4, 3, 1024]⟩ .f32) (wd : FVec Ideal ⟨3, ![2, 1024, 704]⟩ .f32) (gq : FVec Ideal ⟨2, ![2, 384]⟩ .f32)
  (gk : FVec Ideal ⟨2, ![2, 256]⟩ .f32) (wq : FVec Ideal ⟨3, ![2, 384, 1536]⟩ .f32) (wk : FVec Ideal ⟨3, ![2, 256, 2048]⟩ .f32)

/-- The row of 704 lanes of token `i`. -/
def narrow (i : Fin 32768) : Row 704 := times (mixed mod norm x 1 i) fun a b => wd (ix3 0 a b)

/-- Head `a` of the queries and of the keys, and the values, of token `i`. -/
def mlaQuery (a : Fin 8) (i : Fin 32768) : Row 192 := queryHead (latentQuery (narrow x mod norm wd i) fun k => gq (ix2 0 k))
  (fun k l => wq (ix3 0 k l)) (fun l => Ideal.cos (angle pos i 0x42800000#32 l.val)) (fun l => Ideal.sin (angle pos i 0x42800000#32 l.val)) a

def mlaKey (a : Fin 8) (i : Fin 32768) : Row 192 := keyHead (latentKey (narrow x mod norm wd i) fun k => gk (ix2 0 k))
  (fun k l => wk (ix3 0 k l)) (fun l => narrow x mod norm wd i ⟨640 + l.val, by omega⟩)
  (fun l => Ideal.cos (angle pos i 0x42800000#32 l.val)) (fun l => Ideal.sin (angle pos i 0x42800000#32 l.val)) a

def mlaValue (i : Fin 32768) : Row 1024 := valueRow (latentKey (narrow x mod norm wd i) fun k => gk (ix2 0 k)) fun k l => wk (ix3 0 k l)

end Rows

end Cert.Network
-- ==== Proof.Network.MlaInResults.lean ====
/- The latent attention's input call: what its three arrays hold. -/
module

public import proofs.«01_k».proof.Proof.Network.MlaInHeads
public import proofs.«01_k».proof.Proof.Network.MlaInMatrix
public import proofs.«01_k».proof.Proof.Network.MlaInSpec

@[expose] public section

set_option maxRecDepth 16384

noncomputable section

namespace Cert.Network

open Idealize.ShloMosaic

namespace MlaIn

open Idealize.ShloMosaic.Pipeline Cert.MlaInIdeal Cert.MlaInIdeal.Facts₀ Cert.MlaInIdeal.Facts Cert.MlaInIdeal.Gen

variable (m : (ℓ : Loc nD τ sig) → Buf (Elt Ideal) ℓ) (c : Dev nD)

/-! The arguments, as vectors. -/

def arg0 : FVec Ideal S8x4096x1024 .f32 := m (c, Proc.tc.devRef main_arg0)
def arg1 : IVec S8x4096 32 := m (c, Proc.tc.devRef main_arg1)
def arg2 : FVec Ideal S4x8x9216 .f32 := m (c, Proc.tc.devRef main_arg2)
def arg3 : FVec Ideal S4x3x1024 .f32 := m (c, Proc.tc.devRef main_arg3)
def arg4 : FVec Ideal S2x1024x704 .f32 := m (c, Proc.tc.devRef main_arg4)
def arg5 : FVec Ideal S2x384 .f32 := m (c, Proc.tc.devRef main_arg5)
def arg6 : FVec Ideal S2x256 .f32 := m (c, Proc.tc.devRef main_arg6)
def arg8 : FVec Ideal S2x256x2048 .f32 := m (c, Proc.tc.devRef main_arg8)

/-! Which block of each array a point fetches or writes. -/

theorem index_0 : ∀ t : Fin cfg0.N, win0_0.index t = ![t.val, 0] := by decide +kernel
theorem index_1 : ∀ t : Fin cfg0.N, win0_1.index t = ![1, t.val / 4, 1, 0, 0] := by decide +kernel
theorem index_2 : ∀ t : Fin cfg0.N, win0_2.index t = ![1, 1, 0, 0] := by decide +kernel
theorem index_3 : ∀ t : Fin cfg0.N, win0_3.index t = ![0, 0, 0] := by decide +kernel
theorem index_4 : ∀ t : Fin cfg0.N, win0_4.index t = ![0, 0, 0] := by decide +kernel
theorem index_5 : ∀ t : Fin cfg0.N, win0_5.index t = ![0, 0, 0] := by decide +kernel
theorem index_6 : ∀ t : Fin cfg0.N, win0_6.index t = ![0, 0, 0] := by decide +kernel
theorem index_7 : ∀ t : Fin cfg0.N, win0_7.index t = ![0, 0, 0] := by decide +kernel
theorem index_8 : ∀ t : Fin cfg0.N, win0_8.index t = ![t.val, 0] := by decide +kernel
theorem index_9 : ∀ t : Fin cfg0.N, win0_9.index t = ![t.val, 0] := by decide +kernel
theorem index_10 : ∀ t : Fin cfg0.N, win0_10.index t = ![0, t.val, 0] := by decide +kernel
theorem index_11 : ∀ t : Fin cfg0.N, win0_11.index t = ![0, t.val, 0] := by decide +kernel
theorem index_12 : ∀ t : Fin cfg0.N, win0_12.index t = ![t.val, 0] := by decide +kernel

/-! The blocks a point fetches, read off the arguments. -/

theorem block_0 (t : Fin 32) (r k : Fin 1024) :
    iblk m c 0 t (ix2 r k) = token (arg0 m c) ⟨t.val * 1024 + r.val, by omega⟩ k := by
  have h : iblk m c 0 t (ix2 r k) = V m c main_v40 (ix2 ⟨t.val * 1024 + r.val, by omega⟩ k) := by blk_ext [iblk, index_0 t]
  rw [h]
  unfold token arg0
  entry_read
  pointwise

theorem block_1 (t : Fin 32) (r : Fin 1024) (p : Fin 3) (k : Fin 1024) : iblk m c 1 t (ix5 0 0 0 p k)
    = modulation (arg2 m c) 1 ⟨3 + p.val, by omega⟩ ⟨t.val * 1024 + r.val, by omega⟩ k := by
  have h : iblk m c 1 t (ix5 0 0 0 p k) = V m c main_v41 (ix5 1 ⟨(t.val * 1024 + r.val) / 4096, by omega⟩ 1 p k) := by
    blk_ext [iblk, index_1 t]
  rw [h]
  unfold modulation arg2
  entry_read
  pointwise
  exact congrArg (fun k => arg2 m c (ix3 1 _ k)) (Fin.ext (by dsimp only; omega))

theorem block_2 (t : Fin 32) (k : Fin 1024) : iblk m c 2 t (ix4 0 0 0 k) = arg3 m c (ix3 1 1 k) := by
  have h : iblk m c 2 t (ix4 0 0 0 k) = V m c main_v42 (ix4 1 1 0 k) := by blk_ext [iblk, index_2 t]
  rw [h]
  unfold arg3
  entry_read
  pointwise

theorem block_3 (t : Fin 32) (i : Fin 1024) (l : Fin 768) : iblk m c 3 t (ix3 0 i l)
    = arg4 m c (ix3 0 i (if h : l.val < 704 then ⟨l.val, h⟩ else ⟨640 + (l.val - 704 + 32) % 64, by omega⟩)) := by
  have h : iblk m c 3 t (ix3 0 i l) = V m c main_v21 (ix3 0 i l) := by blk_ext [iblk, index_3 t]
  rw [h]
  unfold arg4
  entry_read
  pointwise
  split_ifs <;> exact congrArg (fun k => arg4 m c (ix3 0 i k)) (Fin.ext (by first | rfl | (dsimp only; omega)))

theorem block_4 (t : Fin 32) (k : Fin 384) : iblk m c 4 t (ix3 0 0 k) = arg5 m c (ix2 0 k) := by
  have h : iblk m c 4 t (ix3 0 0 k) = V m c main_v43 (ix3 0 0 k) := by blk_ext [iblk, index_4 t]
  rw [h]
  unfold arg5
  entry_read
  pointwise

theorem block_5 (t : Fin 32) (k : Fin 256) : iblk m c 5 t (ix3 0 0 k) = arg6 m c (ix2 0 k) := by
  have h : iblk m c 5 t (ix3 0 0 k) = V m c main_v44 (ix3 0 0 k) := by blk_ext [iblk, index_5 t]
  rw [h]
  unfold arg6
  entry_read
  pointwise

theorem block_6 (t : Fin 32) (k : Fin 384) (j : Fin 2048) (l : Fin 1536) (hl : l.val = queryColumn j.val) :
    iblk m c 6 t (ix3 0 k j) = arg7 m c (ix3 0 k l) := by
  have h : iblk m c 6 t (ix3 0 k j) = V m c main_v32 (ix3 0 k j) := by blk_ext [iblk, index_6 t]
  rw [h]
  exact joined_column m c k j l hl

theorem block_6_first (t : Fin 32) (k : Fin 384) (a : Fin 8) (l : Fin 128) : iblk m c 6 t (ix3 0 k ⟨a.val * 128 + l.val, by omega⟩)
    = arg7 m c (ix3 0 k ⟨a.val * 192 + l.val, by omega⟩) :=
  block_6 m c t k _ _ (by unfold queryColumn; dsimp only; split_ifs <;> omega)

theorem block_6_last (t : Fin 32) (k : Fin 384) (a : Fin 8) (l : Fin 64) :
    iblk m c 6 t (ix3 0 k ⟨1024 + (a.val * 64 + l.val), by omega⟩) = arg7 m c (ix3 0 k ⟨a.val * 192 + 128 + l.val, by omega⟩) :=
  block_6 m c t k _ _ (by unfold queryColumn; dsimp only; split_ifs <;> omega)

theorem block_6_other (t : Fin 32) (k : Fin 384) (a : Fin 8) (l : Fin 64) :
    iblk m c 6 t (ix3 0 k ⟨1536 + (a.val * 64 + l.val), by omega⟩) = arg7 m c (ix3 0 k ⟨a.val * 192 + 128 + (other l).val, by omega⟩) :=
  block_6 m c t k _ _ (by unfold queryColumn; dsimp only; split_ifs <;> omega)

theorem block_7_first (t : Fin 32) (k : Fin 256) (a : Fin 8) (l : Fin 128) : iblk m c 7 t (ix3 0 k ⟨a.val * 128 + l.val, by omega⟩)
    = arg8 m c (ix3 0 k ⟨a.val * 256 + l.val, by omega⟩) := by
  have h : iblk m c 7 t (ix3 0 k ⟨a.val * 128 + l.val, by omega⟩) = V m c main_v39 (ix3 0 k ⟨a.val * 128 + l.val, by omega⟩) := by
    blk_ext [iblk, index_7 t]
  rw [h]
  unfold arg8
  entry_read
  pointwise
  rw [dif_pos (by omega)]
  exact congrArg (fun l => arg8 m c (ix3 0 k l)) (Fin.ext (by dsimp only; omega))

theorem block_7_last (t : Fin 32) (k : Fin 256) (j : Fin 1024) : iblk m c 7 t (ix3 0 k ⟨1024 + j.val, by omega⟩)
    = arg8 m c (ix3 0 k ⟨j.val / 128 * 256 + 128 + j.val % 128, by omega⟩) := by
  have h : iblk m c 7 t (ix3 0 k ⟨1024 + j.val, by omega⟩) = V m c main_v39 (ix3 0 k ⟨1024 + j.val, by omega⟩) := by
    blk_ext [iblk, index_7 t]
  rw [h]
  unfold arg8
  entry_read
  pointwise
  exact congrArg (fun l => arg8 m c (ix3 0 k l)) (Fin.ext (by dsimp only; omega))

theorem block_8 (t : Fin 32) (r : Fin 1024) (l : Fin 32) : iblk m c 8 t (ix2 r l)
    = Ideal.cos (angle (arg1 m c) ⟨t.val * 1024 + r.val, by omega⟩ 0x42800000#32 l.val) := by
  have h : iblk m c 8 t (ix2 r l) = V m c main_v45 (ix2 ⟨t.val * 1024 + r.val, by omega⟩ l) := by blk_ext [iblk, index_8 t]
  rw [h]
  unfold angle arg1
  entry_read
  pointwise

theorem block_9 (t : Fin 32) (r : Fin 1024) (l : Fin 32) : iblk m c 9 t (ix2 r l)
    = Ideal.sin (angle (arg1 m c) ⟨t.val * 1024 + r.val, by omega⟩ 0x42800000#32 l.val) := by
  have h : iblk m c 9 t (ix2 r l) = V m c main_v46 (ix2 ⟨t.val * 1024 + r.val, by omega⟩ l) := by blk_ext [iblk, index_9 t]
  rw [h]
  unfold angle arg1
  entry_read
  pointwise

/-- The first 704 lanes of the block's product are the tokens' narrow rows. -/
theorem down_eq (t : Fin 32) (r : Fin 1024) (l : Fin 704) : down m c t (ix2 r ⟨l.val, by omega⟩)
    = narrow (arg0 m c) (arg2 m c) (arg3 m c) (arg4 m c) ⟨t.val * 1024 + r.val, by omega⟩ l := by
  have b1 := block_1 m c t r
  have e : hidden (iblk m c 0 t) (iblk m c 1 t) (iblk m c 2 t) r = mixed (arg2 m c) (arg3 m c) (arg0 m c) 1 ⟨t.val * 1024 + r.val, by omega⟩ := by
    unfold hidden mixed
    congr 1
    · exact funext fun k => block_0 m c t r k
    · exact funext fun k => block_2 m c t k
    · exact funext fun k => b1 0 k
    · exact funext fun k => b1 1 k
  refine (down_apply (iblk m c 0 t) (iblk m c 1 t) (iblk m c 2 t) (iblk m c 3 t) r _).trans ?_
  rw [e]
  unfold narrow times
  refine Finset.sum_congr rfl fun i _ => congrArg (mixed (arg2 m c) (arg3 m c) (arg0 m c) 1 ⟨t.val * 1024 + r.val, by omega⟩ i * ·) ?_
  exact (block_3 m c t i _).trans (congrArg (fun k => arg4 m c (ix3 0 i k)) (dif_pos l.isLt))

/-- The first array holds the queries. -/
theorem queries_eq : (dats m 0 c).arrAt 10 cfg0.N
    = byHead (mlaQuery (arg0 m c) (arg1 m c) (arg2 m c) (arg3 m c) (arg4 m c) (arg5 m c) (arg7 m c)) := by
  refine (dats m 0 c).arrAt_eq_of_covers 10 _ (by decide +kernel) fun t hf y => ?_
  blk_simp
  rw [after0_10]
  refine eq_byHead t.val _ _ t.isLt (by blk_simp [index_10 t]) (by blk_simp [index_10 t]) (by blk_simp [index_10 t]) _ _ fun a r l => ?_
  refine (queries_block m c t (fun k l => arg7 m c (ix3 0 k l)) (block_6_first m c t) (block_6_last m c t) (block_6_other m c t) a r l).trans ?_
  unfold mlaQuery queryOf queryRow
  simp only [down_eq m c t r, block_4 m c t, block_8 m c t r, block_9 m c t r]

/-- The second holds the keys. -/
theorem keys_eq : (dats m 0 c).arrAt 11 cfg0.N
    = byHead (mlaKey (arg0 m c) (arg1 m c) (arg2 m c) (arg3 m c) (arg4 m c) (arg6 m c) (arg8 m c)) := by
  refine (dats m 0 c).arrAt_eq_of_covers 11 _ (by decide +kernel) fun t hf y => ?_
  blk_simp
  rw [after0_11]
  refine eq_byHead t.val _ _ t.isLt (by blk_simp [index_11 t]) (by blk_simp [index_11 t]) (by blk_simp [index_11 t]) _ _ fun a r l => ?_
  refine (keys_block m c t (fun k l => arg8 m c (ix3 0 k l)) (block_7_first m c t) (fun k l => ?_) a r l).trans ?_
  · refine (block_3 m c t k _).trans (.trans ?_ (block_3 m c t k _).symm)
    rw [dif_neg (by dsimp only; omega), dif_pos (by dsimp only; omega)]
    exact congrArg (fun l => arg4 m c (ix3 0 k l)) (Fin.ext (by dsimp only; omega))
  · have e (l : Fin 64) := down_eq m c t r ⟨640 + l.val, by omega⟩
    dsimp only at e
    unfold mlaKey keyOf keyRow
    simp only [down_eq m c t r, e, block_5 m c t, block_8 m c t r, block_9 m c t r]

/-- The third holds the values. -/
theorem values_eq : (dats m 0 c).arrAt 12 cfg0.N
    = tokens (mlaValue (arg0 m c) (arg2 m c) (arg3 m c) (arg4 m c) (arg6 m c) (arg8 m c)) := by
  refine (dats m 0 c).arrAt_eq_of_covers 12 _ (by decide +kernel) fun t hf y => ?_
  blk_simp
  rw [after0_12]
  refine eq_tokens t.val _ _ t.isLt (by blk_simp [index_12 t]) (by blk_simp [index_12 t]) _ _ fun r j => ?_
  refine (values_block m c t (fun k l => arg8 m c (ix3 0 k l)) (block_7_last m c t) r j).trans ?_
  unfold mlaValue keyRow
  simp only [down_eq m c t r, block_5 m c t]

end MlaIn

end Cert.Network

end
-- ==== Proof.Network.MlaInReference.lean ====
/- The latent attention's inputs as the reference writes them, read at every token. -/
module

public import proofs.«01_k».proof.Proof.Network.Latent
public import proofs.«01_k».proof.Proof.Gen.ReferenceMlaInIdeal.Read

@[expose] public section

set_option maxRecDepth 16384

noncomputable section

namespace Cert.Network.MlaIn

open Idealize.ShloMosaic Cert.ReferenceMlaInIdeal Cert.ReferenceMlaInIdeal.Facts₀ Cert.ReferenceMlaInIdeal.Facts
  Cert.ReferenceMlaInIdeal.Read

variable (x : FVec Ideal S8x4096x1024 .f32) (pos : IVec S8x4096 32) (mod : FVec Ideal S4x8x9216 .f32)
  (norm : FVec Ideal S4x3x1024 .f32) (wd : FVec Ideal S2x1024x704 .f32) (gq : FVec Ideal S2x384 .f32) (gk : FVec Ideal S2x256 .f32)
  (wq : FVec Ideal S2x384x1536 .f32) (wk : FVec Ideal S2x256x2048 .f32)

/-- The normed and modulated row. -/
theorem ref_adaln (b : Fin 8) (s : Fin 4096) (k : Fin 1024) : val_main_v33 (F := Ideal) x mod norm (ix3 b s k)
    = adaln (fun i => x (ix3 b s i)) (fun i => norm (ix3 1 1 i)) (fun i => mod (ix3 1 b ⟨3072 + i.val, by omega⟩))
        (fun i => mod (ix3 1 b ⟨4096 + i.val, by omega⟩)) k := by
  pointwise [val_main_v33, val_main_v32, val_main_v31, val_main_v30, val_main_v29, val_main_v28, val_main_v27, val_main_cst_2,
    val_main_v26, val_main_v25, val_main_v24, val_main_v23, val_main_v22, val_main_v21, val_main_v20, val_main_v19, val_main_v18,
    val_main_cst_1, val_main_v17, val_main_v16, val_main_cst_0, val_main_v15, val_main_v14, val_main_cst, val_main_v13,
    val_main_v12, val_main_v11, val_main_v6, val_main_v5, val_main_v1, val_main_v0, adaln, rms]

/-- Its product with the first matrix. -/
theorem ref_narrow (b : Fin 8) (s : Fin 4096) (l : Fin 704) : val_main_v36 (F := Ideal) x mod norm wd (ix3 b s l)
    = times (fun k => val_main_v33 (F := Ideal) x mod norm (ix3 b s k)) (fun k l => wd (ix3 0 k l)) l := by
  unfold val_main_v36
  generalize val_main_v33 (F := Ideal) x mod norm = h
  pointwise [val_main_v35, val_main_v34, times]

/-- The two normed parts. -/
theorem ref_query_latent (b : Fin 8) (s : Fin 4096) (k : Fin 384) : val_main_v54 (F := Ideal) x mod norm wd gq (ix3 b s k)
    = latentQuery (fun l => val_main_v36 (F := Ideal) x mod norm wd (ix3 b s l)) (fun k => gq (ix2 0 k)) k := by
  unfold val_main_v54 val_main_v51 val_main_v50 val_main_v49 val_main_v48 val_main_v46 val_main_v44 val_main_v43 val_main_v42 val_main_v37
  generalize val_main_v36 (F := Ideal) x mod norm wd = u
  pointwise [val_main_v53, val_main_v52, val_main_v47, val_main_cst_5, val_main_v45, val_main_cst_4, val_main_cst_3, val_main_v41,
    val_main_v40, latentQuery, normed]

theorem ref_key_latent (b : Fin 8) (s : Fin 4096) (k : Fin 256) : val_main_v106 (F := Ideal) x mod norm wd gk (ix3 b s k)
    = latentKey (fun l => val_main_v36 (F := Ideal) x mod norm wd (ix3 b s l)) (fun k => gk (ix2 0 k)) k := by
  unfold val_main_v106 val_main_v103 val_main_v102 val_main_v101 val_main_v100 val_main_v98 val_main_v96 val_main_v95 val_main_v94 val_main_v38
  generalize val_main_v36 (F := Ideal) x mod norm wd = u
  pointwise [val_main_v105, val_main_v104, val_main_v99, val_main_cst_12, val_main_v97, val_main_cst_11, val_main_cst_10, val_main_v93,
    val_main_v92, latentKey, normed]

/-- Their products with the second matrices. -/
theorem ref_query_wide (b : Fin 8) (s : Fin 4096) (l : Fin 1536) : val_main_v57 (F := Ideal) x mod norm wd gq wq (ix3 b s l)
    = times (fun k => val_main_v54 (F := Ideal) x mod norm wd gq (ix3 b s k)) (fun k l => wq (ix3 0 k l)) l := by
  unfold val_main_v57
  generalize val_main_v54 (F := Ideal) x mod norm wd gq = h
  pointwise [val_main_v56, val_main_v55, times]

theorem ref_key_wide (b : Fin 8) (s : Fin 4096) (l : Fin 2048) : val_main_v109 (F := Ideal) x mod norm wd gk wk (ix3 b s l)
    = times (fun k => val_main_v106 (F := Ideal) x mod norm wd gk (ix3 b s k)) (fun k l => wk (ix3 0 k l)) l := by
  unfold val_main_v109
  generalize val_main_v106 (F := Ideal) x mod norm wd gk = h
  pointwise [val_main_v108, val_main_v107, times]

/-- The cosines and sines, for the queries and for the keys. -/
theorem ref_cos (i : Fin 32768) (l : Fin 32) : val_main_v77 (F := Ideal) pos (ix4 ⟨i.val / 4096, by omega⟩ ⟨i.val % 4096, by omega⟩ 0 l)
    = Ideal.cos (angle pos i 0x42800000#32 l.val) := by
  pointwise [val_main_v77, val_main_v76, val_main_v75, val_main_v74, val_main_v73, val_main_v72, val_main_v71, val_main_v70,
    val_main_v69, val_main_cst_9, val_main_v68, val_main_v67, val_main_cst_8, val_main_v66, val_main_v65, val_main_v64,
    val_main_cst_7, val_main_v63, val_main_v62, val_main_cst_6, val_main_v61, angle]

theorem ref_sin (i : Fin 32768) (l : Fin 32) : val_main_v78 (F := Ideal) pos (ix4 ⟨i.val / 4096, by omega⟩ ⟨i.val % 4096, by omega⟩ 0 l)
    = Ideal.sin (angle pos i 0x42800000#32 l.val) := by
  pointwise [val_main_v78, val_main_v76, val_main_v75, val_main_v74, val_main_v73, val_main_v72, val_main_v71, val_main_v70,
    val_main_v69, val_main_cst_9, val_main_v68, val_main_v67, val_main_cst_8, val_main_v66, val_main_v65, val_main_v64,
    val_main_cst_7, val_main_v63, val_main_v62, val_main_cst_6, val_main_v61, angle]

theorem key_cos : val_main_v130 (F := Ideal) pos = val_main_v77 (F := Ideal) pos := rfl
theorem key_sin : val_main_v131 (F := Ideal) pos = val_main_v78 (F := Ideal) pos := rfl

theorem ofBits_192 : Ideal.ofBits .f32 0x43400000#32 = ((192 : ℝ) : EReal) := by
  simp [Ideal.ofBits, Ideal.ieee, -EReal.coe_mul]
  norm_num

theorem ofBits_2 : Ideal.ofBits .f32 0x40000000#32 = ((2 : ℝ) : EReal) := by
  simp [Ideal.ofBits, Ideal.ieee, -EReal.coe_mul]
  norm_num

/-- The scale of the scores. -/
theorem ref_scale (i : S_.Idx) : val_main_v145 (F := Ideal) i = scale := by
  have h : Real.log 2 ≠ 0 := Real.log_ne_zero_of_pos_of_ne_one (by norm_num) (by norm_num)
  have h' : Real.sqrt 192 ≠ 0 := Real.sqrt_ne_zero'.mpr (by norm_num)
  pointwise [val_main_v145, val_main_cst_19, val_main_v144, val_main_v143, val_main_cst_18, val_main_v142, val_main_cst_17]
  rw [ofBits_192, ofBits_2, Ideal.log_coe, if_neg (by norm_num), Ideal.sqrt_coe, if_neg (by norm_num), ← EReal.coe_mul,
    Ideal.div_coe (mul_ne_zero h' h)]
  unfold scale
  rw [one_mul, one_div, mul_inv]

/-- The queries' heads. -/
theorem ref_query_heads (b : Fin 8) (s : Fin 4096) (a : Fin 8) (l : Fin 192) :
    val_main_v148 (F := Ideal) x pos mod norm wd gq wq (ix4 b s a l)
      = (if h : l.val < 128 then val_main_v57 (F := Ideal) x mod norm wd gq wq (ix3 b s ⟨a.val * 192 + l.val, by omega⟩)
        else turn (fun k => val_main_v57 (F := Ideal) x mod norm wd gq wq (ix3 b s ⟨a.val * 192 + 128 + k.val, by omega⟩))
          (fun l => val_main_v77 (F := Ideal) pos (ix4 b s 0 l)) (fun l => val_main_v78 (F := Ideal) pos (ix4 b s 0 l))
          ⟨l.val - 128, by omega⟩) * scale := by
  have hs := ref_scale
  unfold val_main_v148 val_main_v147 val_main_v146 val_main_v91 val_main_v90 val_main_v89 val_main_v88 val_main_v87 val_main_v86 val_main_v85
    val_main_v84 val_main_v83 val_main_v82 val_main_v81 val_main_v80 val_main_v79 val_main_v60 val_main_v59 val_main_v58
  generalize val_main_v57 (F := Ideal) x mod norm wd gq wq = u
  generalize val_main_v77 (F := Ideal) pos = cos
  generalize val_main_v78 (F := Ideal) pos = sin
  generalize val_main_v145 (F := Ideal) = v at hs ⊢
  pointwise [turn, hs]
  have e (k k' : Fin 1536) (h : k.val = k'.val) : u (ix3 b s k) = u (ix3 b s k') := by rw [Fin.ext h]
  refine congrArg (· * scale) ?_
  by_cases h : l.val < 128
  · rw [dif_pos h, dif_pos h]
  by_cases h' : l.val - 128 < 32
  · rw [dif_neg h, dif_neg h, dif_pos h', dif_pos h']
    exact congrArg₂ (· - ·) (congrArg (· * _) (e _ _ (by dsimp only; omega))) (congrArg (· * _) (e _ _ (by dsimp only; omega)))
  · rw [dif_neg h, dif_neg h, dif_neg h', dif_neg h']
    exact congrArg₂ (· + ·) (congrArg (· * _) (e _ _ (by dsimp only; omega))) (congrArg (· * _) (e _ _ (by dsimp only; omega)))

/-- The keys' heads. -/
theorem ref_key_heads (b : Fin 8) (s : Fin 4096) (a : Fin 8) (l : Fin 192) :
    val_main_v152 (F := Ideal) x pos mod norm wd gk wk (ix4 b s a l)
      = if h : l.val < 128 then val_main_v109 (F := Ideal) x mod norm wd gk wk (ix3 b s ⟨a.val * 256 + l.val, by omega⟩)
        else turn (fun k => val_main_v36 (F := Ideal) x mod norm wd (ix3 b s ⟨640 + k.val, by omega⟩))
          (fun l => val_main_v77 (F := Ideal) pos (ix4 b s 0 l)) (fun l => val_main_v78 (F := Ideal) pos (ix4 b s 0 l))
          ⟨l.val - 128, by omega⟩ := by
  rw [← key_cos pos, ← key_sin pos]
  unfold val_main_v152 val_main_v141 val_main_v140 val_main_v139 val_main_v138 val_main_v137 val_main_v136 val_main_v135 val_main_v134
    val_main_v133 val_main_v132 val_main_v113 val_main_v39 val_main_v111 val_main_v110
  generalize val_main_v109 (F := Ideal) x mod norm wd gk wk = u
  generalize val_main_v36 (F := Ideal) x mod norm wd = d
  generalize val_main_v130 (F := Ideal) pos = cos
  generalize val_main_v131 (F := Ideal) pos = sin
  pointwise [turn]
  have e (k k' : Fin 704) (h : k.val = k'.val) : d (ix3 b s k) = d (ix3 b s k') := by rw [Fin.ext h]
  by_cases h : l.val < 128
  · rw [dif_pos h, dif_pos h]
  by_cases h' : l.val - 128 < 32
  · rw [dif_neg h, dif_neg h, dif_pos h', dif_pos h']
    exact congrArg₂ (· - ·) rfl (congrArg (· * _) (e _ _ (by dsimp only; omega)))
  · rw [dif_neg h, dif_neg h, dif_neg h', dif_neg h']
    exact congrArg₂ (· + ·) rfl (congrArg (· * _) (e _ _ (by dsimp only; omega)))

end Cert.Network.MlaIn

end
-- ==== Proof.Network.MlaInReferenceResults.lean ====
/- The latent attention's inputs in the reference: what its three results hold. -/
module

public import proofs.«01_k».proof.Proof.Network.MlaInReference
public import proofs.«01_k».proof.Proof.Network.MlaInSpec

@[expose] public section

set_option maxRecDepth 16384

noncomputable section

namespace Cert.Network.MlaIn

open Idealize.ShloMosaic Cert.ReferenceMlaInIdeal Cert.ReferenceMlaInIdeal.Facts₀ Cert.ReferenceMlaInIdeal.Facts
  Cert.ReferenceMlaInIdeal.Read

variable (x : FVec Ideal S8x4096x1024 .f32) (pos : IVec S8x4096 32) (mod : FVec Ideal S4x8x9216 .f32)
  (norm : FVec Ideal S4x3x1024 .f32) (wd : FVec Ideal S2x1024x704 .f32) (gq : FVec Ideal S2x384 .f32) (gk : FVec Ideal S2x256 .f32)
  (wq : FVec Ideal S2x384x1536 .f32) (wk : FVec Ideal S2x256x2048 .f32)

/-- The sequence of token `i`, and its place there. -/
abbrev sequence (i : Fin 32768) : Fin 8 := ⟨i.val / 4096, by omega⟩
abbrev place (i : Fin 32768) : Fin 4096 := ⟨i.val % 4096, by omega⟩

/-- The modulated row of a token. -/
theorem ref_mixed (i : Fin 32768) (k : Fin 1024) :
    val_main_v33 (F := Ideal) x mod norm (ix3 (sequence i) (place i) k) = mixed mod norm x 1 i k := by
  rw [ref_adaln]
  rfl

/-- Its 704 lanes. -/
theorem ref_row (i : Fin 32768) :
    (fun l => val_main_v36 (F := Ideal) x mod norm wd (ix3 (sequence i) (place i) l)) = narrow x mod norm wd i := by
  funext l
  rw [ref_narrow]
  exact congrFun (congrArg (fun r => times r fun a b => wd (ix3 0 a b)) (funext fun k => ref_mixed x mod norm i k)) l

/-- The columns of the two products. -/
theorem ref_query_columns (i : Fin 32768) (l : Fin 1536) :
    val_main_v57 (F := Ideal) x mod norm wd gq wq (ix3 (sequence i) (place i) l)
      = times (latentQuery (narrow x mod norm wd i) fun k => gq (ix2 0 k)) (fun k l => wq (ix3 0 k l)) l := by
  rw [ref_query_wide, ← ref_row x mod norm wd i]
  exact congrFun (congrArg (fun r => times r fun k l => wq (ix3 0 k l)) (funext fun k => ref_query_latent x mod norm wd gq _ _ k)) l

theorem ref_key_columns (i : Fin 32768) (l : Fin 2048) :
    val_main_v109 (F := Ideal) x mod norm wd gk wk (ix3 (sequence i) (place i) l)
      = times (latentKey (narrow x mod norm wd i) fun k => gk (ix2 0 k)) (fun k l => wk (ix3 0 k l)) l := by
  rw [ref_key_wide, ← ref_row x mod norm wd i]
  exact congrFun (congrArg (fun r => times r fun k l => wk (ix3 0 k l)) (funext fun k => ref_key_latent x mod norm wd gk _ _ k)) l

/-- A head of the queries and one of the keys. -/
theorem ref_query (a : Fin 8) (i : Fin 32768) (l : Fin 192) :
    val_main_v148 (F := Ideal) x pos mod norm wd gq wq (ix4 (sequence i) (place i) a l) = mlaQuery x pos mod norm wd gq wq a i l := by
  rw [ref_query_heads]
  unfold mlaQuery queryHead
  simp only [ref_query_columns, ref_cos, ref_sin]

theorem ref_key (a : Fin 8) (i : Fin 32768) (l : Fin 192) :
    val_main_v152 (F := Ideal) x pos mod norm wd gk wk (ix4 (sequence i) (place i) a l) = mlaKey x pos mod norm wd gk wk a i l := by
  rw [ref_key_heads]
  unfold mlaKey keyHead
  simp only [ref_key_columns, ref_cos, ref_sin]
  simp only [← ref_row x mod norm wd i]

/-- The sequences one after the other and the heads first, stored as bfloat16. -/
theorem heads_first (u : FVec Ideal S8x4096x8x192 .f32) (f : Fin 8 → Fin 32768 → Row 192)
    (h : ∀ (a : Fin 8) (i : Fin 32768) (l : Fin 192), u (ix4 (sequence i) (place i) a l) = f a i l) :
    truncf .bf16 (transpose S8x32768x192 [1, 0, 2] (shapeCast S32768x8x192 u shapeCasts_S8x4096x8x192_S32768x8x192)
      transposes_S32768x8x192_S8x32768x192_1_0_2) bitsLt_bf16_f32 = byHead f := by
  funext y
  refine Eq.trans ?_ (h ⟨(y 0).val, (y 0).isLt⟩ ⟨(y 1).val, (y 1).isLt⟩ ⟨(y 2).val, (y 2).isLt⟩)
  rw [idx3_eq y]
  pointwise

/-- The first result holds the queries. -/
theorem reference_queries : val_main_v151 (F := Ideal) x pos mod norm wd gq wq = byHead (mlaQuery x pos mod norm wd gq wq) := by
  have h := ref_query x pos mod norm wd gq wq
  unfold val_main_v151 val_main_v150 val_main_v149
  generalize val_main_v148 (F := Ideal) x pos mod norm wd gq wq = u at h ⊢
  exact heads_first u _ h

/-- The second holds the keys. -/
theorem reference_keys : val_main_v155 (F := Ideal) x pos mod norm wd gk wk = byHead (mlaKey x pos mod norm wd gk wk) := by
  have h := ref_key x pos mod norm wd gk wk
  unfold val_main_v155 val_main_v154 val_main_v153
  generalize val_main_v152 (F := Ideal) x pos mod norm wd gk wk = u at h ⊢
  exact heads_first u _ h

/-- The third holds the values. -/
theorem reference_values : val_main_v157 (F := Ideal) x mod norm wd gk wk = tokens (mlaValue x mod norm wd gk wk) := by
  funext y
  have h : val_main_v157 (F := Ideal) x mod norm wd gk wk y = val_main_v109 (F := Ideal) x mod norm wd gk wk
      (ix3 (sequence ⟨(y 0).val, (y 0).isLt⟩) (place ⟨(y 0).val, (y 0).isLt⟩)
        ⟨(y 1).val / 128 * 256 + 128 + (y 1).val % 128, by have : (y 1).val < 1024 := (y 1).isLt; omega⟩) := by
    unfold val_main_v157 val_main_v156 val_main_v112 val_main_v110
    generalize val_main_v109 (F := Ideal) x mod norm wd gk wk = u
    rw [idx2_eq y]
    pointwise
    exact congrArg (fun j => u (ix3 _ _ j)) (Fin.ext (Nat.add_assoc _ _ _).symm)
  exact h.trans (ref_key_columns x mod norm wd gk wk ⟨(y 0).val, (y 0).isLt⟩ _)

end Cert.Network.MlaIn
-- ==== Proof.Network.Modulation.lean ====
/- The modulation call: every layer's shifts, scales and gates from the conditioning rows. -/
module

public import proofs.«01_k».proof.Proof.Network.Rotary
public import proofs.«01_k».proof.Proof.Gen.ModulationIdeal.Frame

@[expose] public section

set_option maxRecDepth 16384

noncomputable section

namespace Cert.Network.Modulation

open Idealize.ShloMosaic Idealize.ShloMosaic.Pipeline

/-- The modulation of layer `l`: a conditioning row through `silu`, times the layer's matrix, plus its offsets. -/
def modulated (c : FVec Ideal ⟨2, ![8, 1024]⟩ .f32) (w : FVec Ideal ⟨3, ![4, 1024, 9216]⟩ .f32)
    (b : FVec Ideal ⟨2, ![4, 9216]⟩ .f32) (l : Fin 4) (r : Fin 8) : Row 9216 := fun j =>
  times (fun k => silu (c (ix2 r k))) (fun k j => w (ix3 l k j)) j + b (ix2 l j)

/-- The array of all layers' modulations. -/
def layers (c : FVec Ideal ⟨2, ![8, 1024]⟩ .f32) (w : FVec Ideal ⟨3, ![4, 1024, 9216]⟩ .f32)
    (b : FVec Ideal ⟨2, ![4, 9216]⟩ .f32) : FVec Ideal ⟨3, ![4, 8, 9216]⟩ .f32 := fun y =>
  modulated c w b ⟨(y 0).val, (y 0).isLt⟩ ⟨(y 1).val, (y 1).isLt⟩ ⟨(y 2).val, (y 2).isLt⟩

/-- A block of 1024 of its columns: block `t` holds columns of layer `t / 9`. -/
theorem eq_layers (t : ℕ) (y : (⟨3, ![1, 8, 1024]⟩ : Shape).Idx) (z : (⟨3, ![4, 8, 9216]⟩ : Shape).Idx) (ht : t < 36)
    (h0 : (z 0).val = t / 9) (h1 : (z 1).val = (y 1).val) (h2 : (z 2).val = t % 9 * 1024 + (y 2).val)
    (v : FVec Ideal ⟨3, ![1, 8, 1024]⟩ .f32) (f : Fin 4 → Fin 8 → Row 9216)
    (h : ∀ (r : Fin 8) (j : Fin 1024), v (ix3 0 r j) = f ⟨t / 9, by omega⟩ r ⟨t % 9 * 1024 + j.val, by omega⟩) :
    v y = f ⟨(z 0).val, (z 0).isLt⟩ ⟨(z 1).val, (z 1).isLt⟩ ⟨(z 2).val, (z 2).isLt⟩ := by
  have e : y = ix3 0 ⟨(y 1).val, (y 1).isLt⟩ ⟨(y 2).val, (y 2).isLt⟩ := by
    funext i
    match i with
    | 0 => exact Fin.ext (Nat.lt_one_iff.mp (y 0).isLt)
    | 1 => rfl
    | 2 => rfl
  refine (congrArg v e).trans ((h _ _).trans ?_)
  have e0 : (⟨t / 9, by omega⟩ : Fin 4) = ⟨(z 0).val, (z 0).isLt⟩ := Fin.ext h0.symm
  have e1 : (⟨(y 1).val, (y 1).isLt⟩ : Fin 8) = ⟨(z 1).val, (z 1).isLt⟩ := Fin.ext h1.symm
  exact congr (congr (congrArg f e0) e1) (Fin.ext h2.symm)

open Cert.ModulationIdeal Cert.ModulationIdeal.Facts₀ Cert.ModulationIdeal.Facts Cert.ModulationIdeal.Gen

/-- One block of 1024 columns. -/
theorem block_apply (x0 : Vec Ideal S8x1024 .f32) (x1 : Vec Ideal S1x1024x1024 .f32) (x2 : Vec Ideal S1x1x1024 .f32)
    (r : Fin 8) (j : Fin 1024) : k0_pay1 (View.ld x0 r0_0) (View.ld x1 r0_1) (View.ld x2 r0_2) (ix3 0 r j)
      = times (fun k => silu (x0 (ix2 r k))) (fun k j => x1 (ix3 0 k j)) j + x2 (ix3 0 0 j) := by
  simp only [← silu_eq]
  pointwise [k0_pay1, times]

variable (m : (ℓ : Loc nD τ sig) → Buf (Elt Ideal) ℓ) (c : Dev nD)

/-! The arguments, as vectors. -/

def arg0 : FVec Ideal S8x1024 .f32 := m (c, Proc.tc.devRef main_arg0)
def arg1 : FVec Ideal S4x1024x9216 .f32 := m (c, Proc.tc.devRef main_arg1)
def arg2 : FVec Ideal S4x9216 .f32 := m (c, Proc.tc.devRef main_arg2)

/-! Which block of each array a point fetches or writes. -/

theorem index_0 : ∀ t : Fin cfg0.N, win0_0.index t = ![0, 0] := by decide +kernel
theorem index_1 : ∀ t : Fin cfg0.N, win0_1.index t = ![t.val / 9, 0, t.val % 9] := by decide +kernel
theorem index_2 : ∀ t : Fin cfg0.N, win0_2.index t = ![t.val / 9, 0, t.val % 9] := by decide +kernel
theorem index_3 : ∀ t : Fin cfg0.N, win0_3.index t = ![t.val / 9, 0, t.val % 9] := by decide +kernel

/-! The blocks a point fetches, read off the arguments. -/

theorem block_0 (t : Fin 36) (r : Fin 8) (k : Fin 1024) : iblk m c 0 t (ix2 r k) = arg0 m c (ix2 r k) := by
  have h : iblk m c 0 t (ix2 r k) = V m c main_arg0 (ix2 r k) := by blk_ext [iblk, index_0 t]
  rw [h, V_main_arg0]
  rfl

theorem block_1 (t : Fin 36) (k j : Fin 1024) : iblk m c 1 t (ix3 0 k j)
    = arg1 m c (ix3 ⟨t.val / 9, by omega⟩ k ⟨t.val % 9 * 1024 + j.val, by omega⟩) := by
  have h : iblk m c 1 t (ix3 0 k j) = V m c main_arg1 (ix3 ⟨t.val / 9, by omega⟩ k ⟨t.val % 9 * 1024 + j.val, by omega⟩) := by
    blk_ext [iblk, index_1 t]
  rw [h, V_main_arg1]
  rfl

theorem block_2 (t : Fin 36) (j : Fin 1024) : iblk m c 2 t (ix3 0 0 j)
    = arg2 m c (ix2 ⟨t.val / 9, by omega⟩ ⟨t.val % 9 * 1024 + j.val, by omega⟩) := by
  have h : iblk m c 2 t (ix3 0 0 j) = V m c main_v0 (ix3 ⟨t.val / 9, by omega⟩ 0 ⟨t.val % 9 * 1024 + j.val, by omega⟩) := by
    blk_ext [iblk, index_2 t]
  rw [h]
  unfold arg2
  entry_read
  pointwise

/-- The result holds every layer's modulation. -/
theorem array_eq : (dats m 0 c).arrAt 3 cfg0.N = layers (arg0 m c) (arg1 m c) (arg2 m c) := by
  refine (dats m 0 c).arrAt_eq_of_covers 3 _ (by decide +kernel) fun t hf y => ?_
  blk_simp
  rw [after0_3]
  unfold out0_3
  rw [View.canon_unit_zero (by decide)]
  refine eq_layers t.val _ _ t.isLt (by blk_simp [index_3 t]) (by blk_simp [index_3 t]) (by blk_simp [index_3 t]) _ _ fun r j => ?_
  refine (block_apply _ _ _ _ _).trans ?_
  unfold modulated times
  refine congrArg₂ (· + ·) (Finset.sum_congr rfl fun k _ => congrArg₂ (· * ·) (congrArg silu ?_) ?_) ?_
  · exact block_0 m c t r k
  · exact block_1 m c t k j
  · exact block_2 m c t j

end Cert.Network.Modulation

end
-- ==== Proof.Network.ModulationReference.lean ====
/- The modulation as the reference writes it: the four layers one after the other. -/
module

public import proofs.«01_k».proof.Proof.Network.Modulation
public import proofs.«01_k».proof.Proof.Gen.ReferenceModulationIdeal.Read

@[expose] public section

set_option maxRecDepth 16384

noncomputable section

namespace Cert.Network.Modulation

open Idealize.ShloMosaic Cert.ReferenceModulationIdeal Cert.ReferenceModulationIdeal.Facts₀ Cert.ReferenceModulationIdeal.Facts
  Cert.ReferenceModulationIdeal.Read

variable (c : FVec Ideal S8x1024 .f32) (w : FVec Ideal S4x1024x9216 .f32) (b : FVec Ideal S4x9216 .f32)

/-! Each layer's modulation. -/

theorem ref_layer_0 (r : Fin 8) (j : Fin 9216) : val_main_v8 (F := Ideal) c w b (ix2 r j) = modulated c w b 0 r j := by
  pointwise [val_main_v8, val_main_v7, val_main_v6, val_main_v5, val_main_v4, val_main_v3, val_main_v2, val_main_v1,
    val_main_v0, val_main_call0_v5, val_main_call0_v4, val_main_call0_v3, val_main_call0_v2, val_main_call0_v1,
    val_main_call0_v0, val_main_call0_cst, val_main_call0_cst_0, modulated, times, silu, Ideal.logistic]

theorem ref_layer_1 (r : Fin 8) (j : Fin 9216) : val_main_v17 (F := Ideal) c w b (ix2 r j) = modulated c w b 1 r j := by
  pointwise [val_main_v17, val_main_v16, val_main_v15, val_main_v14, val_main_v13, val_main_v12, val_main_v11, val_main_v10,
    val_main_v9, val_main_call1_v5, val_main_call1_v4, val_main_call1_v3, val_main_call1_v2, val_main_call1_v1,
    val_main_call1_v0, val_main_call1_cst, val_main_call1_cst_0, modulated, times, silu, Ideal.logistic]

theorem ref_layer_2 (r : Fin 8) (j : Fin 9216) : val_main_v26 (F := Ideal) c w b (ix2 r j) = modulated c w b 2 r j := by
  pointwise [val_main_v26, val_main_v25, val_main_v24, val_main_v23, val_main_v22, val_main_v21, val_main_v20, val_main_v19,
    val_main_v18, val_main_call2_v5, val_main_call2_v4, val_main_call2_v3, val_main_call2_v2, val_main_call2_v1,
    val_main_call2_v0, val_main_call2_cst, val_main_call2_cst_0, modulated, times, silu, Ideal.logistic]

theorem ref_layer_3 (r : Fin 8) (j : Fin 9216) : val_main_v35 (F := Ideal) c w b (ix2 r j) = modulated c w b 3 r j := by
  pointwise [val_main_v35, val_main_v34, val_main_v33, val_main_v32, val_main_v31, val_main_v30, val_main_v29, val_main_v28,
    val_main_v27, val_main_call3_v5, val_main_call3_v4, val_main_call3_v3, val_main_call3_v2, val_main_call3_v1,
    val_main_call3_v0, val_main_call3_cst, val_main_call3_cst_0, modulated, times, silu, Ideal.logistic]

/-- The reference's result holds every layer's modulation. -/
theorem reference_eq : val_main_v40 (F := Ideal) c w b = layers c w b := by
  funext y
  have e : y = ix3 ⟨(y 0).val, (y 0).isLt⟩ ⟨(y 1).val, (y 1).isLt⟩ ⟨(y 2).val, (y 2).isLt⟩ := by
    funext i
    match i with
    | 0 => rfl
    | 1 => rfl
    | 2 => rfl
  have h (l : Fin 4) (r : Fin 8) (j : Fin 9216) : val_main_v40 (F := Ideal) c w b (ix3 l r j) = modulated c w b l r j := by
    unfold val_main_v40 val_main_v36 val_main_v37 val_main_v38 val_main_v39
    have l0 := ref_layer_0 c w b r j
    have l1 := ref_layer_1 c w b r j
    have l2 := ref_layer_2 c w b r j
    have l3 := ref_layer_3 c w b r j
    generalize val_main_v8 (F := Ideal) c w b = u0 at l0 ⊢
    generalize val_main_v17 (F := Ideal) c w b = u1 at l1 ⊢
    generalize val_main_v26 (F := Ideal) c w b = u2 at l2 ⊢
    generalize val_main_v35 (F := Ideal) c w b = u3 at l3 ⊢
    match l with
    | 0 => rw [← l0]; pointwise
    | 1 => rw [← l1]; pointwise
    | 2 => rw [← l2]; pointwise
    | 3 => rw [← l3]; pointwise
  exact (congrArg _ e).trans (h _ _ _)

end Cert.Network.Modulation

end
-- ==== Proof.Network.Gated.lean ====
/- The second half-step call of a layer with retention: what one point of its grid computes, and what its array holds. -/
module

public import proofs.«01_k».proof.Proof.Network.Rows
public import proofs.«01_k».proof.Proof.Gen.GatedIdeal.Frame

@[expose] public section

set_option maxRecDepth 16384

noncomputable section

namespace Cert.Network.Gated

open Idealize.ShloMosaic Idealize.ShloMosaic.Pipeline Cert.GatedIdeal Cert.GatedIdeal.Facts₀ Cert.GatedIdeal.Facts Cert.GatedIdeal.Gen

section Point

variable (x0 : Vec Ideal S512x1024 .f32) (x1 : Vec Ideal S512x2048 .bf16) (x2 : Vec Ideal S1x2048x1024 .bf16)
  (x3 : Vec Ideal S1x1x1x3x1024 .f32) (x4 : Vec Ideal S512x2048 .bf16) (x5 : Vec Ideal S1x1x2048 .f32) (x6 : Vec Ideal S1x1x2048 .f32)
  (x7 : Vec Ideal S1x1x1x3x1024 .f32) (x8 : Vec Ideal S1x1x1x1024 .f32) (x9 : Vec Ideal S1x1x1024x5632 .bf16)
  (x10 : Vec Ideal S1x1x2816x1024 .bf16)

/-- Row `r` of a block after the projection of the gated output of the retention. -/
def projected (r : Fin 512) : Row 1024 :=
  project (fun i => x0 (ix2 r i)) (fun i => x3 (ix5 0 0 0 2 i))
    (fun i => x4 (ix2 r i) * (x1 (ix2 r i) * x5 (ix3 0 0 i) + x6 (ix3 0 0 i))) (fun i j => x2 (ix3 0 i j))

/-- Row `r` of a block after the half-step on it. -/
def stepped (r : Fin 512) : Row 1024 :=
  halfStep (projected x0 x1 x2 x3 x4 x5 x6 r) (fun i => x8 (ix4 0 0 0 i)) (fun i => x7 (ix5 0 0 0 0 i)) (fun i => x7 (ix5 0 0 0 1 i))
    (fun i => x7 (ix5 0 0 0 2 i)) (fun i l => x9 (ix4 0 0 i l)) (fun l i => x10 (ix4 0 0 l i))

/-- The rows of a block. -/
theorem body_apply (r : Fin 512) (j : Fin 1024) :
    k0_pay1 (k0_pay7 x0 x1 x2 x3 x4 x5 x6 x7 x8 x9 x10) (k0_pay4 (k0_pay6 x0 x1 x2 x3 x4 x5 x6 x7 x8 x9 x10))
      (k0_pay5 (k0_pay6 x0 x1 x2 x3 x4 x5 x6 x7 x8 x9 x10) (k0_pay7 x0 x1 x2 x3 x4 x5 x6 x7 x8 x9 x10) (View.ld x8 r0_5)
        (View.ld x9 r0_6) (View.ld x9 r0_7)) (View.ld x10 r0_8) (ix2 r j)
      = stepped x0 x1 x2 x3 x4 x5 x6 x7 x8 x9 x10 r j := by
  pointwise [k0_pay1, k0_pay7, k0_pay4, k0_pay6, k0_pay5, k0_pay2, k0_pay3, stepped, projected, project, halfStep, swiglu, times,
    adaln, rms]
  simp only [silu_eq]

/-- Every row of a block. -/
theorem out_apply (r : Fin 512) (j : Fin 1024) : out0_11 x0 x1 x2 x3 x4 x5 x6 x7 x8 x9 x10 (ix2 r j)
    = stepped x0 x1 x2 x3 x4 x5 x6 x7 x8 x9 x10 r j := by
  unfold out0_11
  rw [View.canon_unit_zero (by decide)]
  exact body_apply x0 x1 x2 x3 x4 x5 x6 x7 x8 x9 x10 r j

end Point

section Launch

variable (m : (ℓ : Loc nD τ sig) → Buf (Elt Ideal) ℓ) (c : Dev nD)

/-! The arguments, as vectors. -/

def arg0 : FVec Ideal S8x4096x1024 .f32 := m (c, Proc.tc.devRef main_arg0)
def arg1 : FVec Ideal S8x4096x2048 .f32 := m (c, Proc.tc.devRef main_arg1)
def arg2 : FVec Ideal S8x4096x2048 .f32 := m (c, Proc.tc.devRef main_arg2)
def arg3 : FVec Ideal S4x8x9216 .f32 := m (c, Proc.tc.devRef main_arg3)
def arg4 : FVec Ideal S4x3x1024 .f32 := m (c, Proc.tc.devRef main_arg4)
def arg5 : FVec Ideal S4x2x1024x5632 .f32 := m (c, Proc.tc.devRef main_arg5)
def arg6 : FVec Ideal S4x2x2816x1024 .f32 := m (c, Proc.tc.devRef main_arg6)
def arg7 : FVec Ideal S2x2048x1024 .f32 := m (c, Proc.tc.devRef main_arg7)
def arg8 : FVec Ideal S2x2048 .f32 := m (c, Proc.tc.devRef main_arg8)
def arg9 : FVec Ideal S2x2048 .f32 := m (c, Proc.tc.devRef main_arg9)

/-! Which block of each array a point fetches or writes. -/

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![0, 0, 0] := by decide +kernel
theorem index_3 : ∀ t : Fin cfg0.N, win0_3.index t = ![0, t.val / 8, 1, 0, 0] := by decide +kernel
theorem index_4 : ∀ t : Fin cfg0.N, win0_4.index t = ![t.val, 0] := by decide +kernel
theorem index_5 : ∀ t : Fin cfg0.N, win0_5.index t = ![0, 0, 0] := by decide +kernel
theorem index_6 : ∀ t : Fin cfg0.N, win0_6.index t = ![0, 0, 0] := by decide +kernel
theorem index_7 : ∀ t : Fin cfg0.N, win0_7.index t = ![0, t.val / 8, 2, 0, 0] := by decide +kernel
theorem index_8 : ∀ t : Fin cfg0.N, win0_8.index t = ![0, 2, 0, 0] := by decide +kernel
theorem index_9 : ∀ t : Fin cfg0.N, win0_9.index t = ![0, 1, 0, 0] := by decide +kernel
theorem index_10 : ∀ t : Fin cfg0.N, win0_10.index t = ![0, 1, 0, 0] := by decide +kernel
theorem index_11 : ∀ t : Fin cfg0.N, win0_11.index t = ![t.val, 0] := by decide +kernel

/-! The blocks a point fetches, read off the arguments. -/

theorem block_0 (t : Fin 64) (r : Fin 512) (k : Fin 1024) :
    iblk m c 0 t (ix2 r k) = token (arg0 m c) ⟨t.val * 512 + r.val, by omega⟩ k := by
  have h : iblk m c 0 t (ix2 r k) = V m c main_v0 (ix2 ⟨t.val * 512 + r.val, by omega⟩ k) := by blk_ext [iblk, index_0 t]
  rw [h]
  unfold token arg0
  entry_read
  pointwise

theorem block_1 (t : Fin 64) (r : Fin 512) (k : Fin 2048) :
    iblk m c 1 t (ix2 r k) = token (arg1 m c) ⟨t.val * 512 + r.val, by omega⟩ k := by
  have h : iblk m c 1 t (ix2 r k) = V m c main_v6 (ix2 ⟨t.val * 512 + r.val, by omega⟩ k) := by blk_ext [iblk, index_1 t]
  rw [h]
  unfold token arg1
  entry_read
  pointwise

theorem block_2 (t : Fin 64) (k : Fin 2048) (j : Fin 1024) : iblk m c 2 t (ix3 0 k j) = arg7 m c (ix3 0 k j) := by
  have h : iblk m c 2 t (ix3 0 k j) = V m c main_v16 (ix3 0 k j) := by blk_ext [iblk, index_2 t]
  rw [h]
  unfold arg7
  entry_read
  pointwise

theorem block_3 (t : Fin 64) (r : Fin 512) (p : Fin 3) (k : Fin 1024) : iblk m c 3 t (ix5 0 0 0 p k)
    = modulation (arg3 m c) 0 ⟨3 + p.val, by omega⟩ ⟨t.val * 512 + r.val, by omega⟩ k := by
  have h : iblk m c 3 t (ix5 0 0 0 p k) = V m c main_v1 (ix5 0 ⟨(t.val * 512 + r.val) / 4096, by omega⟩ 1 p k) := by
    blk_ext [iblk, index_3 t]
  rw [h]
  unfold modulation arg3
  entry_read
  pointwise
  exact congrArg (fun k => arg3 m c (ix3 0 _ k)) (Fin.ext (by dsimp only; omega))

/-- The swish gate is applied on the host. -/
theorem block_4 (t : Fin 64) (r : Fin 512) (k : Fin 2048) :
    iblk m c 4 t (ix2 r k) = silu (token (arg2 m c) ⟨t.val * 512 + r.val, by omega⟩ k) := by
  have h : iblk m c 4 t (ix2 r k) = V m c main_v15 (ix2 ⟨t.val * 512 + r.val, by omega⟩ k) := by blk_ext [iblk, index_4 t]
  rw [h]
  unfold silu Ideal.logistic token arg2
  entry_read
  pointwise

theorem block_5 (t : Fin 64) (k : Fin 2048) : iblk m c 5 t (ix3 0 0 k) = arg8 m c (ix2 0 k) := by
  have h : iblk m c 5 t (ix3 0 0 k) = V m c main_v17 (ix3 0 0 k) := by blk_ext [iblk, index_5 t]
  rw [h]
  unfold arg8
  entry_read
  pointwise

theorem block_6 (t : Fin 64) (k : Fin 2048) : iblk m c 6 t (ix3 0 0 k) = arg9 m c (ix2 0 k) := by
  have h : iblk m c 6 t (ix3 0 0 k) = V m c main_v18 (ix3 0 0 k) := by blk_ext [iblk, index_6 t]
  rw [h]
  unfold arg9
  entry_read
  pointwise

theorem block_7 (t : Fin 64) (r : Fin 512) (p : Fin 3) (k : Fin 1024) : iblk m c 7 t (ix5 0 0 0 p k)
    = modulation (arg3 m c) 0 ⟨6 + p.val, by omega⟩ ⟨t.val * 512 + r.val, by omega⟩ k := by
  have h : iblk m c 7 t (ix5 0 0 0 p k) = V m c main_v1 (ix5 0 ⟨(t.val * 512 + r.val) / 4096, by omega⟩ 2 p k) := by
    blk_ext [iblk, index_7 t]
  rw [h]
  unfold modulation arg3
  entry_read
  pointwise
  exact congrArg (fun k => arg3 m c (ix3 0 _ k)) (Fin.ext (by dsimp only; omega))

theorem block_8 (t : Fin 64) (k : Fin 1024) : iblk m c 8 t (ix4 0 0 0 k) = arg4 m c (ix3 0 2 k) := by
  have h : iblk m c 8 t (ix4 0 0 0 k) = V m c main_v2 (ix4 0 2 0 k) := by blk_ext [iblk, index_8 t]
  rw [h]
  unfold arg4
  entry_read
  pointwise

theorem block_9 (t : Fin 64) (i : Fin 1024) (l : Fin 5632) : iblk m c 9 t (ix4 0 0 i l) = arg5 m c (ix4 0 1 i l) := by
  have h : iblk m c 9 t (ix4 0 0 i l) = V m c main_v3 (ix4 0 1 i l) := by blk_ext [iblk, index_9 t]
  rw [h]
  unfold arg5
  entry_read
  pointwise

theorem block_10 (t : Fin 64) (l : Fin 2816) (i : Fin 1024) : iblk m c 10 t (ix4 0 0 l i) = arg6 m c (ix4 0 1 l i) := by
  have h : iblk m c 10 t (ix4 0 0 l i) = V m c main_v4 (ix4 0 1 l i) := by blk_ext [iblk, index_10 t]
  rw [h]
  unfold arg6
  entry_read
  pointwise

/-- The call's result holds, for every token, the projection of the gated row and the half-step after it. -/
theorem array_eq : (dats m 0 c).arrAt 11 cfg0.N = ofRows fun i => outer (arg3 m c) (arg4 m c) (arg5 m c) (arg6 m c) 0 i
    (token (arg0 m c) i) (swish (token (arg1 m c) i) (token (arg2 m c) i) (fun k => arg8 m c (ix2 0 k)) (fun k => arg9 m c (ix2 0 k)))
    (fun k j => arg7 m c (ix3 0 k j)) := by
  refine (dats m 0 c).arrAt_eq_of_covers 11 _ (by decide +kernel) fun t hf y => ?_
  blk_simp
  rw [after0_11]
  refine eq_ofRows_half t.val _ _ t.isLt (by blk_simp [index_11 t]) (by blk_simp [index_11 t]) _ _ fun r j => ?_
  refine (out_apply _ _ _ _ _ _ _ _ _ _ _ r j).trans ?_
  unfold stepped projected outer network
  congr 1
  · congr 1
    · exact funext fun k => block_0 m c t r k
    · exact funext fun k => block_3 m c t r 2 k
    · refine funext fun k => ?_
      unfold swish
      exact congrArg₂ (· * ·) (block_4 m c t r k) (congrArg₂ (· + ·) (congrArg₂ (· * ·) (block_1 m c t r k) (block_5 m c t k))
        (block_6 m c t k))
    · exact funext fun k => funext fun j => block_2 m c t k j
  · exact funext fun k => block_8 m c t k
  · exact funext fun k => block_7 m c t r 0 k
  · exact funext fun k => block_7 m c t r 1 k
  · exact funext fun k => block_7 m c t r 2 k
  · exact funext fun i => funext fun l => block_9 m c t i l
  · exact funext fun l => funext fun i => block_10 m c t l i

end Launch

end Cert.Network.Gated

end
-- ==== Proof.Network.GatedReference.lean ====
/- A layer with retention from the normed output of the retention on, as the reference writes it, read at every token. -/
module

public import proofs.«01_k».proof.Proof.Network.Rows
public import proofs.«01_k».proof.Proof.Gen.ReferenceGatedIdeal.Read

@[expose] public section

set_option maxRecDepth 16384

noncomputable section

namespace Cert.Network.Gated

open Idealize.ShloMosaic Cert.ReferenceGatedIdeal Cert.ReferenceGatedIdeal.Facts₀ Cert.ReferenceGatedIdeal.Facts
  Cert.ReferenceGatedIdeal.Read

variable (x : FVec Ideal S8x4096x1024 .f32) (y g : FVec Ideal S8x4096x2048 .f32) (mod : FVec Ideal S4x8x9216 .f32)
  (norm : FVec Ideal S4x3x1024 .f32) (wi : FVec Ideal S4x2x1024x5632 .f32) (wo : FVec Ideal S4x2x2816x1024 .f32)
  (wp : FVec Ideal S2x2048x1024 .f32) (gain offset : FVec Ideal S2x2048 .f32)

/-- The row under the swish gate. -/
theorem ref_swish (b : Fin 8) (s : Fin 4096) (k : Fin 2048) : val_main_v22 (F := Ideal) y g gain offset (ix3 b s k)
    = swish (fun i => y (ix3 b s i)) (fun i => g (ix3 b s i)) (fun i => gain (ix2 0 i)) (fun i => offset (ix2 0 i)) k := by
  pointwise [val_main_v22, val_main_v21, val_main_call0_v5, val_main_call0_v4, val_main_call0_cst_0, val_main_call0_v3,
    val_main_call0_v2, val_main_call0_cst, val_main_call0_v1, val_main_call0_v0, val_main_v20, val_main_v19, val_main_v18,
    val_main_v17, val_main_v16, val_main_v15, val_main_v14, val_main_v13, val_main_v12, val_main_v11, swish, silu, Ideal.logistic]

/-- The row after the projection of the gated row. -/
theorem ref_project (b : Fin 8) (s : Fin 4096) (j : Fin 1024) : val_main_v29 (F := Ideal) x y g mod wp gain offset (ix3 b s j)
    = project (fun i => x (ix3 b s i)) (fun i => mod (ix3 0 b ⟨5120 + i.val, by omega⟩))
        (fun k => val_main_v22 (F := Ideal) y g gain offset (ix3 b s k)) (fun k j => wp (ix3 0 k j)) j := by
  unfold val_main_v29 val_main_v28 val_main_v25
  generalize val_main_v22 (F := Ideal) y g gain offset = z
  pointwise [val_main_v27, val_main_v26, val_main_v24, val_main_v23, val_main_v7, val_main_v1, val_main_v0, project, times]

/-- The normed and modulated row. -/
theorem ref_adaln (b : Fin 8) (s : Fin 4096) (k : Fin 1024) : val_main_v52 (F := Ideal) x y g mod norm wp gain offset (ix3 b s k)
    = adaln (fun i => val_main_v29 (F := Ideal) x y g mod wp gain offset (ix3 b s i)) (fun i => norm (ix3 0 2 i))
        (fun i => mod (ix3 0 b ⟨6144 + i.val, by omega⟩)) (fun i => mod (ix3 0 b ⟨7168 + i.val, by omega⟩)) k := by
  unfold val_main_v52 val_main_v49 val_main_v44 val_main_v41 val_main_v40 val_main_v39 val_main_v38 val_main_v36 val_main_v34
    val_main_v33 val_main_v32
  generalize val_main_v29 (F := Ideal) x y g mod wp gain offset = u
  pointwise [val_main_v51, val_main_v50, val_main_v48, val_main_v47, val_main_v46, val_main_cst_2, val_main_v45, val_main_v43,
    val_main_v42, val_main_v37, val_main_cst_1, val_main_v35, val_main_cst_0, val_main_cst, val_main_v31, val_main_v30, val_main_v9,
    val_main_v8, val_main_v1, val_main_v0, adaln, rms]

/-- The product with the first matrix. -/
theorem ref_wide (b : Fin 8) (s : Fin 4096) (l : Fin 5632) : val_main_v60 (F := Ideal) x y g mod norm wi wp gain offset (ix3 b s l)
    = times (fun k => val_main_v52 (F := Ideal) x y g mod norm wp gain offset (ix3 b s k)) (fun k l => wi (ix4 0 1 k l)) l := by
  unfold val_main_v60
  generalize val_main_v52 (F := Ideal) x y g mod norm wp gain offset = h
  pointwise [val_main_v57, val_main_v56, times]

/-- The gated product. -/
theorem ref_gate (b : Fin 8) (s : Fin 4096) (l : Fin 2816) : val_main_v64 (F := Ideal) x y g mod norm wi wp gain offset (ix3 b s l)
    = silu (val_main_v60 (F := Ideal) x y g mod norm wi wp gain offset (ix3 b s ⟨l.val, by omega⟩))
      * val_main_v60 (F := Ideal) x y g mod norm wi wp gain offset (ix3 b s ⟨2816 + l.val, by omega⟩) := by
  unfold val_main_v64 val_main_v63 val_main_call1_v5 val_main_call1_v3 val_main_call1_v1 val_main_call1_v0 val_main_v62 val_main_v61
  generalize val_main_v60 (F := Ideal) x y g mod norm wi wp gain offset = h
  pointwise [val_main_call1_v4, val_main_call1_v2, val_main_call1_cst, val_main_call1_cst_0, silu, Ideal.logistic]

/-- The rows after the half-step, before they are laid out as tokens. -/
theorem ref_step (b : Fin 8) (s : Fin 4096) (j : Fin 1024) : val_main_v68 (F := Ideal) x y g mod norm wi wo wp gain offset (ix3 b s j)
    = val_main_v29 (F := Ideal) x y g mod wp gain offset (ix3 b s j) + Ideal.ofBits .f32 0x3F000000#32 * mod (ix3 0 b ⟨8192 + j.val, by omega⟩)
      * times (fun l => val_main_v64 (F := Ideal) x y g mod norm wi wp gain offset (ix3 b s l)) (fun l j => wo (ix4 0 1 l j)) j := by
  unfold val_main_v68 val_main_v67 val_main_v65
  generalize val_main_v64 (F := Ideal) x y g mod norm wi wp gain offset = h
  generalize val_main_v29 (F := Ideal) x y g mod wp gain offset = u
  pointwise [val_main_v66, val_main_v59, val_main_v58, val_main_v55, val_main_v54, val_main_cst_3, val_main_v53, val_main_v10,
    val_main_v1, val_main_v0, times]

/-- The reference's result holds, for every token, the projection of the gated row and the half-step. -/
theorem reference_eq : val_main_v69 (F := Ideal) x y g mod norm wi wo wp gain offset
    = ofRows fun i => outer mod norm wi wo 0 i (token x i) (swish (token y i) (token g i) (fun k => gain (ix2 0 k))
        (fun k => offset (ix2 0 k))) (fun k j => wp (ix3 0 k j)) := by
  funext a
  have h : val_main_v69 (F := Ideal) x y g mod norm wi wo wp gain offset a = val_main_v68 (F := Ideal) x y g mod norm wi wo wp gain offset
      (ix3 ⟨(a 0).val / 4096, by have := (a 0).isLt; simp at this; omega⟩ ⟨(a 0).val % 4096, by omega⟩ ⟨(a 1).val, (a 1).isLt⟩) := by
    unfold val_main_v69
    generalize val_main_v68 (F := Ideal) x y g mod norm wi wo wp gain offset = u
    rw [idx2_eq a]
    pointwise
  rw [h, ref_step]
  simp only [ref_gate, ref_wide, ref_adaln, ref_project, ref_swish]
  simp only [ofRows, outer, network, halfStep, swiglu, modulation, token, project]
  rfl

end Cert.Network.Gated

end
-- ==== Proof.lean ====
module

public import proofs.«01_k».proof.Proof.Attention.Array
public import proofs.«01_k».proof.Proof.Attention.Reference
public import proofs.«01_k».proof.Proof.Attention.Finite
public import proofs.«01_k».proof.Proof.Network.Ffn
public import proofs.«01_k».proof.Proof.Network.FfnReference
public import proofs.«01_k».proof.Proof.Network.Pre
public import proofs.«01_k».proof.Proof.Network.PreReference
public import proofs.«01_k».proof.Proof.Network.Final
public import proofs.«01_k».proof.Proof.Network.FinalReference
public import proofs.«01_k».proof.Proof.Network.RetIn
public import proofs.«01_k».proof.Proof.Network.RetInResults
public import proofs.«01_k».proof.Proof.Network.MlaInResults
public import proofs.«01_k».proof.Proof.Network.MlaInReferenceResults
public import proofs.«01_k».proof.Proof.Network.Modulation
public import proofs.«01_k».proof.Proof.Network.ModulationReference
public import proofs.«01_k».proof.Proof.Network.Gated
public import proofs.«01_k».proof.Proof.Network.GatedReference
public import proofs.«01_k».proof.Proof.Gen.ReferenceIdeal.Run
public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.ReferenceFfnIdeal
public import proofs.«01_k».proof.Proof.Gen.ReferenceFfnIdeal.Run
public import proofs.«01_k».proof.Proof.Gen.ReferenceFfnIdeal.Read
public import proofs.«01_k».proof.Proof.Gen.Pre
public import proofs.«01_k».proof.Proof.Gen.Pre.Frame
public import proofs.«01_k».proof.Proof.Gen.PreIdeal
public import proofs.«01_k».proof.Proof.Gen.PreIdeal.Frame
public import proofs.«01_k».proof.Proof.Gen.ReferencePreIdeal
public import proofs.«01_k».proof.Proof.Gen.ReferencePreIdeal.Run
public import proofs.«01_k».proof.Proof.Gen.ReferencePreIdeal.Read
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.ReferenceFinalIdeal
public import proofs.«01_k».proof.Proof.Gen.ReferenceFinalIdeal.Run
public import proofs.«01_k».proof.Proof.Gen.ReferenceFinalIdeal.Read
public import proofs.«01_k».proof.Proof.Gen.Gated
public import proofs.«01_k».proof.Proof.Gen.Gated.Frame
public import proofs.«01_k».proof.Proof.Gen.GatedIdeal
public import proofs.«01_k».proof.Proof.Gen.GatedIdeal.Frame
public import proofs.«01_k».proof.Proof.Gen.ReferenceGatedIdeal
public import proofs.«01_k».proof.Proof.Gen.ReferenceGatedIdeal.Run
public import proofs.«01_k».proof.Proof.Gen.ReferenceGatedIdeal.Read
public import proofs.«01_k».proof.Proof.Gen.RetIn
public import proofs.«01_k».proof.Proof.Gen.RetIn.Frame
public import proofs.«01_k».proof.Proof.Gen.RetInIdeal
public import proofs.«01_k».proof.Proof.Gen.RetInIdeal.Frame
public import proofs.«01_k».proof.Proof.Gen.ReferenceRetInIdeal
public import proofs.«01_k».proof.Proof.Gen.ReferenceRetInIdeal.Run
public import proofs.«01_k».proof.Proof.Gen.ReferenceRetInIdeal.Read
public import proofs.«01_k».proof.Proof.Gen.MlaIn
public import proofs.«01_k».proof.Proof.Gen.MlaIn.Frame
public import proofs.«01_k».proof.Proof.Gen.MlaInIdeal
public import proofs.«01_k».proof.Proof.Gen.MlaInIdeal.Frame
public import proofs.«01_k».proof.Proof.Gen.ReferenceMlaInIdeal
public import proofs.«01_k».proof.Proof.Gen.ReferenceMlaInIdeal.Run
public import proofs.«01_k».proof.Proof.Gen.ReferenceMlaInIdeal.Read
public import proofs.«01_k».proof.Proof.Gen.Modulation
public import proofs.«01_k».proof.Proof.Gen.Modulation.Frame
public import proofs.«01_k».proof.Proof.Gen.ModulationIdeal
public import proofs.«01_k».proof.Proof.Gen.ModulationIdeal.Frame
public import proofs.«01_k».proof.Proof.Gen.ReferenceModulationIdeal
public import proofs.«01_k».proof.Proof.Gen.ReferenceModulationIdeal.Run
public import proofs.«01_k».proof.Proof.Gen.ReferenceModulationIdeal.Read
public import Idealize.ShloMosaic.Adequacy
public import Idealize.ShloMosaic.Init

@[expose] public section

noncomputable section

namespace Cert.Proof

open Idealize.ShloMosaic Idealize.SL.Sem Cert.Attention Cert.Network

/-- The reference keeps its arguments and no semaphore is left raised. -/
theorem reference_frame : Cert.quiescent_ReferenceIdeal := by
  intro m g _
  hlo_run
  · exact fun _ => ⟨trivial, trivial, trivial, trivial, trivial⟩
  exact Idealize.ShloMosaic.sem_eq_zero_of_no_sems (sig := Cert.ReferenceIdeal.sig) (by decide) _

/-- The kernel's result is the reference's, where the queries and keys are finite. -/
theorem attention_value : Cert.algebraic_KernelIdeal_ReferenceIdeal_pre_finite_scores := by
  pair_intro
  · run_from Cert.KernelIdeal.Gen.run_main m g
  hlo_run
  obtain ⟨p0, p1, p2, p3⟩ := hpre c
  have h0 (i) := entry_real (arg0 m c) _ p0 i
  have h1 (i) := entry_real (arg1 m c) _ p1 i
  have h2 (i) := entry_real (arg2 m c) _ p2 i
  have h3 (i) := entry_real (arg3 m c) _ p3 i
  refine (Cert.ReferenceIdeal.Read.val_main_v20_eq (F := Ideal) (arg0 m c) (arg1 m c) (arg2 m c) (arg3 m c) (arg4 m c)).trans ?_
  refine (reference_attention _ _ _ _ _ (fun b s h d => (arg0 m c (ix4 b s h d)).toReal) (fun b s h d => (arg1 m c (ix4 b s h d)).toReal)
    (fun b s h d => (arg2 m c (ix4 b s h d)).toReal) (fun b s d => (arg3 m c (ix3 b s d)).toReal)
    (fun _ _ _ _ => h0 _) (fun _ _ _ _ => h1 _) (fun _ _ _ _ => h2 _) (fun _ _ _ => h3 _)).trans ?_
  exact (array_eq m c _ _ _ _ (fun _ _ _ _ => h0 _) (fun _ _ _ _ => h1 _) (fun _ _ _ _ => h2 _) (fun _ _ _ => h3 _)).symm

theorem ffn_reference_frame : Cert.quiescent_ReferenceFfnIdeal := by
  intro m g _
  hlo_run
  · exact fun _ => ⟨trivial, trivial, trivial, trivial, trivial⟩
  exact Idealize.ShloMosaic.sem_eq_zero_of_no_sems (sig := Cert.ReferenceFfnIdeal.sig) (by decide) _

/-- The result of the first half-step is the reference's. -/
theorem ffn_value : Cert.algebraic_FfnIdeal_ReferenceFfnIdeal := by
  pair_intro
  · run_from Cert.FfnIdeal.Gen.run_main m g
  refine (θ_run Cert.ReferenceFfnIdeal.defs _ _).mono (fun r h c => ⟨(h c).1.trans ?_, (h c).2⟩) (Cert.ReferenceFfnIdeal.Value.run m' g')
  obtain ⟨e0, e1, e2, e3, e4⟩ := hagree c
  rw [Cert.ReferenceFfnIdeal.Read.val_main_v50_eq, e0, e1, e2, e3, e4]
  exact (Ffn.reference_eq _ _ _ _ _).trans (Ffn.array_eq m c).symm

theorem pre_reference_frame : Cert.quiescent_ReferencePreIdeal := by
  intro m g _
  hlo_run
  · exact fun _ => ⟨trivial, trivial, trivial, trivial, trivial, trivial, trivial⟩
  exact Idealize.ShloMosaic.sem_eq_zero_of_no_sems (sig := Cert.ReferencePreIdeal.sig) (by decide) _

/-- The result of the projection and the half-step after an attention is the reference's. -/
theorem pre_value : Cert.algebraic_PreIdeal_ReferencePreIdeal := by
  pair_intro
  · run_from Cert.PreIdeal.Gen.run_main m g
  refine (θ_run Cert.ReferencePreIdeal.defs _ _).mono (fun r h c => ⟨(h c).1.trans ?_, (h c).2⟩) (Cert.ReferencePreIdeal.Value.run m' g')
  obtain ⟨e0, e1, e2, e3, e4, e5, e6⟩ := hagree c
  rw [Cert.ReferencePreIdeal.Read.val_main_v58_eq, e0, e1, e2, e3, e4, e5, e6]
  exact (Pre.reference_eq _ _ _ _ _ _ _).trans (Pre.array_eq m c).symm

theorem final_reference_frame : Cert.quiescent_ReferenceFinalIdeal := by
  intro m g _
  hlo_run
  · exact fun _ => ⟨trivial, trivial, trivial, trivial, trivial, trivial, trivial, trivial⟩
  exact Idealize.ShloMosaic.sem_eq_zero_of_no_sems (sig := Cert.ReferenceFinalIdeal.sig) (by decide) _

/-- The result of the last call, which gives the stack's result is the reference's. -/
theorem final_value : Cert.algebraic_FinalIdeal_ReferenceFinalIdeal := by
  pair_intro
  · run_from Cert.FinalIdeal.Gen.run_main m g
  refine (θ_run Cert.ReferenceFinalIdeal.defs _ _).mono (fun r h c => ⟨(h c).1.trans ?_, (h c).2⟩) (Cert.ReferenceFinalIdeal.Value.run m' g')
  obtain ⟨e0, e1, e2, e3, e4, e5, e6, e7⟩ := hagree c
  rw [Cert.ReferenceFinalIdeal.Read.val_main_v71_eq, e0, e1, e2, e3, e4, e5, e6, e7]
  exact (Final.reference_eq _ _ _ _ _ _ _ _).trans (Final.array_eq m c).symm

theorem gated_reference_frame : Cert.quiescent_ReferenceGatedIdeal := by
  intro m g _
  hlo_run
  · exact fun _ => ⟨trivial, trivial, trivial, trivial, trivial, trivial, trivial, trivial, trivial, trivial⟩
  exact Idealize.ShloMosaic.sem_eq_zero_of_no_sems (sig := Cert.ReferenceGatedIdeal.sig) (by decide) _

/-- The result of the projection and the half-step after a retention is the reference's. -/
theorem gated_value : Cert.algebraic_GatedIdeal_ReferenceGatedIdeal := by
  pair_intro
  · run_from Cert.GatedIdeal.Gen.run_main m g
  refine (θ_run Cert.ReferenceGatedIdeal.defs _ _).mono (fun r h c => ⟨(h c).1.trans ?_, (h c).2⟩) (Cert.ReferenceGatedIdeal.Value.run m' g')
  obtain ⟨e0, e1, e2, e3, e4, e5, e6, e7, e8, e9⟩ := hagree c
  rw [Cert.ReferenceGatedIdeal.Read.val_main_v69_eq, e0, e1, e2, e3, e4, e5, e6, e7, e8, e9]
  exact (Gated.reference_eq _ _ _ _ _ _ _ _ _ _).trans (Gated.array_eq m c).symm

/-! ### The retention's inputs -/

theorem ret_in_reference_frame : Cert.quiescent_ReferenceRetInIdeal := by
  intro m g _
  hlo_run
  · exact fun _ => ⟨trivial, trivial, trivial, trivial, trivial⟩
  exact Idealize.ShloMosaic.sem_eq_zero_of_no_sems (sig := Cert.ReferenceRetInIdeal.sig) (by decide) _

set_option maxHeartbeats 1000000 in
/-- Over the reals the call computes the reference's queries, keys, values and gates from any agreeing memories. -/
theorem ret_in_value : Cert.algebraic_RetInIdeal_ReferenceRetInIdeal := by
  pair_intro
  · run_from Cert.RetInIdeal.Gen.run_main m g
  refine (θ_run Cert.ReferenceRetInIdeal.defs _ _).mono
    (fun r h c => ⟨(h c).1.trans ?_, (h c).2.1.trans ?_, (h c).2.2.1.trans ?_, (h c).2.2.2.1.trans ?_, (h c).2.2.2.2⟩)
    (Cert.ReferenceRetInIdeal.Value.run m' g')
  all_goals obtain ⟨e0, e1, e2, e3, e4⟩ := hagree c
  · refine (Cert.ReferenceRetInIdeal.Read.val_main_v111_eq m' c).trans ?_
    rw [e0, e1, e2, e3, e4]
    exact (RetIn.reference_queries _ _ _ _ _).trans (RetIn.queries_eq m c).symm
  · refine (Cert.ReferenceRetInIdeal.Read.val_main_v113_eq m' c).trans ?_
    rw [e0, e1, e2, e3, e4]
    exact (RetIn.reference_keys _ _ _ _ _).trans (RetIn.keys_eq m c).symm
  · refine (Cert.ReferenceRetInIdeal.Read.val_main_v115_eq _ _ _ _).trans ?_
    rw [e0, e2, e3, e4]
    exact (RetIn.reference_values _ _ _ _).trans (RetIn.values_eq m c).symm
  · refine (Cert.ReferenceRetInIdeal.Read.val_main_v117_eq m' c).trans ?_
    rw [e0, e2, e3, e4]
    exact (RetIn.reference_gates _ _ _ _).trans (RetIn.gates_eq m c).symm

/-! ### The attention's inputs -/

theorem mla_in_reference_frame : Cert.quiescent_ReferenceMlaInIdeal := by
  intro m g _
  hlo_run
  · exact fun _ => ⟨trivial, trivial, trivial, trivial, trivial, trivial, trivial, trivial, trivial⟩
  exact Idealize.ShloMosaic.sem_eq_zero_of_no_sems (sig := Cert.ReferenceMlaInIdeal.sig) (by decide) _

set_option maxHeartbeats 1000000 in
/-- Over the reals the call computes the reference's queries, keys and values from any agreeing memories. -/
theorem mla_in_value : Cert.algebraic_MlaInIdeal_ReferenceMlaInIdeal := by
  pair_intro
  · run_from Cert.MlaInIdeal.Gen.run_main m g
  refine (θ_run Cert.ReferenceMlaInIdeal.defs _ _).mono
    (fun r h c => ⟨(h c).1.trans ?_, (h c).2.1.trans ?_, (h c).2.2.1.trans ?_, (h c).2.2.2⟩)
    (Cert.ReferenceMlaInIdeal.Value.run m' g')
  all_goals obtain ⟨e0, e1, e2, e3, e4, e5, e6, e7, e8⟩ := hagree c
  · refine (Cert.ReferenceMlaInIdeal.Read.val_main_v151_eq m' c).trans ?_
    rw [e0, e1, e2, e3, e4, e5, e7]
    exact (MlaIn.reference_queries _ _ _ _ _ _ _).trans (MlaIn.queries_eq m c).symm
  · refine (Cert.ReferenceMlaInIdeal.Read.val_main_v155_eq m' c).trans ?_
    rw [e0, e1, e2, e3, e4, e6, e8]
    exact (MlaIn.reference_keys _ _ _ _ _ _ _).trans (MlaIn.keys_eq m c).symm
  · refine (Cert.ReferenceMlaInIdeal.Read.val_main_v157_eq m' c).trans ?_
    rw [e0, e2, e3, e4, e6, e8]
    exact (MlaIn.reference_values _ _ _ _ _ _).trans (MlaIn.values_eq m c).symm

/-! ### The modulation -/

theorem modulation_reference_frame : Cert.quiescent_ReferenceModulationIdeal := by
  intro m g _
  hlo_run
  · exact fun _ => ⟨trivial, trivial, trivial⟩
  exact Idealize.ShloMosaic.sem_eq_zero_of_no_sems (sig := Cert.ReferenceModulationIdeal.sig) (by decide) _

/-- Over the reals the call computes the reference's modulation from any agreeing memories. -/
theorem modulation_value : Cert.algebraic_ModulationIdeal_ReferenceModulationIdeal := by
  pair_intro
  · run_from Cert.ModulationIdeal.Gen.run_main m g
  refine (θ_run Cert.ReferenceModulationIdeal.defs _ _).mono (fun r h c => ⟨(h c).1.trans ?_, (h c).2⟩) (Cert.ReferenceModulationIdeal.Value.run m' g')
  obtain ⟨e0, e1, e2⟩ := hagree c
  refine (Cert.ReferenceModulationIdeal.Read.val_main_v40_eq _ _ _).trans ?_
  rw [e0, e1, e2]
  exact (Modulation.reference_eq _ _ _).trans (Modulation.array_eq m c).symm

theorem claim : Cert.Claim := ⟨Cert.Kernel.Gen.facts, Cert.KernelIdeal.Gen.facts, Cert.ReferenceIdeal.Gen.facts,
  Cert.Ffn.Gen.facts, Cert.FfnIdeal.Gen.facts, Cert.ReferenceFfnIdeal.Gen.facts,
  Cert.Pre.Gen.facts, Cert.PreIdeal.Gen.facts, Cert.ReferencePreIdeal.Gen.facts,
  Cert.Final.Gen.facts, Cert.FinalIdeal.Gen.facts, Cert.ReferenceFinalIdeal.Gen.facts,
  Cert.Gated.Gen.facts, Cert.GatedIdeal.Gen.facts, Cert.ReferenceGatedIdeal.Gen.facts,
  Cert.RetIn.Gen.facts, Cert.RetInIdeal.Gen.facts, Cert.ReferenceRetInIdeal.Gen.facts,
  Cert.MlaIn.Gen.facts, Cert.MlaInIdeal.Gen.facts, Cert.ReferenceMlaInIdeal.Gen.facts,
  Cert.Modulation.Gen.facts, Cert.ModulationIdeal.Gen.facts, Cert.ReferenceModulationIdeal.Gen.facts,
  preFacts, fun m g _ => Cert.Kernel.Gen.frame m g, fun m g _ => Cert.KernelIdeal.Gen.frame m g,
  fun m g _ => Cert.KernelIdeal.Gen.frame m g, reference_frame, fun m g _ => reference_frame m g trivial,
  fun m g _ => Cert.Ffn.Gen.frame m g, fun m g _ => Cert.FfnIdeal.Gen.frame m g, ffn_reference_frame,
  fun m g _ => Cert.Pre.Gen.frame m g, fun m g _ => Cert.PreIdeal.Gen.frame m g, pre_reference_frame,
  fun m g _ => Cert.Final.Gen.frame m g, fun m g _ => Cert.FinalIdeal.Gen.frame m g, final_reference_frame,
  fun m g _ => Cert.Gated.Gen.frame m g, fun m g _ => Cert.GatedIdeal.Gen.frame m g, gated_reference_frame,
  fun m g _ => Cert.RetIn.Gen.frame m g, fun m g _ => Cert.RetInIdeal.Gen.frame m g, ret_in_reference_frame,
  fun m g _ => Cert.MlaIn.Gen.frame m g, fun m g _ => Cert.MlaInIdeal.Gen.frame m g, mla_in_reference_frame,
  fun m g _ => Cert.Modulation.Gen.frame m g, fun m g _ => Cert.ModulationIdeal.Gen.frame m g, modulation_reference_frame,
  trivial, attention_value, trivial, ffn_value, trivial, pre_value, trivial, final_value, trivial, gated_value,
  trivial, ret_in_value,
  IdealRules.named_const.statement Cert.MlaInIdeal.κ "score_scale" .f32 0x3DD53B95#32 (((Real.sqrt 192)⁻¹ * (Real.log 2)⁻¹ : ℝ) : EReal) rfl,
  mla_in_value, trivial, modulation_value⟩

end Cert.Proof

end
